-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_in_range : Cert.Pre_in_range.Facts] (m : (ℓ : Loc Cert.Kernel3.nD Cert.Kernel3.τ Cert.Kernel3.sig) → Buf (Elt Bits) ℓ) : Prop :=
  ∀ c : Dev Cert.Kernel3.nD,
    (Cert.Pre_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_in_range : Cert.Pre_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal [hPre_in_range : Cert.Pre_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_in_range : Cert.Pre_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] [hPre_in_range : Cert.Pre_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "qscale" .f32 0x3E0293EE#32 ((((Real.log 2) * (Real.sqrt 128))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)) (v6 : (c : Dev Cert.Kernel2Ideal.nD) → Buf (Elt Ideal) ((c.tc : Thread Cert.Kernel2Ideal.nD Cert.Kernel2Ideal.τ).loc Cert.Kernel2Ideal.main_v18_6)) (v7 : (c : Dev Cert.Kernel2Ideal.nD) → Buf (Elt Ideal) ((c.tc : Thread Cert.Kernel2Ideal.nD Cert.Kernel2Ideal.τ).loc Cert.Kernel2Ideal.main_v18_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_v18_6) = v6 c
          ∧ r.2.mem ((c.tc : Thread Cert.Kernel2Ideal.nD Cert.Kernel2Ideal.τ).loc Cert.Kernel2Ideal.main_v18_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v38) = v3 c
          ∧ r.2.mem ((c.tc : Thread Cert.Reference2Ideal.nD Cert.Reference2Ideal.τ).loc Cert.Reference2Ideal.main_v39) = v4 c
          ∧ r.2.mem ((c.tc : Thread Cert.Reference2Ideal.nD Cert.Reference2Ideal.τ).loc Cert.Reference2Ideal.main_v26) = v5 c
          ∧ r.2.mem ((c.tc : Thread Cert.Reference2Ideal.nD Cert.Reference2Ideal.τ).loc Cert.Reference2Ideal.main_v27) = v6 c
          ∧ r.2.mem ((c.tc : Thread Cert.Reference2Ideal.nD Cert.Reference2Ideal.τ).loc Cert.Reference2Ideal.main_v36) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_in_range : Cert.Pre_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v50_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "qscale" .f32 0x3E0293EE#32 ((((Real.log 2) * (Real.sqrt 128))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)) (v5 : (c : Dev Cert.Kernel5Ideal.nD) → Buf (Elt Ideal) ((c.tc : Thread Cert.Kernel5Ideal.nD Cert.Kernel5Ideal.τ).loc Cert.Kernel5Ideal.main_v18_5)) (v6 : (c : Dev Cert.Kernel5Ideal.nD) → Buf (Elt Ideal) ((c.tc : Thread Cert.Kernel5Ideal.nD Cert.Kernel5Ideal.τ).loc Cert.Kernel5Ideal.main_v18_6)) (v7 : (c : Dev Cert.Kernel5Ideal.nD) → Buf (Elt Ideal) ((c.tc : Thread Cert.Kernel5Ideal.nD Cert.Kernel5Ideal.τ).loc Cert.Kernel5Ideal.main_v18_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_v18_5) = v5 c
          ∧ r.2.mem ((c.tc : Thread Cert.Kernel5Ideal.nD Cert.Kernel5Ideal.τ).loc Cert.Kernel5Ideal.main_v18_6) = v6 c
          ∧ r.2.mem ((c.tc : Thread Cert.Kernel5Ideal.nD Cert.Kernel5Ideal.τ).loc Cert.Kernel5Ideal.main_v18_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v24) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v39) = v4 c
          ∧ r.2.mem ((c.tc : Thread Cert.Reference5Ideal.nD Cert.Reference5Ideal.τ).loc Cert.Reference5Ideal.main_v26) = v5 c
          ∧ r.2.mem ((c.tc : Thread Cert.Reference5Ideal.nD Cert.Reference5Ideal.τ).loc Cert.Reference5Ideal.main_v27) = v6 c
          ∧ r.2.mem ((c.tc : Thread Cert.Reference5Ideal.nD Cert.Reference5Ideal.τ).loc Cert.Reference5Ideal.main_v36) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_in_range := hPre_in_range)
    ∧ quiescent_Kernel3Ideal (hKernel3Ideal := hKernel3Ideal) (hPre_in_range := hPre_in_range)
    ∧ quiescent_Reference3Ideal (hReference3Ideal := hReference3Ideal) (hPre_in_range := hPre_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_in_range := hPre_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16x4096x1024 : Shape := ⟨3, ![16, 4096, 1024]⟩
abbrev S16x4096x8 : Shape := ⟨3, ![16, 4096, 8]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x4096x8 : S_.BroadcastsInDim S16x4096x8 (![] : Fin 0 → Fin S16x4096x8.rank)
  reducesTo_S16x4096x8_S_d0_1_2 : S16x4096x8.ReducesTo [0, 1, 2] S_

variable [Facts]

def fn {F : FTy → Type} [FloatOps F] (main_arg0 : FVec F S16x4096x1024 .f32) (main_arg1 : FVec F S16x4096x1024 .f32) (main_arg2 : FVec F S16x4096x1024 .f32) (main_arg3 : FVec F S16x4096x8 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x4096x8 .f32 := Host.absf main_arg3
  let main_cst_2 : FVec F S_ .f32 := constant S_ .f32 0x7F800000#32
  let main_v10 : FVec F S16x4096x8 .f32 := broadcastInDim S16x4096x8 ![] bcast_S_S16x4096x8 main_cst_2
  let main_v11 : IVec S16x4096x8 1 := cmpf .olt main_v9 main_v10
  let main_c_3 : IVec S_ 1 := constantI S_ 1 1#1
  let main_v12 : IVec S_ 1 := (fun x v => Host.reduce IntOp.andi x v reducesTo_S16x4096x8_S_d0_1_2 h_S_) main_v11 main_c_3
  let main_v13 : IVec S_ 1 := andi main_v8 main_v12
  main_v13
-- ==== Pre_in_range.lean ====
abbrev S544 : Shape := ⟨1, ![544]⟩
abbrev S1 : Shape := ⟨1, ![1]⟩
abbrev S544x512x1024 : Shape := ⟨3, ![544, 512, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : IVec S1 32) (main_arg2 : FVec F S544x512x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Kernel.lean ====
abbrev S16x4096x1024 : Shape := ⟨3, ![16, 4096, 1024]⟩
abbrev S16x4096x8 : Shape := ⟨3, ![16, 4096, 8]⟩
abbrev S_ : Shape := ⟨0, ![]⟩
abbrev S16x4096x8x1 : Shape := ⟨4, ![16, 4096, 8, 1]⟩
abbrev S16x4096x8x3 : Shape := ⟨4, ![16, 4096, 8, 3]⟩
abbrev S16x4096x8x122 : Shape := ⟨4, ![16, 4096, 8, 122]⟩
abbrev S16x4096x8x128 : Shape := ⟨4, ![16, 4096, 8, 128]⟩
abbrev S1x512x512 : Shape := ⟨3, ![1, 512, 512]⟩
abbrev S1x4096x512 : Shape := ⟨3, ![1, 4096, 512]⟩
abbrev S4x512x128 : Shape := ⟨3, ![4, 512, 128]⟩
abbrev S4x512x256 : Shape := ⟨3, ![4, 512, 256]⟩
abbrev S512x128 : Shape := ⟨2, ![512, 128]⟩
abbrev S1x512x128 : Shape := ⟨3, ![1, 512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 40
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x1024, .f32⟩
  | .hbm, ⟨3, _⟩ => ⟨S16x4096x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x4096x8, .f32⟩
  | .hbm, ⟨12, _⟩ => ⟨S16x4096x8, .f32⟩
  | .hbm, ⟨13, _⟩ => ⟨S16x4096x8, .bf16⟩
  | .hbm, ⟨14, _⟩ => ⟨S16x4096x8, .f32⟩
  | .hbm, ⟨15, _⟩ => ⟨S16x4096x8, .f32⟩
  | .hbm, ⟨16, _⟩ => ⟨S16x4096x8, .bf16⟩
  | .hbm, ⟨17, _⟩ => ⟨S16x4096x8, .f32⟩
  | .hbm, ⟨18, _⟩ => ⟨S16x4096x8, .f32⟩
  | .hbm, ⟨19, _⟩ => ⟨S16x4096x8, .bf16⟩
  | .hbm, ⟨20, _⟩ => ⟨S16x4096x8x1, .bf16⟩
  | .hbm, ⟨21, _⟩ => ⟨S16x4096x8x1, .bf16⟩
  | .hbm, ⟨22, _⟩ => ⟨S16x4096x8x1, .bf16⟩
  | .hbm, ⟨23, _⟩ => ⟨S_, .bf16⟩
  | .hbm, ⟨24, _⟩ => ⟨S16x4096x8x3, .bf16⟩
  | .hbm, ⟨25, _⟩ => ⟨S_, .bf16⟩
  | .hbm, ⟨26, _⟩ => ⟨S16x4096x8x122, .bf16⟩
  | .hbm, ⟨27, _⟩ => ⟨S16x4096x8x128, .bf16⟩
  | .hbm, ⟨28, _⟩ => ⟨S16x4096x1024, .bf16⟩
  | .hbm, ⟨29, _⟩ => ⟨S16x4096x8x1, .bf16⟩
  | .hbm, ⟨30, _⟩ => ⟨S16x4096x8x1, .bf16⟩
  | .hbm, ⟨31, _⟩ => ⟨S16x4096x8x1, .bf16⟩
  | .hbm, ⟨32, _⟩ => ⟨S16x4096x8x128, .bf16⟩
  | .hbm, ⟨33, _⟩ => ⟨S16x4096x1024, .bf16⟩
  | .hbm, ⟨34, _⟩ => ⟨S16x4096x1024, .f32⟩
  | .hbm, ⟨35, _⟩ => ⟨S16x4096x1024, .f32⟩
  | .hbm, ⟨36, _⟩ => ⟨S16x4096x1024, .bf16⟩
  | .hbm, ⟨37, _⟩ => ⟨S16x4096x1024, .bf16⟩
  | .hbm, ⟨38, _⟩ => ⟨S16x4096x1024, .bf16⟩
  | .hbm, ⟨39, _⟩ => ⟨S16x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x4096x512, .bf16⟩
  | .local _ .vmem, ⟨10, _⟩ => ⟨S1x512x512, .bf16⟩
  | .local _ .vmem, ⟨11, _⟩ => ⟨S1x512x512, .bf16⟩
  | .local _ .vmem, ⟨12, _⟩ => ⟨S4x512x128, .f32⟩
  | .local _ .vmem, ⟨13, _⟩ => ⟨S4x512x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

@[reducible] def k0_t1_loop (i : grid0.Coords) : Scf.Loop 32 :=
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_35 : BitVec 32 := 1#32
  ⟨c0_i32_33, v50, c1_i32_35⟩
def k0_mult1 (i : grid0.Coords) (k0_t1 : Fin (k0_t1_loop i).trips) : BitVec 32 :=
  let c2_i32_74 : BitVec 32 := 2#32
  let c0_i32_33 : BitVec 32 := 0#32
  let c1_i32_35 : BitVec 32 := 1#32
  let arg11 : BitVec 32 := Scf.iv c0_i32_33 c1_i32_35 k0_t1
  let v96 : BitVec 32 := Scalar.muli c2_i32_74 arg11
  let c512_i32 : BitVec 32 := 512#32
  let v97 : BitVec 32 := Scalar.muli v96 c512_i32
  v97
def k0_off1 (i : grid0.Coords) (k0_t1 : Fin (k0_t1_loop i).trips) : Fin 3 → Nat :=
  let c0_75 : Index := 0#32
  let c2_i32_74 : BitVec 32 := 2#32
  let c0_i32_33 : BitVec 32 := 0#32
  let c1_i32_35 : BitVec 32 := 1#32
  let arg11 : BitVec 32 := Scf.iv c0_i32_33 c1_i32_35 k0_t1
  let v96 : BitVec 32 := Scalar.muli c2_i32_74 arg11
  let c512_i32 : BitVec 32 := 512#32
  let v97 : BitVec 32 := Scalar.muli v96 c512_i32
  let v98 : BitVec 32 := v97
  let v99 : Index := Scalar.indexCast v98
  let c0_76 : Index := 0#32
  ![0, v99.toNat, 0]
def k0_off2 (i : grid0.Coords) (k0_t1 : Fin (k0_t1_loop i).trips) : Fin 3 → Nat :=
  let c0_102 : Index := 0#32
  let c2_i32_74 : BitVec 32 := 2#32
  let c0_i32_33 : BitVec 32 := 0#32
  let c1_i32_35 : BitVec 32 := 1#32
  let arg11 : BitVec 32 := Scf.iv c0_i32_33 c1_i32_35 k0_t1
  let v96 : BitVec 32 := Scalar.muli c2_i32_74 arg11
  let c512_i32 : BitVec 32 := 512#32
  let v97 : BitVec 32 := Scalar.muli v96 c512_i32
  let v98 : BitVec 32 := v97
  let v156 : Index := Scalar.indexCast v98
  let c128_103 : Index := 128#32
  ![0, v156.toNat, 128]
def k0_off3 (i : grid0.Coords) (k0_t1 : Fin (k0_t1_loop i).trips) : Fin 3 → Nat :=
  let c0_129 : Index := 0#32
  let c2_i32_74 : BitVec 32 := 2#32
  let c0_i32_33 : BitVec 32 := 0#32
  let c1_i32_35 : BitVec 32 := 1#32
  let arg11 : BitVec 32 := Scf.iv c0_i32_33 c1_i32_35 k0_t1
  let v96 : BitVec 32 := Scalar.muli c2_i32_74 arg11
  let c512_i32 : BitVec 32 := 512#32
  let v97 : BitVec 32 := Scalar.muli v96 c512_i32
  let v98 : BitVec 32 := v97
  let v213 : Index := Scalar.indexCast v98
  let c256_130 : Index := 256#32
  ![0, v213.toNat, 256]
def k0_off4 (i : grid0.Coords) (k0_t1 : Fin (k0_t1_loop i).trips) : Fin 3 → Nat :=
  let c0_156 : Index := 0#32
  let c2_i32_74 : BitVec 32 := 2#32
  let c0_i32_33 : BitVec 32 := 0#32
  let c1_i32_35 : BitVec 32 := 1#32
  let arg11 : BitVec 32 := Scf.iv c0_i32_33 c1_i32_35 k0_t1
  let v96 : BitVec 32 := Scalar.muli c2_i32_74 arg11
  let c512_i32 : BitVec 32 := 512#32
  let v97 : BitVec 32 := Scalar.muli v96 c512_i32
  let v98 : BitVec 32 := v97
  let v270 : Index := Scalar.indexCast v98
  let c384_157 : Index := 384#32
  ![0, v270.toNat, 384]
def k0_mult2 (i : grid0.Coords) (k0_t1 : Fin (k0_t1_loop i).trips) : BitVec 32 :=
  let c2_i32_183 : BitVec 32 := 2#32
  let c0_i32_33 : BitVec 32 := 0#32
  let c1_i32_35 : BitVec 32 := 1#32
  let arg11 : BitVec 32 := Scf.iv c0_i32_33 c1_i32_35 k0_t1
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  v329
def k0_off5 (i : grid0.Coords) (k0_t1 : Fin (k0_t1_loop i).trips) : Fin 3 → Nat :=
  let c0_186 : Index := 0#32
  let c2_i32_183 : BitVec 32 := 2#32
  let c0_i32_33 : BitVec 32 := 0#32
  let c1_i32_35 : BitVec 32 := 1#32
  let arg11 : BitVec 32 := Scf.iv c0_i32_33 c1_i32_35 k0_t1
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v331 : Index := Scalar.indexCast v330
  let c0_187 : Index := 0#32
  ![0, v331.toNat, 0]
def k0_off6 (i : grid0.Coords) (k0_t1 : Fin (k0_t1_loop i).trips) : Fin 3 → Nat :=
  let c0_213 : Index := 0#32
  let c2_i32_183 : BitVec 32 := 2#32
  let c0_i32_33 : BitVec 32 := 0#32
  let c1_i32_35 : BitVec 32 := 1#32
  let arg11 : BitVec 32 := Scf.iv c0_i32_33 c1_i32_35 k0_t1
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v388 : Index := Scalar.indexCast v330
  let c128_214 : Index := 128#32
  ![0, v388.toNat, 128]
def k0_off7 (i : grid0.Coords) (k0_t1 : Fin (k0_t1_loop i).trips) : Fin 3 → Nat :=
  let c0_240 : Index := 0#32
  let c2_i32_183 : BitVec 32 := 2#32
  let c0_i32_33 : BitVec 32 := 0#32
  let c1_i32_35 : BitVec 32 := 1#32
  let arg11 : BitVec 32 := Scf.iv c0_i32_33 c1_i32_35 k0_t1
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v445 : Index := Scalar.indexCast v330
  let c256_241 : Index := 256#32
  ![0, v445.toNat, 256]
def k0_off8 (i : grid0.Coords) (k0_t1 : Fin (k0_t1_loop i).trips) : Fin 3 → Nat :=
  let c0_267 : Index := 0#32
  let c2_i32_183 : BitVec 32 := 2#32
  let c0_i32_33 : BitVec 32 := 0#32
  let c1_i32_35 : BitVec 32 := 1#32
  let arg11 : BitVec 32 := Scf.iv c0_i32_33 c1_i32_35 k0_t1
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v502 : Index := Scalar.indexCast v330
  let c384_268 : Index := 384#32
  ![0, v502.toNat, 384]
@[reducible] def k0_t2_loop (i : grid0.Coords) : Scf.Loop 32 :=
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let v47 : BitVec 32 := Scalar.addi c0_i32_33 v46
  let c1_i32_36 : BitVec 32 := 1#32
  ⟨v50, v47, c1_i32_36⟩
def k0_mult3 (i : grid0.Coords) (k0_t2 : Fin (k0_t2_loop i).trips) : BitVec 32 :=
  let c2_i32_74 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v96 : BitVec 32 := Scalar.muli c2_i32_74 arg11
  let c512_i32 : BitVec 32 := 512#32
  let v97 : BitVec 32 := Scalar.muli v96 c512_i32
  v97
def k0_off9 (i : grid0.Coords) (k0_t2 : Fin (k0_t2_loop i).trips) : Fin 3 → Nat :=
  let c0_75 : Index := 0#32
  let c2_i32_74 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v96 : BitVec 32 := Scalar.muli c2_i32_74 arg11
  let c512_i32 : BitVec 32 := 512#32
  let v97 : BitVec 32 := Scalar.muli v96 c512_i32
  let v98 : BitVec 32 := v97
  let v99 : Index := Scalar.indexCast v98
  let c0_76 : Index := 0#32
  ![0, v99.toNat, 0]
def k0_off10 (i : grid0.Coords) (k0_t2 : Fin (k0_t2_loop i).trips) : Fin 3 → Nat :=
  let c0_102 : Index := 0#32
  let c2_i32_74 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v96 : BitVec 32 := Scalar.muli c2_i32_74 arg11
  let c512_i32 : BitVec 32 := 512#32
  let v97 : BitVec 32 := Scalar.muli v96 c512_i32
  let v98 : BitVec 32 := v97
  let v156 : Index := Scalar.indexCast v98
  let c128_103 : Index := 128#32
  ![0, v156.toNat, 128]
def k0_off11 (i : grid0.Coords) (k0_t2 : Fin (k0_t2_loop i).trips) : Fin 3 → Nat :=
  let c0_129 : Index := 0#32
  let c2_i32_74 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v96 : BitVec 32 := Scalar.muli c2_i32_74 arg11
  let c512_i32 : BitVec 32 := 512#32
  let v97 : BitVec 32 := Scalar.muli v96 c512_i32
  let v98 : BitVec 32 := v97
  let v213 : Index := Scalar.indexCast v98
  let c256_130 : Index := 256#32
  ![0, v213.toNat, 256]
def k0_off12 (i : grid0.Coords) (k0_t2 : Fin (k0_t2_loop i).trips) : Fin 3 → Nat :=
  let c0_156 : Index := 0#32
  let c2_i32_74 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v96 : BitVec 32 := Scalar.muli c2_i32_74 arg11
  let c512_i32 : BitVec 32 := 512#32
  let v97 : BitVec 32 := Scalar.muli v96 c512_i32
  let v98 : BitVec 32 := v97
  let v270 : Index := Scalar.indexCast v98
  let c384_157 : Index := 384#32
  ![0, v270.toNat, 384]
def k0_mult4 (i : grid0.Coords) (k0_t2 : Fin (k0_t2_loop i).trips) : BitVec 32 :=
  let c2_i32_183 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  v329
def k0_off13 (i : grid0.Coords) (k0_t2 : Fin (k0_t2_loop i).trips) : Fin 3 → Nat :=
  let c0_186 : Index := 0#32
  let c2_i32_183 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v331 : Index := Scalar.indexCast v330
  let c0_187 : Index := 0#32
  ![0, v331.toNat, 0]
def k0_off14 (i : grid0.Coords) (k0_t2 : Fin (k0_t2_loop i).trips) : Fin 3 → Nat :=
  let c0_213 : Index := 0#32
  let c2_i32_183 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v388 : Index := Scalar.indexCast v330
  let c128_214 : Index := 128#32
  ![0, v388.toNat, 128]
def k0_off15 (i : grid0.Coords) (k0_t2 : Fin (k0_t2_loop i).trips) : Fin 3 → Nat :=
  let c0_240 : Index := 0#32
  let c2_i32_183 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v445 : Index := Scalar.indexCast v330
  let c256_241 : Index := 256#32
  ![0, v445.toNat, 256]
def k0_off16 (i : grid0.Coords) (k0_t2 : Fin (k0_t2_loop i).trips) : Fin 3 → Nat :=
  let c0_267 : Index := 0#32
  let c2_i32_183 : BitVec 32 := 2#32
  let c0_i32_33 : BitVec 32 := 0#32
  let arg2 : BitVec 32 := BitVec.ofNat 32 (i 2).val
  let c0_i32 : BitVec 32 := 0#32
  let v30 : BitVec 1 := Scalar.cmpi .sgt arg2 c0_i32
  let v31 : BitVec 32 := Scalar.extui v30
  let c0_i32_28 : BitVec 32 := 0#32
  let v32 : BitVec 1 := Scalar.cmpi .slt arg2 c0_i32_28
  let v33 : BitVec 32 := Scalar.extui v32
  let v34 : BitVec 32 := Scalar.subi v31 v33
  let c2_i32 : BitVec 32 := 2#32
  let c0_i32_29 : BitVec 32 := 0#32
  let v35 : BitVec 1 := Scalar.cmpi .sgt c2_i32 c0_i32_29
  let v36 : BitVec 32 := Scalar.extui v35
  let c0_i32_30 : BitVec 32 := 0#32
  let v37 : BitVec 1 := Scalar.cmpi .slt c2_i32 c0_i32_30
  let v38 : BitVec 32 := Scalar.extui v37
  let v39 : BitVec 32 := Scalar.subi v36 v38
  let v40 : BitVec 1 := Scalar.cmpi .ne v34 v39
  let v41 : BitVec 32 := Scalar.remsi arg2 c2_i32
  let c0_i32_31 : BitVec 32 := 0#32
  let v42 : BitVec 1 := Scalar.cmpi .ne v41 c0_i32_31
  let v43 : BitVec 1 := Scalar.andi v40 v42
  let v29 : BitVec 32 := Scalar.divsi arg2 c2_i32
  let c1_i32 : BitVec 32 := 1#32
  let v44 : BitVec 32 := Scalar.subi v29 c1_i32
  let v45 : BitVec 32 := Scalar.select v43 v44 v29
  let v46 : BitVec 32 := Scalar.subi v45 c0_i32_33
  let c1_i32_34 : BitVec 32 := 1#32
  let v48 : BitVec 32 := Scalar.divsi v46 c1_i32_34
  let v49 : BitVec 32 := Scalar.muli v48 c1_i32_34
  let v50 : BitVec 32 := Scalar.addi c0_i32_33 v49
  let c1_i32_36 : BitVec 32 := 1#32
  let arg11 : BitVec 32 := Scf.iv v50 c1_i32_36 k0_t2
  let v327 : BitVec 32 := Scalar.muli c2_i32_183 arg11
  let c1_i32_184 : BitVec 32 := 1#32
  let v328 : BitVec 32 := Scalar.addi v327 c1_i32_184
  let c512_i32_185 : BitVec 32 := 512#32
  let v329 : BitVec 32 := Scalar.muli v328 c512_i32_185
  let v330 : BitVec 32 := v329
  let v502 : Index := Scalar.indexCast v330
  let c384_268 : Index := 384#32
  ![0, v502.toNat, 384]
def k0_cond1 (i : grid0.Coords) : BitVec 1 :=
  let arg2 : BitVec 32 := BitVec.ofNat 32 (i 2).val
  let c2_i32_37 : BitVec 32 := 2#32
  let v53 : BitVec 32 := Scalar.remsi arg2 c2_i32_37
  let c1_i32_38 : BitVec 32 := 1#32
  let v54 : BitVec 1 := Scalar.cmpi .eq v53 c1_i32_38
  let v55 : BitVec 32 := Scalar.extui v54
  let c0_i32_39 : BitVec 32 := 0#32
  let v56 : BitVec 1 := Scalar.cmpi .ne v55 c0_i32_39
  v56

def k0_mult5 (i : grid0.Coords) : BitVec 32 :=
  let arg2 : BitVec 32 := BitVec.ofNat 32 (i 2).val
  let c1_i32_74 : BitVec 32 := 1#32
  let v96 : BitVec 32 := Scalar.subi arg2 c1_i32_74
  let c512_i32 : BitVec 32 := 512#32
  let v97 : BitVec 32 := Scalar.muli v96 c512_i32
  v97
def k0_off17 (i : grid0.Coords) : Fin 3 → Nat :=
  let c0_75 : Index := 0#32
  let arg2 : BitVec 32 := BitVec.ofNat 32 (i 2).val
  let c1_i32_74 : BitVec 32 := 1#32
  let v96 : BitVec 32 := Scalar.subi arg2 c1_i32_74
  let c512_i32 : BitVec 32 := 512#32
  let v97 : BitVec 32 := Scalar.muli v96 c512_i32
  let v98 : BitVec 32 := v97
  let v99 : Index := Scalar.indexCast v98
  let c0_76 : Index := 0#32
  ![0, v99.toNat, 0]
def k0_off18 (i : grid0.Coords) : Fin 3 → Nat :=
  let c0_102 : Index := 0#32
  let arg2 : BitVec 32 := BitVec.ofNat 32 (i 2).val
  let c1_i32_74 : BitVec 32 := 1#32
  let v96 : BitVec 32 := Scalar.subi arg2 c1_i32_74
  let c512_i32 : BitVec 32 := 512#32
  let v97 : BitVec 32 := Scalar.muli v96 c512_i32
  let v98 : BitVec 32 := v97
  let v156 : Index := Scalar.indexCast v98
  let c128_103 : Index := 128#32
  ![0, v156.toNat, 128]
def k0_off19 (i : grid0.Coords) : Fin 3 → Nat :=
  let c0_129 : Index := 0#32
  let arg2 : BitVec 32 := BitVec.ofNat 32 (i 2).val
  let c1_i32_74 : BitVec 32 := 1#32
  let v96 : BitVec 32 := Scalar.subi arg2 c1_i32_74
  let c512_i32 : BitVec 32 := 512#32
  let v97 : BitVec 32 := Scalar.muli v96 c512_i32
  let v98 : BitVec 32 := v97
  let v213 : Index := Scalar.indexCast v98
  let c256_130 : Index := 256#32
  ![0, v213.toNat, 256]
def k0_off20 (i : grid0.Coords) : Fin 3 → Nat :=
  let c0_156 : Index := 0#32
  let arg2 : BitVec 32 := BitVec.ofNat 32 (i 2).val
  let c1_i32_74 : BitVec 32 := 1#32
  let v96 : BitVec 32 := Scalar.subi arg2 c1_i32_74
  let c512_i32 : BitVec 32 := 512#32
  let v97 : BitVec 32 := Scalar.muli v96 c512_i32
  let v98 : BitVec 32 := v97
  let v270 : Index := Scalar.indexCast v98
  let c384_157 : Index := 384#32
  ![0, v270.toNat, 384]
def k0_mult6 (i : grid0.Coords) : BitVec 32 :=
  let arg2 : BitVec 32 := BitVec.ofNat 32 (i 2).val
  let c512_i32_183 : BitVec 32 := 512#32
  let v328 : BitVec 32 := Scalar.muli arg2 c512_i32_183
  v328
def k0_off21 (i : grid0.Coords) : Fin 3 → Nat :=
  let c0_184 : Index := 0#32
  let arg2 : BitVec 32 := BitVec.ofNat 32 (i 2).val
  let c512_i32_183 : BitVec 32 := 512#32
  let v328 : BitVec 32 := Scalar.muli arg2 c512_i32_183
  let v329 : BitVec 32 := v328
  let v330 : Index := Scalar.indexCast v329
  let c0_185 : Index := 0#32
  ![0, v330.toNat, 0]
def k0_off22 (i : grid0.Coords) : Fin 3 → Nat :=
  let c0_212 : Index := 0#32
  let arg2 : BitVec 32 := BitVec.ofNat 32 (i 2).val
  let c512_i32_183 : BitVec 32 := 512#32
  let v328 : BitVec 32 := Scalar.muli arg2 c512_i32_183
  let v329 : BitVec 32 := v328
  let v389 : Index := Scalar.indexCast v329
  let c128_213 : Index := 128#32
  ![0, v389.toNat, 128]
def k0_off23 (i : grid0.Coords) : Fin 3 → Nat :=
  let c0_240 : Index := 0#32
  let arg2 : BitVec 32 := BitVec.ofNat 32 (i 2).val
  let c512_i32_183 : BitVec 32 := 512#32
  let v328 : BitVec 32 := Scalar.muli arg2 c512_i32_183
  let v329 : BitVec 32 := v328
  let v448 : Index := Scalar.indexCast v329
  let c256_241 : Index := 256#32
  ![0, v448.toNat, 256]
def k0_off24 (i : grid0.Coords) : Fin 3 → Nat :=
  let c0_268 : Index := 0#32
  let arg2 : BitVec 32 := BitVec.ofNat 32 (i 2).val
  let c512_i32_183 : BitVec 32 := 512#32
  let v328 : BitVec 32 := Scalar.muli arg2 c512_i32_183
  let v329 : BitVec 32 := v328
  let v507 : Index := Scalar.indexCast v329
  let c384_269 : Index := 384#32
  ![0, v507.toNat, 384]
def k0_cond2 (i : grid0.Coords) : BitVec 1 :=
  let arg2 : BitVec 32 := BitVec.ofNat 32 (i 2).val
  let c2_i32_37 : BitVec 32 := 2#32
  let v53 : BitVec 32 := Scalar.remsi arg2 c2_i32_37
  let c1_i32_38 : BitVec 32 := 1#32
  let v54 : BitVec 1 := Scalar.cmpi .eq v53 c1_i32_38
  let v_true : BitVec 1 := 1#1
  let v57 : BitVec 1 := Scalar.xori v54 v_true
  let v58 : BitVec 32 := Scalar.extui v57
  let c0_i32_40 : BitVec 32 := 0#32
  let v59 : BitVec 1 := Scalar.cmpi .ne v58 c0_i32_40
  v59

def k0_mult7 (i : grid0.Coords) : BitVec 32 :=
  let arg2 : BitVec 32 := BitVec.ofNat 32 (i 2).val
  let c512_i32 : BitVec 32 := 512#32
  let v97 : BitVec 32 := Scalar.muli arg2 c512_i32
  v97
def k0_off25 (i : grid0.Coords) : Fin 3 → Nat :=
  let c0_74 : Index := 0#32
  let arg2 : BitVec 32 := BitVec.ofNat 32 (i 2).val
  let c512_i32 : BitVec 32 := 512#32
  let v97 : BitVec 32 := Scalar.muli arg2 c512_i32
  let v98 : BitVec 32 := v97
  let v99 : Index := Scalar.indexCast v98
  let c0_75 : Index := 0#32
  ![0, v99.toNat, 0]
def k0_off26 (i : grid0.Coords) : Fin 3 → Nat :=
  let c0_102 : Index := 0#32
  let arg2 : BitVec 32 := BitVec.ofNat 32 (i 2).val
  let c512_i32 : BitVec 32 := 512#32
  let v97 : BitVec 32 := Scalar.muli arg2 c512_i32
  let v98 : BitVec 32 := v97
  let v158 : Index := Scalar.indexCast v98
  let c128_103 : Index := 128#32
  ![0, v158.toNat, 128]
def k0_off27 (i : grid0.Coords) : Fin 3 → Nat :=
  let c0_130 : Index := 0#32
  let arg2 : BitVec 32 := BitVec.ofNat 32 (i 2).val
  let c512_i32 : BitVec 32 := 512#32
  let v97 : BitVec 32 := Scalar.muli arg2 c512_i32
  let v98 : BitVec 32 := v97
  let v217 : Index := Scalar.indexCast v98
  let c256_131 : Index := 256#32
  ![0, v217.toNat, 256]
def k0_off28 (i : grid0.Coords) : Fin 3 → Nat :=
  let c0_158 : Index := 0#32
  let arg2 : BitVec 32 := BitVec.ofNat 32 (i 2).val
  let c512_i32 : BitVec 32 := 512#32
  let v97 : BitVec 32 := Scalar.muli arg2 c512_i32
  let v98 : BitVec 32 := v97
  let v276 : Index := Scalar.indexCast v98
  let c384_159 : Index := 384#32
  ![0, v276.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x4096x1024 : Shape := ⟨3, ![16, 4096, 1024]⟩
abbrev S16x4096x8 : Shape := ⟨3, ![16, 4096, 8]⟩
abbrev S16x4096x8x128 : Shape := ⟨4, ![16, 4096, 8, 128]⟩
abbrev S_ : Shape := ⟨0, ![]⟩
abbrev S4096 : Shape := ⟨1, ![4096]⟩
abbrev S16x8x4096 : Shape := ⟨3, ![16, 8, 4096]⟩
abbrev S16x8x4096x4096 : Shape := ⟨4, ![16, 8, 4096, 4096]⟩
abbrev S16x8x4096x1 : Shape := ⟨4, ![16, 8, 4096, 1]⟩
abbrev S16x8x1x4096 : Shape := ⟨4, ![16, 8, 1, 4096]⟩
abbrev S1x4096 : Shape := ⟨2, ![1, 4096]⟩
abbrev S4096x1 : Shape := ⟨2, ![4096, 1]⟩
abbrev S4096x4096 : Shape := ⟨2, ![4096, 4096]⟩
abbrev S16x8x128x4096 : Shape := ⟨4, ![16, 8, 128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x4096x1024, .f32⟩
  | .hbm, ⟨3, _⟩ => ⟨S16x4096x8, .f32⟩
  | .hbm, ⟨4, _⟩ => ⟨S16x4096x8x128, .f32⟩
  | .hbm, ⟨5, _⟩ => ⟨S16x4096x8x128, .f32⟩
  | .hbm, ⟨6, _⟩ => ⟨S16x4096x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .i32⟩
  | .hbm, ⟨12, _⟩ => ⟨S16x8x4096, .f32⟩
  | .hbm, ⟨13, _⟩ => ⟨S16x8x4096x4096, .f32⟩
  | .hbm, ⟨14, _⟩ => ⟨S16x8x4096x4096, .f32⟩
  | .hbm, ⟨15, _⟩ => ⟨S16x8x4096x4096, .f32⟩
  | .hbm, ⟨16, _⟩ => ⟨S16x8x4096x1, .f32⟩
  | .hbm, ⟨17, _⟩ => ⟨S16x8x4096x4096, .f32⟩
  | .hbm, ⟨18, _⟩ => ⟨S16x8x4096x4096, .f32⟩
  | .hbm, ⟨19, _⟩ => ⟨S16x8x1x4096, .f32⟩
  | .hbm, ⟨20, _⟩ => ⟨S16x8x4096x4096, .f32⟩
  | .hbm, ⟨21, _⟩ => ⟨S16x8x4096x4096, .f32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S16x8x4096x4096, .i1⟩
  | .hbm, ⟨30, _⟩ => ⟨S16x8x4096x4096, .f32⟩
  | .hbm, ⟨31, _⟩ => ⟨S16x8x4096x4096, .f32⟩
  | .hbm, ⟨32, _⟩ => ⟨S_, .f32⟩
  | .hbm, ⟨33, _⟩ => ⟨S16x8x4096, .f32⟩
  | .hbm, ⟨34, _⟩ => ⟨S_, .f32⟩
  | .hbm, ⟨35, _⟩ => ⟨S16x8x4096, .f32⟩
  | .hbm, ⟨36, _⟩ => ⟨S16x8x4096, .f32⟩
  | .hbm, ⟨37, _⟩ => ⟨S16x8x4096x1, .f32⟩
  | .hbm, ⟨38, _⟩ => ⟨S16x8x4096x4096, .f32⟩
  | .hbm, ⟨39, _⟩ => ⟨S16x8x4096x4096, .f32⟩
  | .hbm, ⟨40, _⟩ => ⟨S16x8x4096x4096, .f32⟩
  | .hbm, ⟨41, _⟩ => ⟨S_, .f32⟩
  | .hbm, ⟨42, _⟩ => ⟨S16x8x4096, .f32⟩
  | .hbm, ⟨43, _⟩ => ⟨S16x8x4096x1, .f32⟩
  | .hbm, ⟨44, _⟩ => ⟨S16x8x4096x4096, .f32⟩
  | .hbm, ⟨45, _⟩ => ⟨S16x8x4096x4096, .f32⟩
  | .hbm, ⟨46, _⟩ => ⟨S16x8x128x4096, .f32⟩
  | .hbm, ⟨47, _⟩ => ⟨S16x4096x8x128, .f32⟩
  | .hbm, ⟨48, _⟩ => ⟨S16x4096x1024, .f32⟩
  | .hbm, ⟨49, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel2.lean ====
abbrev S16x4096x1024 : Shape := ⟨3, ![16, 4096, 1024]⟩
abbrev S1024 : Shape := ⟨1, ![1024]⟩
abbrev S16x1024 : Shape := ⟨2, ![16, 1024]⟩
abbrev S1024x5656 : Shape := ⟨2, ![1024, 5656]⟩
abbrev S1024x8 : Shape := ⟨2, ![1024, 8]⟩
abbrev S1024x16 : Shape := ⟨2, ![1024, 16]⟩
abbrev S_ : Shape := ⟨0, ![]⟩
abbrev S1024x104 : Shape := ⟨2, ![1024, 104]⟩
abbrev S1024x128 : Shape := ⟨2, ![1024, 128]⟩
abbrev S1024x1024 : Shape := ⟨2, ![1024, 1024]⟩
abbrev S1024x1536 : Shape := ⟨2, ![1024, 1536]⟩
abbrev S1x1x1024 : Shape := ⟨3, ![1, 1, 1024]⟩
abbrev S16x1x1024 : Shape := ⟨3, ![16, 1, 1024]⟩
abbrev S16x4096x1536 : Shape := ⟨3, ![16, 4096, 1536]⟩
abbrev S16x4096x128 : Shape := ⟨3, ![16, 4096, 128]⟩
abbrev S1x512x1024 : Shape := ⟨3, ![1, 512, 1024]⟩
abbrev S1x512x1536 : Shape := ⟨3, ![1, 512, 1536]⟩
abbrev S1x512x128 : Shape := ⟨3, ![1, 512, 128]⟩
abbrev S1x512 : Shape := ⟨2, ![1, 512]⟩
abbrev S1x512x1 : Shape := ⟨3, ![1, 512, 1]⟩
abbrev S512x1024 : Shape := ⟨2, ![512, 1024]⟩
abbrev S512x1536 : Shape := ⟨2, ![512, 1536]⟩
abbrev S512x128 : Shape := ⟨2, ![512, 128]⟩

abbrev nBuf : Space → Nat
  | .hbm => 32
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x5656, .f32⟩
  | .hbm, ⟨5, _⟩ => ⟨S1024x8, .f32⟩
  | .hbm, ⟨6, _⟩ => ⟨S1024x16, .f32⟩
  | .hbm, ⟨7, _⟩ => ⟨S_, .f32⟩
  | .hbm, ⟨8, _⟩ => ⟨S1024x104, .f32⟩
  | .hbm, ⟨9, _⟩ => ⟨S1024x128, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1536, .f32⟩
  | .hbm, ⟨19, _⟩ => ⟨S1024x1536, .bf16⟩
  | .hbm, ⟨20, _⟩ => ⟨S1024x128, .bf16⟩
  | .hbm, ⟨21, _⟩ => ⟨S1x1x1024, .f32⟩
  | .hbm, ⟨22, _⟩ => ⟨S16x1x1024, .f32⟩
  | .hbm, ⟨23, _⟩ => ⟨S16x1x1024, .f32⟩
  | .hbm, ⟨24, _⟩ => ⟨S16x4096x1024, .bf16⟩
  | .hbm, ⟨25, _⟩ => ⟨S16x4096x1024, .f32⟩
  | .hbm, ⟨26, _⟩ => ⟨S16x4096x1024, .f32⟩
  | .hbm, ⟨27, _⟩ => ⟨S16x4096x1024, .bf16⟩
  | .hbm, ⟨28, _⟩ => ⟨S16x4096x1024, .bf16⟩
  | .hbm, ⟨29, _⟩ => ⟨S16x4096x1024, .f32⟩
  | .hbm, ⟨30, _⟩ => ⟨S16x4096x1536, .f32⟩
  | .hbm, ⟨31, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1536, .bf16⟩
  | .local _ .vmem, ⟨12, _⟩ => ⟨S1024x128, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1536, .f32⟩
  | .local _ .vmem, ⟨26, _⟩ => ⟨S1x512x1536, .f32⟩
  | .local _ .vmem, ⟨27, _⟩ => ⟨S1x512x128, .f32⟩
  | .local _ .vmem, ⟨28, _⟩ => ⟨S1x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev main_v18_6 : Ref sig .tc := ⟨.hbm, 30, rfl⟩
abbrev main_v18_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kernel2Ideal.lean ====
abbrev S16x4096x1024 : Shape := ⟨3, ![16, 4096, 1024]⟩
abbrev S1024 : Shape := ⟨1, ![1024]⟩
abbrev S16x1024 : Shape := ⟨2, ![16, 1024]⟩
abbrev S1024x5656 : Shape := ⟨2, ![1024, 5656]⟩
abbrev S1024x8 : Shape := ⟨2, ![1024, 8]⟩
abbrev S1024x16 : Shape := ⟨2, ![1024, 16]⟩
abbrev S_ : Shape := ⟨0, ![]⟩
abbrev S1024x104 : Shape := ⟨2, ![1024, 104]⟩
abbrev S1024x128 : Shape := ⟨2, ![1024, 128]⟩
abbrev S1024x1024 : Shape := ⟨2, ![1024, 1024]⟩
abbrev S1024x1536 : Shape := ⟨2, ![1024, 1536]⟩
abbrev S1x1x1024 : Shape := ⟨3, ![1, 1, 1024]⟩
abbrev S16x1x1024 : Shape := ⟨3, ![16, 1, 1024]⟩
abbrev S16x4096x1536 : Shape := ⟨3, ![16, 4096, 1536]⟩
abbrev S16x4096x128 : Shape := ⟨3, ![16, 4096, 128]⟩
abbrev S1x512x1024 : Shape := ⟨3, ![1, 512, 1024]⟩
abbrev S1x512x1536 : Shape := ⟨3, ![1, 512, 1536]⟩
abbrev S1x512x128 : Shape := ⟨3, ![1, 512, 128]⟩
abbrev S1x512 : Shape := ⟨2, ![1, 512]⟩
abbrev S1x512x1 : Shape := ⟨3, ![1, 512, 1]⟩
abbrev S512x1024 : Shape := ⟨2, ![512, 1024]⟩
abbrev S512x1536 : Shape := ⟨2, ![512, 1536]⟩
abbrev S512x128 : Shape := ⟨2, ![512, 128]⟩

abbrev nBuf : Space → Nat
  | .hbm => 32
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x5656, .f32⟩
  | .hbm, ⟨5, _⟩ => ⟨S1024x8, .f32⟩
  | .hbm, ⟨6, _⟩ => ⟨S1024x16, .f32⟩
  | .hbm, ⟨7, _⟩ => ⟨S_, .f32⟩
  | .hbm, ⟨8, _⟩ => ⟨S1024x104, .f32⟩
  | .hbm, ⟨9, _⟩ => ⟨S1024x128, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1536, .f32⟩
  | .hbm, ⟨19, _⟩ => ⟨S1024x1536, .bf16⟩
  | .hbm, ⟨20, _⟩ => ⟨S1024x128, .bf16⟩
  | .hbm, ⟨21, _⟩ => ⟨S1x1x1024, .f32⟩
  | .hbm, ⟨22, _⟩ => ⟨S16x1x1024, .f32⟩
  | .hbm, ⟨23, _⟩ => ⟨S16x1x1024, .f32⟩
  | .hbm, ⟨24, _⟩ => ⟨S16x4096x1024, .bf16⟩
  | .hbm, ⟨25, _⟩ => ⟨S16x4096x1024, .f32⟩
  | .hbm, ⟨26, _⟩ => ⟨S16x4096x1024, .f32⟩
  | .hbm, ⟨27, _⟩ => ⟨S16x4096x1024, .bf16⟩
  | .hbm, ⟨28, _⟩ => ⟨S16x4096x1024, .bf16⟩
  | .hbm, ⟨29, _⟩ => ⟨S16x4096x1024, .f32⟩
  | .hbm, ⟨30, _⟩ => ⟨S16x4096x1536, .f32⟩
  | .hbm, ⟨31, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1536, .bf16⟩
  | .local _ .vmem, ⟨12, _⟩ => ⟨S1024x128, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1536, .f32⟩
  | .local _ .vmem, ⟨26, _⟩ => ⟨S1x512x1536, .f32⟩
  | .local _ .vmem, ⟨27, _⟩ => ⟨S1x512x128, .f32⟩
  | .local _ .vmem, ⟨28, _⟩ => ⟨S1x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev main_v18_6 : Ref sig .tc := ⟨.hbm, 30, rfl⟩
abbrev main_v18_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F] [Named F]

def κ : String → Option EReal := fun
  | "qscale" => some ((((Real.log 2) * (Real.sqrt 128))⁻¹ : ℝ) : EReal)
  | _ => none

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S16x4096x1024 : Shape := ⟨3, ![16, 4096, 1024]⟩
abbrev S1024 : Shape := ⟨1, ![1024]⟩
abbrev S16x1024 : Shape := ⟨2, ![16, 1024]⟩
abbrev S1024x5656 : Shape := ⟨2, ![1024, 5656]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x5656 : Shape := ⟨3, ![16, 4096, 5656]⟩
abbrev S16x4096x8 : Shape := ⟨3, ![16, 4096, 8]⟩
abbrev S16x4096x1536 : Shape := ⟨3, ![16, 4096, 1536]⟩
abbrev S16x4096x16 : Shape := ⟨3, ![16, 4096, 16]⟩
abbrev S16x4096x24 : Shape := ⟨3, ![16, 4096, 24]⟩
abbrev S16x4096x128 : Shape := ⟨3, ![16, 4096, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x5656, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x4096x1024, .f32⟩
  | .hbm, ⟨26, _⟩ => ⟨S16x4096x1024, .f32⟩
  | .hbm, ⟨27, _⟩ => ⟨S16x1x1024, .f32⟩
  | .hbm, ⟨28, _⟩ => ⟨S16x4096x1024, .f32⟩
  | .hbm, ⟨29, _⟩ => ⟨S16x4096x1024, .f32⟩
  | .hbm, ⟨30, _⟩ => ⟨S16x4096x5656, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x8, .f32⟩
  | .hbm, ⟨35, _⟩ => ⟨S16x4096x1024, .f32⟩
  | .hbm, ⟨36, _⟩ => ⟨S16x4096x1536, .f32⟩
  | .hbm, ⟨37, _⟩ => ⟨S16x4096x16, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16x4096x1024, .f32⟩
  | .hbm, ⟨46, _⟩ => ⟨S16x4096x1024, .f32⟩
  | .hbm, ⟨47, _⟩ => ⟨S16x4096x24, .f32⟩
  | .hbm, ⟨48, _⟩ => ⟨S_, .i32⟩
  | .hbm, ⟨49, _⟩ => ⟨S_, .f32⟩
  | .hbm, ⟨50, _⟩ => ⟨S16x4096x128, .f32⟩
  | .hbm, ⟨51, _⟩ => ⟨S16x4096x1024, .bf16⟩
  | .hbm, ⟨52, _⟩ => ⟨S16x4096x1024, .bf16⟩
  | .hbm, ⟨53, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S544 : Shape := ⟨1, ![544]⟩
abbrev S1 : Shape := ⟨1, ![1]⟩
abbrev S544x512x1024 : Shape := ⟨3, ![544, 512, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S2228224x128 : Shape := ⟨2, ![2228224, 128]⟩
abbrev S32x1x2048 : Shape := ⟨3, ![32, 1, 2048]⟩
abbrev S32x1x1024 : Shape := ⟨3, ![32, 1, 1024]⟩
abbrev S8192x128 : Shape := ⟨2, ![8192, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 11
  | .vmem => 20
  | .smem => 2
  | _ => 0

abbrev bufTy : (tb : Table) → Fin (tcTables nBuf tb) → BufTy
  | .hbm, ⟨0, _⟩ => ⟨S544x512x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S2228224x128, .f32⟩
  | .hbm, ⟨6, _⟩ => ⟨S32x1024x2048, .bf16⟩
  | .hbm, ⟨7, _⟩ => ⟨S32x1024x1024, .bf16⟩
  | .hbm, ⟨8, _⟩ => ⟨S32x1x2048, .f32⟩
  | .hbm, ⟨9, _⟩ => ⟨S32x1x1024, .f32⟩
  | .hbm, ⟨10, _⟩ => ⟨S2228224x128, .f32⟩
  | .local _ .vmem, ⟨0, _⟩ => ⟨S8192x128, .f32⟩
  | .local _ .vmem, ⟨1, _⟩ => ⟨S8192x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1x1024, .f32⟩
  | .local _ .vmem, ⟨17, _⟩ => ⟨S1x1x1024, .f32⟩
  | .local _ .vmem, ⟨18, _⟩ => ⟨S8192x128, .f32⟩
  | .local _ .vmem, ⟨19, _⟩ => ⟨S8192x128, .f32⟩
  | .local _ .smem, ⟨0, _⟩ => ⟨S544, .i32⟩
  | .local _ .smem, ⟨1, _⟩ => ⟨S1, .i32⟩
  | _, _ => ⟨S544x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_cond1 (i : grid0.Coords) (v1 : BitVec 32) : BitVec 1 :=
  let arg0 : BitVec 32 := BitVec.ofNat 32 (i 0).val
  let c2_i32 : BitVec 32 := 2#32
  let v0 : BitVec 32 := Scalar.muli arg0 c2_i32
  let v2 : BitVec 1 := Scalar.cmpi .slt v0 v1
  let v3 : BitVec 32 := Scalar.extui v2
  let c0_i32 : BitVec 32 := 0#32
  let v4 : BitVec 1 := Scalar.cmpi .ne v3 c0_i32
  v4

def k0_cond2 (i : grid0.Coords) (v1 : BitVec 32) : BitVec 1 :=
  let arg0 : BitVec 32 := BitVec.ofNat 32 (i 0).val
  let c2_i32 : BitVec 32 := 2#32
  let v0 : BitVec 32 := Scalar.muli arg0 c2_i32
  let v2 : BitVec 1 := Scalar.cmpi .slt v0 v1
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S544) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S544) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S544) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S544) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_5 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S544) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S544) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S544) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 2), ∀ a, (k0_off1 i (BitVec.ofNat 32 r.val)) a + S1.size a ≤ S544.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S544) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S544 : Shape := ⟨1, ![544]⟩
abbrev S1 : Shape := ⟨1, ![1]⟩
abbrev S544x512x1024 : Shape := ⟨3, ![544, 512, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S544x1 : Shape := ⟨2, ![544, 1]⟩
abbrev S544x1024x2048 : Shape := ⟨3, ![544, 1024, 2048]⟩
abbrev S544x512x2048 : Shape := ⟨3, ![544, 512, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S272 : Shape := ⟨1, ![272]⟩
abbrev S272x1x1 : Shape := ⟨3, ![272, 1, 1]⟩
abbrev S272x1024x1024 : Shape := ⟨3, ![272, 1024, 1024]⟩
abbrev S2228224x128 : Shape := ⟨2, ![2228224, 128]⟩

abbrev nBuf : Space → Nat
  | .hbm => 95
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S544x512x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S_, .i32⟩
  | .hbm, ⟨8, _⟩ => ⟨S544, .i32⟩
  | .hbm, ⟨9, _⟩ => ⟨S544, .i1⟩
  | .hbm, ⟨10, _⟩ => ⟨S_, .i32⟩
  | .hbm, ⟨11, _⟩ => ⟨S544, .i32⟩
  | .hbm, ⟨12, _⟩ => ⟨S544, .i32⟩
  | .hbm, ⟨13, _⟩ => ⟨S544, .i32⟩
  | .hbm, ⟨14, _⟩ => ⟨S544x1, .i32⟩
  | .hbm, ⟨15, _⟩ => ⟨S544x1024x2048, .f32⟩
  | .hbm, ⟨16, _⟩ => ⟨S544x512x2048, .f32⟩
  | .hbm, ⟨17, _⟩ => ⟨S_, .i32⟩
  | .hbm, ⟨18, _⟩ => ⟨S544, .i32⟩
  | .hbm, ⟨19, _⟩ => ⟨S544, .i1⟩
  | .hbm, ⟨20, _⟩ => ⟨S_, .i32⟩
  | .hbm, ⟨21, _⟩ => ⟨S544, .i32⟩
  | .hbm, ⟨22, _⟩ => ⟨S544, .i32⟩
  | .hbm, ⟨23, _⟩ => ⟨S544, .i32⟩
  | .hbm, ⟨24, _⟩ => ⟨S544x1, .i32⟩
  | .hbm, ⟨25, _⟩ => ⟨S544x2048, .f32⟩
  | .hbm, ⟨26, _⟩ => ⟨S544x1x2048, .f32⟩
  | .hbm, ⟨27, _⟩ => ⟨S544x512x2048, .f32⟩
  | .hbm, ⟨28, _⟩ => ⟨S544x512x2048, .f32⟩
  | .hbm, ⟨29, _⟩ => ⟨S544x512x1024, .f32⟩
  | .hbm, ⟨30, _⟩ => ⟨S_, .f32⟩
  | .hbm, ⟨31, _⟩ => ⟨S544x512x1024, .f32⟩
  | .hbm, ⟨32, _⟩ => ⟨S544x512x1024, .f32⟩
  | .hbm, ⟨33, _⟩ => ⟨S544x512x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S544x512x1024, .f32⟩
  | .hbm, ⟨38, _⟩ => ⟨S544x512x1024, .f32⟩
  | .hbm, ⟨39, _⟩ => ⟨S_, .f32⟩
  | .hbm, ⟨40, _⟩ => ⟨S544x512x1024, .f32⟩
  | .hbm, ⟨41, _⟩ => ⟨S544x512x1024, .f32⟩
  | .hbm, ⟨42, _⟩ => ⟨S_, .f32⟩
  | .hbm, ⟨43, _⟩ => ⟨S544x512x1024, .f32⟩
  | .hbm, ⟨44, _⟩ => ⟨S544x512x1024, .f32⟩
  | .hbm, ⟨45, _⟩ => ⟨S544x512x1024, .f32⟩
  | .hbm, ⟨46, _⟩ => ⟨S_, .f32⟩
  | .hbm, ⟨47, _⟩ => ⟨S544x512x1024, .f32⟩
  | .hbm, ⟨48, _⟩ => ⟨S544x512x1024, .f32⟩
  | .hbm, ⟨49, _⟩ => ⟨S544x512x1024, .f32⟩
  | .hbm, ⟨50, _⟩ => ⟨S544x512x1024, .f32⟩
  | .hbm, ⟨51, _⟩ => ⟨S_, .f32⟩
  | .hbm, ⟨52, _⟩ => ⟨S544x512x1024, .f32⟩
  | .hbm, ⟨53, _⟩ => ⟨S544x512x1024, .f32⟩
  | .hbm, ⟨54, _⟩ => ⟨S_, .f32⟩
  | .hbm, ⟨55, _⟩ => ⟨S544x512x1024, .f32⟩
  | .hbm, ⟨56, _⟩ => ⟨S544x512x1024, .f32⟩
  | .hbm, ⟨57, _⟩ => ⟨S544x512x1024, .f32⟩
  | .hbm, ⟨58, _⟩ => ⟨S_, .i32⟩
  | .hbm, ⟨59, _⟩ => ⟨S544, .i32⟩
  | .hbm, ⟨60, _⟩ => ⟨S544, .i1⟩
  | .hbm, ⟨61, _⟩ => ⟨S_, .i32⟩
  | .hbm, ⟨62, _⟩ => ⟨S544, .i32⟩
  | .hbm, ⟨63, _⟩ => ⟨S544, .i32⟩
  | .hbm, ⟨64, _⟩ => ⟨S544, .i32⟩
  | .hbm, ⟨65, _⟩ => ⟨S544x1, .i32⟩
  | .hbm, ⟨66, _⟩ => ⟨S544x1024x1024, .f32⟩
  | .hbm, ⟨67, _⟩ => ⟨S544x512x1024, .f32⟩
  | .hbm, ⟨68, _⟩ => ⟨S_, .i32⟩
  | .hbm, ⟨69, _⟩ => ⟨S544, .i32⟩
  | .hbm, ⟨70, _⟩ => ⟨S544, .i1⟩
  | .hbm, ⟨71, _⟩ => ⟨S_, .i32⟩
  | .hbm, ⟨72, _⟩ => ⟨S544, .i32⟩
  | .hbm, ⟨73, _⟩ => ⟨S544, .i32⟩
  | .hbm, ⟨74, _⟩ => ⟨S544, .i32⟩
  | .hbm, ⟨75, _⟩ => ⟨S544x1, .i32⟩
  | .hbm, ⟨76, _⟩ => ⟨S544x1024, .f32⟩
  | .hbm, ⟨77, _⟩ => ⟨S544x1x1024, .f32⟩
  | .hbm, ⟨78, _⟩ => ⟨S544x512x1024, .f32⟩
  | .hbm, ⟨79, _⟩ => ⟨S544x512x1024, .f32⟩
  | .hbm, ⟨80, _⟩ => ⟨S272, .i32⟩
  | .hbm, ⟨81, _⟩ => ⟨S_, .i32⟩
  | .hbm, ⟨82, _⟩ => ⟨S272, .i32⟩
  | .hbm, ⟨83, _⟩ => ⟨S272, .i32⟩
  | .hbm, ⟨84, _⟩ => ⟨S_, .i32⟩
  | .hbm, ⟨85, _⟩ => ⟨S272, .i32⟩
  | .hbm, ⟨86, _⟩ => ⟨S272, .i1⟩
  | .hbm, ⟨87, _⟩ => ⟨S272x1x1, .i1⟩
  | .hbm, ⟨88, _⟩ => ⟨S272x1024x1024, .f32⟩
  | .hbm, ⟨89, _⟩ => ⟨S_, .f32⟩
  | .hbm, ⟨90, _⟩ => ⟨S_, .f32⟩
  | .hbm, ⟨91, _⟩ => ⟨S272x1024x1024, .i1⟩
  | .hbm, ⟨92, _⟩ => ⟨S272x1024x1024, .f32⟩
  | .hbm, ⟨93, _⟩ => ⟨S272x1024x1024, .f32⟩
  | .hbm, ⟨94, _⟩ => ⟨S2228224x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel4.lean ====
abbrev S16x4096x128 : Shape := ⟨3, ![16, 4096, 128]⟩
abbrev S8 : Shape := ⟨1, ![8]⟩
abbrev S_ : Shape := ⟨0, ![]⟩
abbrev S128 : Shape := ⟨1, ![128]⟩
abbrev S1x128 : Shape := ⟨2, ![1, 128]⟩
abbrev S384 : Shape := ⟨1, ![384]⟩
abbrev S1024 : Shape := ⟨1, ![1024]⟩
abbrev S1x1024 : Shape := ⟨2, ![1, 1024]⟩
abbrev S384x1 : Shape := ⟨2, ![384, 1]⟩
abbrev S384x1024 : Shape := ⟨2, ![384, 1024]⟩
abbrev S16x1x128 : Shape := ⟨3, ![16, 1, 128]⟩
abbrev S16x4096x1024 : Shape := ⟨3, ![16, 4096, 1024]⟩
abbrev S1x512x128 : Shape := ⟨3, ![1, 512, 128]⟩
abbrev S1x1x128 : Shape := ⟨3, ![1, 1, 128]⟩
abbrev S1x512x1024 : Shape := ⟨3, ![1, 512, 1024]⟩
abbrev S512x128 : Shape := ⟨2, ![512, 128]⟩
abbrev S512x512 : Shape := ⟨2, ![512, 512]⟩
abbrev S512x384 : Shape := ⟨2, ![512, 384]⟩
abbrev S512x1024 : Shape := ⟨2, ![512, 1024]⟩

abbrev nBuf : Space → Nat
  | .hbm => 140
  | .vmem => 16
  | .smem => 0
  | _ => 0

abbrev hbmTy0_0 (i : Nat) : BufTy := match i % 128 with
  | 0 => ⟨S16x4096x128, .f32⟩
  | 1 => ⟨S8, .f32⟩
  | 2 => ⟨S_, .i32⟩
  | 3 => ⟨S_, .f32⟩
  | 4 => ⟨S128, .f32⟩
  | 5 => ⟨S1x128, .f32⟩
  | 6 => ⟨S384, .i32⟩
  | 7 => ⟨S_, .i32⟩
  | 8 => ⟨S_, .i32⟩
  | 9 => ⟨S384, .i32⟩
  | 10 => ⟨S384, .i32⟩
  | 11 => ⟨S384, .i32⟩
  | 12 => ⟨S_, .i32⟩
  | 13 => ⟨S384, .i32⟩
  | 14 => ⟨S384, .i1⟩
  | 15 => ⟨S384, .i32⟩
  | 16 => ⟨S384, .i32⟩
  | 17 => ⟨S_, .i32⟩
  | 18 => ⟨S384, .i32⟩
  | 19 => ⟨S384, .i1⟩
  | 20 => ⟨S384, .i1⟩
  | 21 => ⟨S_, .i32⟩
  | 22 => ⟨S384, .i32⟩
  | 23 => ⟨S384, .i32⟩
  | 24 => ⟨S384, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S384, .i32⟩
  | 32 => ⟨S384, .i32⟩
  | 33 => ⟨S_, .i32⟩
  | 34 => ⟨S384, .i32⟩
  | 35 => ⟨S384, .i1⟩
  | 36 => ⟨S_, .i32⟩
  | 37 => ⟨S384, .i32⟩
  | 38 => ⟨S384, .i1⟩
  | 39 => ⟨S_, .i32⟩
  | 40 => ⟨S_, .i1⟩
  | 41 => ⟨S384, .i1⟩
  | 42 => ⟨S384, .i1⟩
  | 43 => ⟨S384, .i1⟩
  | 44 => ⟨S384, .i32⟩
  | 45 => ⟨S384, .i32⟩
  | 46 => ⟨S384, .i32⟩
  | 47 => ⟨S1024, .i32⟩
  | 48 => ⟨S1x1024, .i32⟩
  | 49 => ⟨S_, .i32⟩
  | 50 => ⟨S384, .i32⟩
  | 51 => ⟨S384, .i1⟩
  | 52 => ⟨S384x1, .i1⟩
  | 53 => ⟨S_, .i32⟩
  | 54 => ⟨S384, .i32⟩
  | 55 => ⟨S384, .i32⟩
  | 56 => ⟨S384, .i32⟩
  | 57 => ⟨S384x1, .i32⟩
  | 58 => ⟨S384x1024, .i32⟩
  | 59 => ⟨S384x1024, .i32⟩
  | 60 => ⟨S384x1024, .i1⟩
  | 61 => ⟨S384x1024, .i1⟩
  | 62 => ⟨S384x1024, .i1⟩
  | 63 => ⟨S_, .f32⟩
  | 64 => ⟨S_, .f32⟩
  | 65 => ⟨S384x1024, .f32⟩
  | 66 => ⟨S384x1024, .f32⟩
  | 67 => ⟨S384x1024, .f32⟩
  | 68 => ⟨S_, .i32⟩
  | 69 => ⟨S384, .i32⟩
  | 70 => ⟨S384, .i32⟩
  | 71 => ⟨S_, .i32⟩
  | 72 => ⟨S384, .i32⟩
  | 73 => ⟨S384, .i32⟩
  | 74 => ⟨S384, .i32⟩
  | 75 => ⟨S384x1, .i32⟩
  | 76 => ⟨S384x1024, .i32⟩
  | 77 => ⟨S384x1024, .i32⟩
  | 78 => ⟨S384x1024, .i1⟩
  | 79 => ⟨S384x1024, .i1⟩
  | 80 => ⟨S384x1024, .i1⟩
  | 81 => ⟨S_, .f32⟩
  | 82 => ⟨S_, .f32⟩
  | 83 => ⟨S384x1024, .f32⟩
  | 84 => ⟨S384x1024, .f32⟩
  | 85 => ⟨S384x1024, .f32⟩
  | 86 => ⟨S1024, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i1⟩
  | 98 => ⟨S_, .i32⟩
  | 99 => ⟨S1024, .i32⟩
  | 100 => ⟨S1024, .i1⟩
  | 101 => ⟨S_, .i32⟩
  | 102 => ⟨S_, .i1⟩
  | 103 => ⟨S1024, .i1⟩
  | 104 => ⟨S1024, .i1⟩
  | 105 => ⟨S1024, .i1⟩
  | 106 => ⟨S1024, .i32⟩
  | 107 => ⟨S1024, .i32⟩
  | 108 => ⟨S1024, .i32⟩
  | 109 => ⟨S_, .i32⟩
  | 110 => ⟨S1024, .i32⟩
  | 111 => ⟨S1024, .i1⟩
  | 112 => ⟨S_, .i32⟩
  | 113 => ⟨S1024, .i32⟩
  | 114 => ⟨S1024, .i1⟩
  | 115 => ⟨S1024, .i1⟩
  | 116 => ⟨S_, .f32⟩
  | 117 => ⟨S_, .f32⟩
  | 118 => ⟨S1024, .f32⟩
  | 119 => ⟨S1024, .f32⟩
  | 120 => ⟨S1024, .f32⟩
  | 121 => ⟨S_, .i32⟩
  | 122 => ⟨S1024, .i32⟩
  | 123 => ⟨S1024, .i1⟩
  | 124 => ⟨S_, .f32⟩
  | 125 => ⟨S_, .f32⟩
  | 126 => ⟨S1024, .f32⟩
  | 127 => ⟨S1024, .f32⟩
  | _ => ⟨S16x4096x128, .f32⟩

abbrev hbmTy0_1 (i : Nat) : BufTy := match i % 128 with
  | 0 => ⟨S1024, .f32⟩
  | 1 => ⟨S384x1024, .bf16⟩
  | 2 => ⟨S384x1024, .bf16⟩
  | 3 => ⟨S1x1024, .f32⟩
  | 4 => ⟨S1x1024, .f32⟩
  | 5 => ⟨S1x1024, .f32⟩
  | 6 => ⟨S1x1024, .f32⟩
  | 7 => ⟨S_, .f32⟩
  | 8 => ⟨S16x1x128, .f32⟩
  | 9 => ⟨S16x4096x128, .f32⟩
  | 10 => ⟨S16x4096x1024, .bf16⟩
  | 11 => ⟨S16x4096x1024, .bf16⟩
  | _ => ⟨S16x4096x128, .f32⟩

abbrev hbmTy (i : Nat) : BufTy := match i / 128 with
  | 0 => hbmTy0_0 i
  | 1 => hbmTy0_1 i
  | _ => ⟨S16x4096x128, .f32⟩

abbrev bufTy : (tb : Table) → Fin (tcTables nBuf tb) → BufTy
  | .hbm, ⟨i, _⟩ => hbmTy i
  | .local _ .vmem, ⟨0, _⟩ => ⟨S1x512x128, .f32⟩
  | .local _ .vmem, ⟨1, _⟩ => ⟨S1x512x128, .f32⟩
  | .local _ .vmem, ⟨2, _⟩ => ⟨S1x128, .f32⟩
  | .local _ .vmem, ⟨3, _⟩ => ⟨S1x1x128, .f32⟩
  | .local _ .vmem, ⟨4, _⟩ => ⟨S1x1x128, .f32⟩
  | .local _ .vmem, ⟨5, _⟩ => ⟨S384x1024, .bf16⟩
  | .local _ .vmem, ⟨6, _⟩ => ⟨S384x1024, .bf16⟩
  | .local _ .vmem, ⟨7, _⟩ => ⟨S1x1024, .f32⟩
  | .local _ .vmem, ⟨8, _⟩ => ⟨S1x1024, .f32⟩
  | .local _ .vmem, ⟨9, _⟩ => ⟨S1x512x128, .f32⟩
  | .local _ .vmem, ⟨10, _⟩ => ⟨S1x512x128, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v3 : Ref sig .tc := ⟨.hbm, 24, rfl⟩
abbrev main_c_1 : Ref sig .tc := ⟨.hbm, 25, rfl⟩
abbrev main_call2_v0 : Ref sig .tc := ⟨.hbm, 26, rfl⟩
abbrev main_call2_c : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_c_1 : Ref sig .tc := ⟨.hbm, 33, rfl⟩
abbrev main_call2_v5 : Ref sig .tc := ⟨.hbm, 34, rfl⟩
abbrev main_call2_v6 : Ref sig .tc := ⟨.hbm, 35, rfl⟩
abbrev main_call2_c_2 : Ref sig .tc := ⟨.hbm, 36, rfl⟩
abbrev main_call2_v7 : Ref sig .tc := ⟨.hbm, 37, rfl⟩
abbrev main_call2_v8 : Ref sig .tc := ⟨.hbm, 38, rfl⟩
abbrev main_call2_c_3 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_3 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst : Ref sig .tc := ⟨.hbm, 63, rfl⟩
abbrev main_cst_4 : Ref sig .tc := ⟨.hbm, 64, rfl⟩
abbrev main_call3_v0 : Ref sig .tc := ⟨.hbm, 65, rfl⟩
abbrev main_call3_v1 : Ref sig .tc := ⟨.hbm, 66, rfl⟩
abbrev main_v19 : Ref sig .tc := ⟨.hbm, 67, rfl⟩
abbrev main_c_5 : Ref sig .tc := ⟨.hbm, 68, rfl⟩
abbrev main_v20 : Ref sig .tc := ⟨.hbm, 69, rfl⟩
abbrev main_v21 : Ref sig .tc := ⟨.hbm, 70, rfl⟩
abbrev main_c_6 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_7 : Ref sig .tc := ⟨.hbm, 81, rfl⟩
abbrev main_cst_8 : Ref sig .tc := ⟨.hbm, 82, rfl⟩
abbrev main_call4_v0 : Ref sig .tc := ⟨.hbm, 83, rfl⟩
abbrev main_call4_v1 : Ref sig .tc := ⟨.hbm, 84, rfl⟩
abbrev main_v31 : Ref sig .tc := ⟨.hbm, 85, rfl⟩
abbrev main_v32 : Ref sig .tc := ⟨.hbm, 86, rfl⟩
abbrev main_c_9 : Ref sig .tc := ⟨.hbm, 87, rfl⟩
abbrev main_call5_v0 : Ref sig .tc := ⟨.hbm, 88, rfl⟩
abbrev main_call5_c : Ref sig .tc := ⟨.hbm, 89, rfl⟩
abbrev main_call5_v1 : Ref sig .tc := ⟨.hbm, 90, rfl⟩
abbrev main_call5_c_0 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_c_1 : Ref sig .tc := ⟨.hbm, 95, rfl⟩
abbrev main_call5_v5 : Ref sig .tc := ⟨.hbm, 96, rfl⟩
abbrev main_call5_v6 : Ref sig .tc := ⟨.hbm, 97, rfl⟩
abbrev main_call5_c_2 : Ref sig .tc := ⟨.hbm, 98, rfl⟩
abbrev main_call5_v7 : Ref sig .tc := ⟨.hbm, 99, rfl⟩
abbrev main_call5_v8 : Ref sig .tc := ⟨.hbm, 100, rfl⟩
abbrev main_call5_c_3 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_v12 : Ref sig .tc := ⟨.hbm, 105, rfl⟩
abbrev main_call5_v13 : Ref sig .tc := ⟨.hbm, 106, rfl⟩
abbrev main_call5_v14 : Ref sig .tc := ⟨.hbm, 107, rfl⟩
abbrev main_v33 : Ref sig .tc := ⟨.hbm, 108, rfl⟩
abbrev main_c_10 : Ref sig .tc := ⟨.hbm, 109, rfl⟩
abbrev main_v34 : Ref sig .tc := ⟨.hbm, 110, rfl⟩
abbrev main_v35 : Ref sig .tc := ⟨.hbm, 111, rfl⟩
abbrev main_c_11 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_12 : Ref sig .tc := ⟨.hbm, 116, rfl⟩
abbrev main_cst_13 : Ref sig .tc := ⟨.hbm, 117, rfl⟩
abbrev main_call6_v0 : Ref sig .tc := ⟨.hbm, 118, rfl⟩
abbrev main_call6_v1 : Ref sig .tc := ⟨.hbm, 119, rfl⟩
abbrev main_v39 : Ref sig .tc := ⟨.hbm, 120, rfl⟩
abbrev main_c_14 : Ref sig .tc := ⟨.hbm, 121, rfl⟩
abbrev main_v40 : Ref sig .tc := ⟨.hbm, 122, rfl⟩
abbrev main_v41 : Ref sig .tc := ⟨.hbm, 123, rfl⟩
abbrev main_cst_15 : Ref sig .tc := ⟨.hbm, 124, rfl⟩
abbrev main_cst_16 : Ref sig .tc := ⟨.hbm, 125, rfl⟩
abbrev main_call7_v0 : Ref sig .tc := ⟨.hbm, 126, rfl⟩
abbrev main_call7_v1 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_cst_17 : Ref sig .tc := ⟨.hbm, 135, rfl⟩
abbrev main_v49 : Ref sig .tc := ⟨.hbm, 136, rfl⟩
abbrev main_v50_0 : Ref sig .tc := ⟨.hbm, 137, rfl⟩
abbrev main_v50_1 : Ref sig .tc := ⟨.hbm, 138, rfl⟩
abbrev main_v50_2 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S16x4096x128 : Shape := ⟨3, ![16, 4096, 128]⟩
abbrev S8 : Shape := ⟨1, ![8]⟩
abbrev S_ : Shape := ⟨0, ![]⟩
abbrev S128 : Shape := ⟨1, ![128]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x1x128, .f32⟩
  | .hbm, ⟨6, _⟩ => ⟨S16x4096x128, .f32⟩
  | .hbm, ⟨7, _⟩ => ⟨S16x4096x128, .f32⟩
  | .hbm, ⟨8, _⟩ => ⟨S16x4096x128, .f32⟩
  | .hbm, ⟨9, _⟩ => ⟨S_, .f32⟩
  | .hbm, ⟨10, _⟩ => ⟨S16x4096x128, .f32⟩
  | .hbm, ⟨11, _⟩ => ⟨S16x4096x128, .f32⟩
  | .hbm, ⟨12, _⟩ => ⟨S16x4096x128, .f32⟩
  | .hbm, ⟨13, _⟩ => ⟨S16x4096x128, .f32⟩
  | .hbm, ⟨14, _⟩ => ⟨S16x4096x128, .i1⟩
  | .hbm, ⟨15, _⟩ => ⟨S16x4096x128, .f32⟩
  | .hbm, ⟨16, _⟩ => ⟨S16x4096x128, .f32⟩
  | .hbm, ⟨17, _⟩ => ⟨S16x4096x128, .f32⟩
  | .hbm, ⟨18, _⟩ => ⟨S16x4096x128, .f32⟩
  | .hbm, ⟨19, _⟩ => ⟨S16x4096x128, .f32⟩
  | .hbm, ⟨20, _⟩ => ⟨S16x4096x128, .f32⟩
  | .hbm, ⟨21, _⟩ => ⟨S16x4096x128, .f32⟩
  | .hbm, ⟨22, _⟩ => ⟨S16x4096x128, .f32⟩
  | .hbm, ⟨23, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1 : Ref sig .tc := ⟨.hbm, 22, rfl⟩
abbrev main_v4 : Ref sig .tc := ⟨.hbm, 23, rfl⟩

abbrev nD : Nat := 1
abbrev τ : Topo := Topo.v7x

variable {F : FTy → Type} [FloatOps F]
-- ==== Kernel5.lean ====
abbrev S16x32x1024 : Shape := ⟨3, ![16, 32, 1024]⟩
abbrev S1024 : Shape := ⟨1, ![1024]⟩
abbrev S16x1024 : Shape := ⟨2, ![16, 1024]⟩
abbrev S1024x5656 : Shape := ⟨2, ![1024, 5656]⟩
abbrev S1024x8 : Shape := ⟨2, ![1024, 8]⟩
abbrev S1024x16 : Shape := ⟨2, ![1024, 16]⟩
abbrev S_ : Shape := ⟨0, ![]⟩
abbrev S1024x104 : Shape := ⟨2, ![1024, 104]⟩
abbrev S1024x128 : Shape := ⟨2, ![1024, 128]⟩
abbrev S1024x1024 : Shape := ⟨2, ![1024, 1024]⟩
abbrev S1024x1536 : Shape := ⟨2, ![1024, 1536]⟩
abbrev S1x1x1024 : Shape := ⟨3, ![1, 1, 1024]⟩
abbrev S16x1x1024 : Shape := ⟨3, ![16, 1, 1024]⟩
abbrev S16x32x1536 : Shape := ⟨3, ![16, 32, 1536]⟩
abbrev S16x32x128 : Shape := ⟨3, ![16, 32, 128]⟩
abbrev S16x32 : Shape := ⟨2, ![16, 32]⟩
abbrev S16x32x1 : Shape := ⟨3, ![16, 32, 1]⟩
abbrev S512x1024 : Shape := ⟨2, ![512, 1024]⟩
abbrev S512x1536 : Shape := ⟨2, ![512, 1536]⟩
abbrev S512x128 : Shape := ⟨2, ![512, 128]⟩

abbrev nBuf : Space → Nat
  | .hbm => 32
  | .vmem => 18
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x5656, .f32⟩
  | .hbm, ⟨5, _⟩ => ⟨S1024x8, .f32⟩
  | .hbm, ⟨6, _⟩ => ⟨S1024x16, .f32⟩
  | .hbm, ⟨7, _⟩ => ⟨S_, .f32⟩
  | .hbm, ⟨8, _⟩ => ⟨S1024x104, .f32⟩
  | .hbm, ⟨9, _⟩ => ⟨S1024x128, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1536, .f32⟩
  | .hbm, ⟨19, _⟩ => ⟨S1024x1536, .bf16⟩
  | .hbm, ⟨20, _⟩ => ⟨S1024x128, .bf16⟩
  | .hbm, ⟨21, _⟩ => ⟨S1x1x1024, .f32⟩
  | .hbm, ⟨22, _⟩ => ⟨S16x1x1024, .f32⟩
  | .hbm, ⟨23, _⟩ => ⟨S16x1x1024, .f32⟩
  | .hbm, ⟨24, _⟩ => ⟨S16x32x1024, .bf16⟩
  | .hbm, ⟨25, _⟩ => ⟨S16x32x1024, .f32⟩
  | .hbm, ⟨26, _⟩ => ⟨S16x32x1024, .f32⟩
  | .hbm, ⟨27, _⟩ => ⟨S16x32x1024, .bf16⟩
  | .hbm, ⟨28, _⟩ => ⟨S16x32x1024, .bf16⟩
  | .hbm, ⟨29, _⟩ => ⟨S16x32x1024, .f32⟩
  | .hbm, ⟨30, _⟩ => ⟨S16x32x1536, .f32⟩
  | .hbm, ⟨31, _⟩ => ⟨S16x32x128, .f32⟩
  | .local _ .vmem, ⟨0, _⟩ => ⟨S16x32x1024, .f32⟩
  | .local _ .vmem, ⟨1, _⟩ => ⟨S1x1x1024, .f32⟩
  | .local _ .vmem, ⟨2, _⟩ => ⟨S16x1x1024, .f32⟩
  | .local _ .vmem, ⟨3, _⟩ => ⟨S16x1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1536, .bf16⟩
  | .local _ .vmem, ⟨9, _⟩ => ⟨S1024x128, .bf16⟩
  | .local _ .vmem, ⟨10, _⟩ => ⟨S16x32x1024, .bf16⟩
  | .local _ .vmem, ⟨11, _⟩ => ⟨S16x32x1024, .f32⟩
  | .local _ .vmem, ⟨12, _⟩ => ⟨S16x32x1024, .f32⟩
  | .local _ .vmem, ⟨13, _⟩ => ⟨S16x32x1024, .bf16⟩
  | .local _ .vmem, ⟨14, _⟩ => ⟨S16x32x1024, .bf16⟩
  | .local _ .vmem, ⟨15, _⟩ => ⟨S16x32x1024, .f32⟩
  | .local _ .vmem, ⟨16, _⟩ => ⟨S16x32x1536, .f32⟩
  | .local _ .vmem, ⟨17, _⟩ => ⟨S16x32x128, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev main_v18_5 : Ref sig .tc := ⟨.hbm, 29, rfl⟩
abbrev main_v18_6 : Ref sig .tc := ⟨.hbm, 30, rfl⟩
abbrev main_v18_7 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S16x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S16x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S16x32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S16x32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S16x32x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S16x32x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S16x32x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S16x32x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S16x32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]
-- ==== Kernel5Ideal.lean ====
variable {F : FTy → Type} [FloatOps F] [Named F]
def κ : String → Option EReal := fun
  | "qscale" => some ((((Real.log 2) * (Real.sqrt 128))⁻¹ : ℝ) : EReal)
  | _ => none
-- ==== Reference5Ideal.lean ====
abbrev S16x32x1024 : Shape := ⟨3, ![16, 32, 1024]⟩
abbrev S1024 : Shape := ⟨1, ![1024]⟩
abbrev S16x1024 : Shape := ⟨2, ![16, 1024]⟩
abbrev S1024x5656 : Shape := ⟨2, ![1024, 5656]⟩
abbrev S_ : Shape := ⟨0, ![]⟩
abbrev S16x32 : Shape := ⟨2, ![16, 32]⟩
abbrev S16x32x1 : Shape := ⟨3, ![16, 32, 1]⟩
abbrev S1x1x1024 : Shape := ⟨3, ![1, 1, 1024]⟩
abbrev S16x1x1024 : Shape := ⟨3, ![16, 1, 1024]⟩
abbrev S16x32x5656 : Shape := ⟨3, ![16, 32, 5656]⟩
abbrev S16x32x8 : Shape := ⟨3, ![16, 32, 8]⟩
abbrev S16x32x1536 : Shape := ⟨3, ![16, 32, 1536]⟩
abbrev S16x32x16 : Shape := ⟨3, ![16, 32, 16]⟩
abbrev S16x32x24 : Shape := ⟨3, ![16, 32, 24]⟩
abbrev S16x32x128 : Shape := ⟨3, ![16, 32, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x5656, .f32⟩
  | .hbm, ⟨5, _⟩ => ⟨S16x32x1024, .f32⟩
  | .hbm, ⟨6, _⟩ => ⟨S_, .f32⟩
  | .hbm, ⟨7, _⟩ => ⟨S16x32, .f32⟩
  | .hbm, ⟨8, _⟩ => ⟨S16x32x1, .f32⟩
  | .hbm, ⟨9, _⟩ => ⟨S_, .f32⟩
  | .hbm, ⟨10, _⟩ => ⟨S16x32x1, .f32⟩
  | .hbm, ⟨11, _⟩ => ⟨S16x32x1, .f32⟩
  | .hbm, ⟨12, _⟩ => ⟨S_, .f32⟩
  | .hbm, ⟨13, _⟩ => ⟨S16x32x1, .f32⟩
  | .hbm, ⟨14, _⟩ => ⟨S16x32x1, .f32⟩
  | .hbm, ⟨15, _⟩ => ⟨S16x32x1, .f32⟩
  | .hbm, ⟨16, _⟩ => ⟨S16x32x1024, .f32⟩
  | .hbm, ⟨17, _⟩ => ⟨S16x32x1024, .f32⟩
  | .hbm, ⟨18, _⟩ => ⟨S1x1x1024, .f32⟩
  | .hbm, ⟨19, _⟩ => ⟨S16x32x1024, .f32⟩
  | .hbm, ⟨20, _⟩ => ⟨S16x32x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x32x1024, .f32⟩
  | .hbm, ⟨26, _⟩ => ⟨S16x32x1024, .f32⟩
  | .hbm, ⟨27, _⟩ => ⟨S16x1x1024, .f32⟩
  | .hbm, ⟨28, _⟩ => ⟨S16x32x1024, .f32⟩
  | .hbm, ⟨29, _⟩ => ⟨S16x32x1024, .f32⟩
  | .hbm, ⟨30, _⟩ => ⟨S16x32x5656, .f32⟩
  | .hbm, ⟨31, _⟩ => ⟨S16x32x1024, .f32⟩
  | .hbm, ⟨32, _⟩ => ⟨S16x32x1024, .f32⟩
  | .hbm, ⟨33, _⟩ => ⟨S16x32x1024, .f32⟩
  | .hbm, ⟨34, _⟩ => ⟨S16x32x8, .f32⟩
  | .hbm, ⟨35, _⟩ => ⟨S16x32x1024, .f32⟩
  | .hbm, ⟨36, _⟩ => ⟨S16x32x1536, .f32⟩
  | .hbm, ⟨37, _⟩ => ⟨S16x32x16, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16x32x1024, .f32⟩
  | .hbm, ⟨46, _⟩ => ⟨S16x32x1024, .f32⟩
  | .hbm, ⟨47, _⟩ => ⟨S16x32x24, .f32⟩
  | .hbm, ⟨48, _⟩ => ⟨S_, .i32⟩
  | .hbm, ⟨49, _⟩ => ⟨S_, .f32⟩
  | .hbm, ⟨50, _⟩ => ⟨S16x32x128, .f32⟩
  | .hbm, ⟨51, _⟩ => ⟨S16x32x1024, .bf16⟩
  | .hbm, ⟨52, _⟩ => ⟨S16x32x1024, .bf16⟩
  | .hbm, ⟨53, _⟩ => ⟨S16x32x1024, .bf16⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Vec.lean ====
/- One update of the attention's running state, as functions of whole blocks: the scores of a block of keys, the new
   row maximum, and the new weighted sum (left 128 lanes) and sum of weights (right 128 lanes). The kernel repeats this
   text for each of its four heads, for the two halves of a pair of blocks, and for the masked last block. -/
module

public import proofs.«01_k».proof.Proof.Gen.KernelIdeal.Value
public import Idealize.ShloMosaic.Lib.Pipeline.ReadBack
public import Idealize.ShloMosaic.PureOps.Ideal.Laws
public import Idealize.ShloMosaic.Lib.Pointwise

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

/-- The queries (and their bias lanes) of one head, side by side. -/
def q2 (q qx : Vec Ideal S1x512x128 .bf16) : FVec Ideal S512x256 .bf16 := k0_pay376 q qx

/-- The scores of a query block against a key block. -/
def sc (q : FVec Ideal S512x256 .bf16) (k kx : Vec Ideal S1x512x128 .bf16) : FVec Ideal S512x512 .f32 := k0_pay2 q k kx

/-- The scores of the diagonal block: a key after the query gets −∞. -/
def scM (q : FVec Ideal S512x256 .bf16) (k kx : Vec Ideal S1x512x128 .bf16) : FVec Ideal S512x512 .f32 :=
  select (cmpi .sle (iota .tc S512x512 32 [1] iota_S512x512_d1_w32) (iota .tc S512x512 32 [0] iota_S512x512_d0_w32)) (k0_pay2 q k kx) (broadcast S512x512 (Scalar.ofBits (F := Ideal) .f32 0xFF800000#32))

/-- The four column chunks of the scores. -/
def c0 (s : FVec Ideal S512x512 .f32) : FVec Ideal S512x128 .f32 := extractStridedSlice S512x128 ![0, 0] s slices_S512x512_o0_0_S512x128
def c1 (s : FVec Ideal S512x512 .f32) : FVec Ideal S512x128 .f32 := extractStridedSlice S512x128 ![0, 128] s slices_S512x512_o0_128_S512x128
def c2 (s : FVec Ideal S512x512 .f32) : FVec Ideal S512x128 .f32 := extractStridedSlice S512x128 ![0, 256] s slices_S512x512_o0_256_S512x128
def c3 (s : FVec Ideal S512x512 .f32) : FVec Ideal S512x128 .f32 := extractStridedSlice S512x128 ![0, 384] s slices_S512x512_o0_384_S512x128

/-- The new row maximum, on every lane. -/
def mF (s : FVec Ideal S512x512 .f32) (m : Vec Ideal S1x512x128 .f32) : FVec Ideal S512x128 .f32 :=
  maximumf (shapeCast S512x128 m shapeCasts_S1x512x128_S512x128)
    (broadcastTo S512x128 (shapeCast S512x1
      (multiReduction .maximumf [1] S512 (maximumf (maximumf (maximumf (c0 s) (c1 s)) (c2 s)) (c3 s)) 0xFF800000#32 reduces_S512x128_S512 (.inl rfl) rfl)
      shapeCasts_S512_S512x1) broadcasts_S512x1_S512x128)

/-- The factor that moves the old sums to the new maximum. -/
def al (s : FVec Ideal S512x512 .f32) (m : Vec Ideal S1x512x128 .f32) : FVec Ideal S512x128 .f32 :=
  exp2 (subf (shapeCast S512x128 m shapeCasts_S1x512x128_S512x128) (mF s m))

/-- The weights of the block. -/
def wt (s : FVec Ideal S512x512 .f32) (m : Vec Ideal S1x512x128 .f32) : FVec Ideal S512x512 .bf16 :=
  truncf .bf16 (concatenate S512x512 1 [⟨S512x128, exp2 (subf (c0 s) (mF s m))⟩, ⟨S512x128, exp2 (subf (c1 s) (mF s m))⟩, ⟨S512x128, exp2 (subf (c2 s) (mF s m))⟩, ⟨S512x128, exp2 (subf (c3 s) (mF s m))⟩] concatenates_S512x128_S512x128_S512x128_S512x128_S512x512_d1) bitsLt_bf16_f32

/-- The weights times the values, and times ones. -/
def pv (s : FVec Ideal S512x512 .f32) (m : Vec Ideal S1x512x128 .f32) (v : Vec Ideal S1x512x128 .bf16) : FVec Ideal S512x256 .f32 :=
  matmul dot_S512x512_S512x256_S512x256_1_0_0_1_n_n none (wt s m)
    (concatenate S512x256 1 [⟨S512x128, shapeCast S512x128 v shapeCasts_S1x512x128_S512x128⟩, ⟨S512x128, k0_pay370⟩] concatenates_S512x128_S512x128_S512x256_d1)
    (constant S512x256 .f32 0x00000000#32)

/-- The new maximum, the new weighted sum and the new sum of weights, as stored. -/
def mN (s : FVec Ideal S512x512 .f32) (m : Vec Ideal S1x512x128 .f32) : FVec Ideal S1x512x128 .f32 :=
  shapeCast S1x512x128 (mF s m) shapeCasts_S512x128_S1x512x128
def aN (s : FVec Ideal S512x512 .f32) (m : Vec Ideal S1x512x128 .f32) (v : Vec Ideal S1x512x128 .bf16) (a : Vec Ideal S1x512x128 .f32) : FVec Ideal S1x512x128 .f32 :=
  shapeCast S1x512x128 (addf (mulf (al s m) (shapeCast S512x128 a shapeCasts_S1x512x128_S512x128))
    (extractStridedSlice S512x128 ![0, 0] (pv s m v) slices_S512x256_o0_0_S512x128)) shapeCasts_S512x128_S1x512x128
def bN (s : FVec Ideal S512x512 .f32) (m : Vec Ideal S1x512x128 .f32) (v : Vec Ideal S1x512x128 .bf16) (a : Vec Ideal S1x512x128 .f32) : FVec Ideal S1x512x128 .f32 :=
  shapeCast S1x512x128 (addf (mulf (al s m) (shapeCast S512x128 a shapeCasts_S1x512x128_S512x128))
    (extractStridedSlice S512x128 ![0, 128] (pv s m v) slices_S512x256_o0_128_S512x128)) shapeCasts_S512x128_S1x512x128

/-- Reading back what was just stored, and passing over a store elsewhere. -/
theorem readAt_same {sig : RefSig} {κ : Kind} {sp : Space} {s : Shape} {e : EltTy} {Val : EltTy → Type} (v : View sig κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

theorem readAt_skip {sig : RefSig} {κ : Kind} {sp : Space} {s : Shape} {e : EltTy} {Val : EltTy → Type} (v : View sig κ sp s e) (f : v.ty.Contents Val) (r : Rect s) (w : r.shape.Idx → Val e) (L : List (View.Piece Val s e)) (B : LoadRect s)
    (h : LoadRect.disj r B = true) :
    v.readAt Val B (v.writes Val f (⟨r, w⟩ :: L)) = v.readAt Val B (v.writes Val f L) :=
  funext fun j => View.read_writes_cons_miss v f ⟨r, w⟩ L (B.idx j) (LoadRect.idx_not_mem_of_disj h j)

/-- The 512 rows of block `j` and the 128 lanes of head `h` of an array of keys or values. -/
def kblk (x : Vec Ideal S1x4096x512 .bf16) (j : ℕ) (h : Fin 4) : Vec Ideal S1x512x128 .bf16 :=
  fun y => x (ix3 0 ⟨(512 * j + (y 1).val) % 4096, Nat.mod_lt _ (by decide)⟩ ⟨128 * h.val + (y 2).val, by have : (y 2).val < 128 := (y 2).isLt; omega⟩)

theorem ld_kblk (x : Vec Ideal S1x4096x512 .bf16) (j : ℕ) (h : Fin 4) (off : Fin 3 → ℕ) (hoff : off = ![0, 512 * j, 128 * h.val])
    (inb : ∀ a, off a + S1x512x128.size a ≤ S1x4096x512.size a) (y : S1x512x128.Idx) :
    x ((Rect.unit (s := S1x4096x512) off S1x512x128.size inb).toLoadRect.idx y) = kblk x j h y := by
  subst hoff
  refine congrArg x (funext fun a => Fin.ext ?_)
  have h1 : 512 * j + 512 ≤ 4096 := inb 1
  have h2 : (y 1).val < 512 := (y 1).isLt
  have h0 : (y 0).val < 1 := (y 0).isLt
  fin_cases a
  · show 0 + 1 * (y 0).val = 0
    omega
  · show 512 * j + 1 * (y 1).val = (512 * j + (y 1).val) % 4096
    rw [Nat.mod_eq_of_lt (by omega)]; omega
  · show 128 * h.val + 1 * (y 2).val = 128 * h.val + (y 2).val
    omega
end Cert.Proof
-- ==== Proof.Trip.lean ====
/- The running state in the scratch memory, and what one trip of the loop (two blocks of keys, four heads) makes of it. -/
module

public import proofs.«01_k».proof.Proof.Vec

@[expose] public section
noncomputable section
namespace Cert.Proof
open Cert.KernelIdeal Cert.KernelIdeal.Gen Idealize.ShloMosaic Idealize.ShloMosaic.TcCoe Idealize.ShloMosaic.Tactic Idealize.SL.Sem

/-- The scratch holds, for each of the four heads, the maximum `M`, the weighted sum `A` and the sum of weights `B`. -/
structure St (arg9 : Memref sig .tc .vmem S4x512x128 .f32) (arg10 : Memref sig .tc .vmem S4x512x256 .f32) (f9 : BufTy.Contents (Elt Ideal) arg9.view.ty) (f10 : BufTy.Contents (Elt Ideal) arg10.view.ty) (M A B : Fin 4 → Vec Ideal S1x512x128 .f32) : Prop where
  m0 : arg9.view.readAt (Elt Ideal) (Rect.unit (s := S4x512x128) ![0, 0, 0] ![1, 512, 128] inb_S4x512x128_S1x512x128_0_0_0).toLoadRect f9 = M 0
  m1 : arg9.view.readAt (Elt Ideal) (Rect.unit (s := S4x512x128) ![1, 0, 0] ![1, 512, 128] inb_S4x512x128_S1x512x128_1_0_0).toLoadRect f9 = M 1
  m2 : arg9.view.readAt (Elt Ideal) (Rect.unit (s := S4x512x128) ![2, 0, 0] ![1, 512, 128] inb_S4x512x128_S1x512x128_2_0_0).toLoadRect f9 = M 2
  m3 : arg9.view.readAt (Elt Ideal) (Rect.unit (s := S4x512x128) ![3, 0, 0] ![1, 512, 128] inb_S4x512x128_S1x512x128_3_0_0).toLoadRect f9 = M 3
  a0 : arg10.view.readAt (Elt Ideal) (Rect.unit (s := S4x512x256) ![0, 0, 0] ![1, 512, 128] inb_S4x512x256_S1x512x128_0_0_0).toLoadRect f10 = A 0
  a1 : arg10.view.readAt (Elt Ideal) (Rect.unit (s := S4x512x256) ![1, 0, 0] ![1, 512, 128] inb_S4x512x256_S1x512x128_1_0_0).toLoadRect f10 = A 1
  a2 : arg10.view.readAt (Elt Ideal) (Rect.unit (s := S4x512x256) ![2, 0, 0] ![1, 512, 128] inb_S4x512x256_S1x512x128_2_0_0).toLoadRect f10 = A 2
  a3 : arg10.view.readAt (Elt Ideal) (Rect.unit (s := S4x512x256) ![3, 0, 0] ![1, 512, 128] inb_S4x512x256_S1x512x128_3_0_0).toLoadRect f10 = A 3
  b0 : arg10.view.readAt (Elt Ideal) (Rect.unit (s := S4x512x256) ![0, 0, 128] ![1, 512, 128] inb_S4x512x256_S1x512x128_0_0_128).toLoadRect f10 = B 0
  b1 : arg10.view.readAt (Elt Ideal) (Rect.unit (s := S4x512x256) ![1, 0, 128] ![1, 512, 128] inb_S4x512x256_S1x512x128_1_0_128).toLoadRect f10 = B 1
  b2 : arg10.view.readAt (Elt Ideal) (Rect.unit (s := S4x512x256) ![2, 0, 128] ![1, 512, 128] inb_S4x512x256_S1x512x128_2_0_128).toLoadRect f10 = B 2
  b3 : arg10.view.readAt (Elt Ideal) (Rect.unit (s := S4x512x256) ![3, 0, 128] ![1, 512, 128] inb_S4x512x256_S1x512x128_3_0_128).toLoadRect f10 = B 3

/-- The scores of the four heads against block `j`. -/
def scs (Q : Fin 4 → FVec Ideal S512x256 .bf16) (x2 x3 : Vec Ideal S1x4096x512 .bf16) (j : ℕ) (h : Fin 4) : FVec Ideal S512x512 .f32 :=
  sc (Q h) (kblk x2 j h) (kblk x3 j h)

/-- One update of the state, by head, from the scores `s` and the values of block `j`. -/
def uM (s : Fin 4 → FVec Ideal S512x512 .f32) (M : Fin 4 → Vec Ideal S1x512x128 .f32) (h : Fin 4) : Vec Ideal S1x512x128 .f32 := mN (s h) (M h)
def uA (s : Fin 4 → FVec Ideal S512x512 .f32) (x4 : Vec Ideal S1x4096x512 .bf16) (j : ℕ) (M A : Fin 4 → Vec Ideal S1x512x128 .f32) (h : Fin 4) : Vec Ideal S1x512x128 .f32 :=
  aN (s h) (M h) (kblk x4 j h) (A h)
def uB (s : Fin 4 → FVec Ideal S512x512 .f32) (x4 : Vec Ideal S1x4096x512 .bf16) (j : ℕ) (M B : Fin 4 → Vec Ideal S1x512x128 .f32) (h : Fin 4) : Vec Ideal S1x512x128 .f32 :=
  bN (s h) (M h) (kblk x4 j h) (B h)

theorem rd (arg : Memref sig .tc .vmem S1x4096x512 .bf16) (harg : arg.IsWhole) (x : Vec Ideal S1x4096x512 .bf16) (j : ℕ) (h : Fin 4) (off : Fin 3 → ℕ) (hoff : off = ![0, 512 * j, 128 * h.val])
    (inb : ∀ a, off a + (![1, 512, 128] : Fin 3 → ℕ) a ≤ S1x4096x512.size a) :
    arg.view.readAt (Elt Ideal) (Rect.unit (s := S1x4096x512) off ![1, 512, 128] inb).toLoadRect (harg.unread x) = kblk x j h := by
  funext y
  rw [View.readAt_apply, harg.read_unread]
  exact ld_kblk x j h off hoff inb y

theorem trips_eq (i : grid0.Coords) : (k0_t1_loop i).trips = (i 2).val / 2 := by
  have h : (i 2).val < 8 := (i 2).isLt
  unfold k0_t1_loop
  dsimp only
  generalize (i 2).val = n at h ⊢
  interval_cases n <;> decide

theorem trip_lt (i : grid0.Coords) (k : Fin (k0_t1_loop i).trips) : k.val < 4 := by
  have := k.isLt
  have h : (i 2).val < 8 := (i 2).isLt
  have e := trips_eq i
  omega

theorem off1_eq (i : grid0.Coords) (k : Fin (k0_t1_loop i).trips) : k0_off1 i k = ![0, 512 * (2 * k.val), 128 * ((0 : Fin 4)).val] := by
  have h := trip_lt i k
  unfold k0_off1
  dsimp only
  generalize k.val = n at h ⊢
  interval_cases n <;> decide
theorem off2_eq (i : grid0.Coords) (k : Fin (k0_t1_loop i).trips) : k0_off2 i k = ![0, 512 * (2 * k.val), 128 * ((1 : Fin 4)).val] := by
  have h := trip_lt i k
  unfold k0_off2
  dsimp only
  generalize k.val = n at h ⊢
  interval_cases n <;> decide
theorem off3_eq (i : grid0.Coords) (k : Fin (k0_t1_loop i).trips) : k0_off3 i k = ![0, 512 * (2 * k.val), 128 * ((2 : Fin 4)).val] := by
  have h := trip_lt i k
  unfold k0_off3
  dsimp only
  generalize k.val = n at h ⊢
  interval_cases n <;> decide
theorem off4_eq (i : grid0.Coords) (k : Fin (k0_t1_loop i).trips) : k0_off4 i k = ![0, 512 * (2 * k.val), 128 * ((3 : Fin 4)).val] := by
  have h := trip_lt i k
  unfold k0_off4
  dsimp only
  generalize k.val = n at h ⊢
  interval_cases n <;> decide
theorem off5_eq (i : grid0.Coords) (k : Fin (k0_t1_loop i).trips) : k0_off5 i k = ![0, 512 * (2 * k.val + 1), 128 * ((0 : Fin 4)).val] := by
  have h := trip_lt i k
  unfold k0_off5
  dsimp only
  generalize k.val = n at h ⊢
  interval_cases n <;> decide
theorem off6_eq (i : grid0.Coords) (k : Fin (k0_t1_loop i).trips) : k0_off6 i k = ![0, 512 * (2 * k.val + 1), 128 * ((1 : Fin 4)).val] := by
  have h := trip_lt i k
  unfold k0_off6
  dsimp only
  generalize k.val = n at h ⊢
  interval_cases n <;> decide
theorem off7_eq (i : grid0.Coords) (k : Fin (k0_t1_loop i).trips) : k0_off7 i k = ![0, 512 * (2 * k.val + 1), 128 * ((2 : Fin 4)).val] := by
  have h := trip_lt i k
  unfold k0_off7
  dsimp only
  generalize k.val = n at h ⊢
  interval_cases n <;> decide
theorem off8_eq (i : grid0.Coords) (k : Fin (k0_t1_loop i).trips) : k0_off8 i k = ![0, 512 * (2 * k.val + 1), 128 * ((3 : Fin 4)).val] := by
  have h := trip_lt i k
  unfold k0_off8
  dsimp only
  generalize k.val = n at h ⊢
  interval_cases n <;> decide

theorem trip_st (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x256 .f32) (harg10 : arg10.IsWhole) (arg2 : BitVec 32) (v13 v18 v23 : FVec Ideal S512x256 .bf16) (v24 v26 : Vec Ideal S1x512x128 .bf16)
    (x2 x3 x4 : Vec Ideal S1x4096x512 .bf16) (k : Fin (k0_t1_loop i).trips) (f9 : BufTy.Contents (Elt Ideal) arg9.view.ty) (f10 : BufTy.Contents (Elt Ideal) arg10.view.ty)
    (M A B : Fin 4 → Vec Ideal S1x512x128 .f32) (hS : St arg9 arg10 f9 f10 M A B)
    (s1 s2 : Fin 4 → FVec Ideal S512x512 .f32) (h1 : s1 = scs ![v13, v18, v23, q2 v24 v26] x2 x3 (2 * k.val)) (h2 : s2 = scs ![v13, v18, v23, q2 v24 v26] x2 x3 (2 * k.val + 1)) :
    St arg9 arg10
      (arg9.view.writes (Elt Ideal) f9 (tripL_k0_t1 (F := Ideal) Variants.none c none i arg3 harg3 arg4 harg4 arg5 harg5 arg6 harg6 arg7 harg7 arg8 harg8 arg9 harg9 arg10 harg10 arg2 (k0_pay370) v13 v18 v23 v24 v26 (harg5.unread x2) (harg6.unread x3) (harg7.unread x4) k f9 f10).1)
      (arg10.view.writes (Elt Ideal) f10 (tripL_k0_t1 (F := Ideal) Variants.none c none i arg3 harg3 arg4 harg4 arg5 harg5 arg6 harg6 arg7 harg7 arg8 harg8 arg9 harg9 arg10 harg10 arg2 (k0_pay370) v13 v18 v23 v24 v26 (harg5.unread x2) (harg6.unread x3) (harg7.unread x4) k f9 f10).2)
      (uM s2 (uM s1 M)) (uA s2 x4 (2 * k.val + 1) (uM s1 M) (uA s1 x4 (2 * k.val) M A)) (uB s2 x4 (2 * k.val + 1) (uM s1 M) (uB s1 x4 (2 * k.val) M B)) := by
  subst h1 h2
  dsimp only [tripL_k0_t1]
  unfold trip_k0_t1
  dsimp only
  sl_unfold_run_names
  constructor <;>
    (simp (disch := decide) only [↓readAt_skip, ↓readAt_same, ↓View.readCov_skip, ↓View.readCov_cons_toLoadRect, List.cons_append, List.append_assoc, List.nil_append]
     simp only [rd _ _ _ _ _ _ (off1_eq i k), rd _ _ _ _ _ _ (off2_eq i k), rd _ _ _ _ _ _ (off3_eq i k), rd _ _ _ _ _ _ (off4_eq i k), rd _ _ _ _ _ _ (off5_eq i k), rd _ _ _ _ _ _ (off6_eq i k), rd _ _ _ _ _ _ (off7_eq i k), rd _ _ _ _ _ _ (off8_eq i k), hS.m0, hS.m1, hS.m2, hS.m3, hS.a0, hS.a1, hS.a2, hS.a3, hS.b0, hS.b1, hS.b2, hS.b3]
     rfl)
end Cert.Proof
-- ==== Proof.Loop.lean ====
/- The loop over the pairs of blocks before the diagonal: the state after it is that of all of them, one block at a time. -/
module

public import proofs.«01_k».proof.Proof.Trip

@[expose] public section
noncomputable section
namespace Cert.Proof
open Cert.KernelIdeal Cert.KernelIdeal.Gen Idealize.ShloMosaic Idealize.ShloMosaic.TcCoe Idealize.ShloMosaic.Tactic Idealize.SL.Sem

/-- The state after the first `j` blocks of keys: maximum −∞ and empty sums at first. -/
def stM (Q : Fin 4 → FVec Ideal S512x256 .bf16) (x2 x3 : Vec Ideal S1x4096x512 .bf16) : ℕ → Fin 4 → Vec Ideal S1x512x128 .f32
  | 0 => fun _ _ => Ideal.ofBits .f32 0xFF800000#32
  | j + 1 => uM (scs Q x2 x3 j) (stM Q x2 x3 j)
def stA (Q : Fin 4 → FVec Ideal S512x256 .bf16) (x2 x3 x4 : Vec Ideal S1x4096x512 .bf16) : ℕ → Fin 4 → Vec Ideal S1x512x128 .f32
  | 0 => fun _ _ => Ideal.ofBits .f32 0x00000000#32
  | j + 1 => uA (scs Q x2 x3 j) x4 j (stM Q x2 x3 j) (stA Q x2 x3 x4 j)
def stB (Q : Fin 4 → FVec Ideal S512x256 .bf16) (x2 x3 x4 : Vec Ideal S1x4096x512 .bf16) : ℕ → Fin 4 → Vec Ideal S1x512x128 .f32
  | 0 => fun _ _ => Ideal.ofBits .f32 0x00000000#32
  | j + 1 => uB (scs Q x2 x3 j) x4 j (stM Q x2 x3 j) (stB Q x2 x3 x4 j)

theorem St.congr {arg9 : Memref sig .tc .vmem S4x512x128 .f32} {arg10 : Memref sig .tc .vmem S4x512x256 .f32} {f9 f9' : BufTy.Contents (Elt Ideal) arg9.view.ty} {f10 f10' : BufTy.Contents (Elt Ideal) arg10.view.ty}
    {M M' A A' B B' : Fin 4 → Vec Ideal S1x512x128 .f32} (h : St arg9 arg10 f9 f10 M A B) (e9 : f9' = f9) (e10 : f10' = f10) (eM : M' = M) (eA : A' = A) (eB : B' = B) :
    St arg9 arg10 f9' f10' M' A' B' := by
  subst e9 e10 eM eA eB; exact h

theorem fill9 (arg9 : Memref sig .tc .vmem S4x512x128 .f32) (r : Rect S4x512x128) : arg9.view.readAt (Elt Ideal) r.toLoadRect (arg9.view.writes (Elt Ideal) arg9.view.junk [⟨Rect.unit (s := S4x512x128) ![0, 0, 0] ![4, 512, 128] inb_S4x512x128_S4x512x128_0_0_0, k0_pay371 (F := Ideal)⟩]) = fun _ => Ideal.ofBits .f32 0xFF800000#32 := by
  refine (View.readCov_fill (Val := Elt Ideal) arg9.view inb_S4x512x128_S4x512x128_0_0_0 (k0_pay371 (F := Ideal)) [] r (by decide)).trans ?_
  funext y; rfl
theorem fill10 (arg10 : Memref sig .tc .vmem S4x512x256 .f32) (r : Rect S4x512x256) : arg10.view.readAt (Elt Ideal) r.toLoadRect (arg10.view.writes (Elt Ideal) arg10.view.junk [⟨Rect.unit (s := S4x512x256) ![0, 0, 0] ![4, 512, 256] inb_S4x512x256_S4x512x256_0_0_0, k0_pay372 (F := Ideal)⟩]) = fun _ => Ideal.ofBits .f32 0x00000000#32 := by
  refine (View.readCov_fill (Val := Elt Ideal) arg10.view inb_S4x512x256_S4x512x256_0_0_0 (k0_pay372 (F := Ideal)) [] r (by decide)).trans ?_
  funext y; rfl

theorem init_st (arg9 : Memref sig .tc .vmem S4x512x128 .f32) (arg10 : Memref sig .tc .vmem S4x512x256 .f32) (Q : Fin 4 → FVec Ideal S512x256 .bf16) (x2 x3 x4 : Vec Ideal S1x4096x512 .bf16) :
    St arg9 arg10 (arg9.view.writes (Elt Ideal) arg9.view.junk [⟨Rect.unit (s := S4x512x128) ![0, 0, 0] ![4, 512, 128] inb_S4x512x128_S4x512x128_0_0_0, k0_pay371 (F := Ideal)⟩])
      (arg10.view.writes (Elt Ideal) arg10.view.junk [⟨Rect.unit (s := S4x512x256) ![0, 0, 0] ![4, 512, 256] inb_S4x512x256_S4x512x256_0_0_0, k0_pay372 (F := Ideal)⟩]) (stM Q x2 x3 0) (stA Q x2 x3 x4 0) (stB Q x2 x3 x4 0) := by
  exact ⟨fill9 _ _, fill9 _ _, fill9 _ _, fill9 _ _, fill10 _ _, fill10 _ _, fill10 _ _, fill10 _ _, fill10 _ _, fill10 _ _, fill10 _ _, fill10 _ _⟩

theorem loop_st (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x256 .f32) (harg10 : arg10.IsWhole) (arg2 : BitVec 32) (v13 v18 v23 : FVec Ideal S512x256 .bf16) (v24 v26 : Vec Ideal S1x512x128 .bf16)
    (x2 x3 x4 : Vec Ideal S1x4096x512 .bf16) (n : ℕ) (hn : n ≤ (k0_t1_loop i).trips) :
    St arg9 arg10
      (arg9.view.writes (Elt Ideal) (arg9.view.writes (Elt Ideal) arg9.view.junk [⟨Rect.unit (s := S4x512x128) ![0, 0, 0] ![4, 512, 128] inb_S4x512x128_S4x512x128_0_0_0, k0_pay371 (F := Ideal)⟩]) (pb_k0_t1 (F := Ideal) Variants.none c none i arg3 harg3 arg4 harg4 arg5 harg5 arg6 harg6 arg7 harg7 arg8 harg8 arg9 harg9 arg10 harg10 arg2 k0_pay370 v13 v18 v23 v24 v26 (harg5.unread x2) (harg6.unread x3) (harg7.unread x4)
      (arg9.view.writes (Elt Ideal) arg9.view.junk [⟨Rect.unit (s := S4x512x128) ![0, 0, 0] ![4, 512, 128] inb_S4x512x128_S4x512x128_0_0_0, k0_pay371 (F := Ideal)⟩])
      (arg10.view.writes (Elt Ideal) arg10.view.junk [⟨Rect.unit (s := S4x512x256) ![0, 0, 0] ![4, 512, 256] inb_S4x512x256_S4x512x256_0_0_0, k0_pay372 (F := Ideal)⟩]) n).1)
      (arg10.view.writes (Elt Ideal) (arg10.view.writes (Elt Ideal) arg10.view.junk [⟨Rect.unit (s := S4x512x256) ![0, 0, 0] ![4, 512, 256] inb_S4x512x256_S4x512x256_0_0_0, k0_pay372 (F := Ideal)⟩]) (pb_k0_t1 (F := Ideal) Variants.none c none i arg3 harg3 arg4 harg4 arg5 harg5 arg6 harg6 arg7 harg7 arg8 harg8 arg9 harg9 arg10 harg10 arg2 k0_pay370 v13 v18 v23 v24 v26 (harg5.unread x2) (harg6.unread x3) (harg7.unread x4)
      (arg9.view.writes (Elt Ideal) arg9.view.junk [⟨Rect.unit (s := S4x512x128) ![0, 0, 0] ![4, 512, 128] inb_S4x512x128_S4x512x128_0_0_0, k0_pay371 (F := Ideal)⟩])
      (arg10.view.writes (Elt Ideal) arg10.view.junk [⟨Rect.unit (s := S4x512x256) ![0, 0, 0] ![4, 512, 256] inb_S4x512x256_S4x512x256_0_0_0, k0_pay372 (F := Ideal)⟩]) n).2)
      (stM ![v13, v18, v23, q2 v24 v26] x2 x3 (2 * n)) (stA ![v13, v18, v23, q2 v24 v26] x2 x3 x4 (2 * n)) (stB ![v13, v18, v23, q2 v24 v26] x2 x3 x4 (2 * n)) := by
  induction n with
  | zero => exact init_st arg9 arg10 _ x2 x3 x4
  | succ n ih =>
    have e := pb_k0_t1_succ (F := Ideal) Variants.none c none i arg3 harg3 arg4 harg4 arg5 harg5 arg6 harg6 arg7 harg7 arg8 harg8 arg9 harg9 arg10 harg10 arg2 k0_pay370 v13 v18 v23 v24 v26 (harg5.unread x2) (harg6.unread x3) (harg7.unread x4)
      (arg9.view.writes (Elt Ideal) arg9.view.junk [⟨Rect.unit (s := S4x512x128) ![0, 0, 0] ![4, 512, 128] inb_S4x512x128_S4x512x128_0_0_0, k0_pay371 (F := Ideal)⟩])
      (arg10.view.writes (Elt Ideal) arg10.view.junk [⟨Rect.unit (s := S4x512x256) ![0, 0, 0] ![4, 512, 256] inb_S4x512x256_S4x512x256_0_0_0, k0_pay372 (F := Ideal)⟩]) ⟨n, hn⟩
    have t := trip_st c i arg3 harg3 arg4 harg4 arg5 harg5 arg6 harg6 arg7 harg7 arg8 harg8 arg9 harg9 arg10 harg10 arg2 v13 v18 v23 v24 v26 x2 x3 x4 ⟨n, hn⟩ _ _ _ _ _ (ih (Nat.le_of_succ_le hn)) _ _ rfl rfl
    refine t.congr ?_ ?_ rfl rfl rfl
    · exact (congrArg (fun p => arg9.view.writes (Elt Ideal) _ p.1) e).trans (View.writes_append _ _ _ _)
    · exact (congrArg (fun p => arg10.view.writes (Elt Ideal) _ p.2) e).trans (View.writes_append _ _ _ _)

theorem trips2_eq (i : grid0.Coords) : (k0_t2_loop i).trips = 0 := by
  have h : (i 2).val < 8 := (i 2).isLt
  unfold k0_t2_loop
  dsimp only
  generalize (i 2).val = n at h ⊢
  interval_cases n <;> decide

/-- The second loop (what a pair loop leaves over) makes no trip. -/
theorem pb2_nil (𝒱 : Variants) (c : Dev nD) (bd : Option 𝒱.V) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x256 .f32) (harg10 : arg10.IsWhole) (arg2 : BitVec 32) (v0 : FVec Ideal S512x128 .bf16) (v13 v18 v23 : FVec Ideal S512x256 .bf16) (v24 v26 : Vec Ideal S1x512x128 .bf16) (v50 : BitVec 32) (X5 X6 X7 G9 G10) (n : ℕ) (hn : n = (k0_t2_loop i).trips) :
    pb_k0_t2 (F := Ideal) 𝒱 c bd i arg3 harg3 arg4 harg4 arg5 harg5 arg6 harg6 arg7 harg7 arg8 harg8 arg9 harg9 arg10 harg10 arg2 v0 v13 v18 v23 v24 v26 v50 X5 X6 X7 G9 G10 n = ([], []) := by
  rw [hn, trips2_eq]; rfl

theorem readCov_app {sig : RefSig} {κ : Kind} {sp : Space} {s : Shape} {e : EltTy} (v : View sig κ sp s e) (L : List (View.Piece (Elt Ideal) s e)) (p : View.Piece (Elt Ideal) s e) (B : LoadRect s) :
    v.readCov (L ++ [p]) B = v.readAt (Elt Ideal) B (v.writes (Elt Ideal) (v.writes (Elt Ideal) v.junk [p]) L) := by
  show v.readAt (Elt Ideal) B (v.writes (Elt Ideal) v.junk (L ++ [p])) = _
  rw [View.writes_append]
end Cert.Proof
-- ==== Proof.Cases.lean ====
/- What one grid point writes: the state of all the blocks before the diagonal, updated with the masked diagonal block,
   and divided. The kernel runs two texts, for even and for odd query blocks; both come to the same. -/
module

public import proofs.«01_k».proof.Proof.Loop

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

/-- Head `h`'s lanes of a query block, and the queries with their bias lanes by head. -/
def qblk (x : Vec Ideal S1x512x512 .bf16) (h : Fin 4) : Vec Ideal S1x512x128 .bf16 :=
  fun y => x (ix3 0 (y 1) ⟨128 * h.val + (y 2).val, by have : (y 2).val < 128 := (y 2).isLt; omega⟩)
def qs (x0 x1 : Vec Ideal S1x512x512 .bf16) (h : Fin 4) : FVec Ideal S512x256 .bf16 := q2 (qblk x0 h) (qblk x1 h)

theorem rdq (arg : Memref sig .tc .vmem S1x512x512 .bf16) (harg : arg.IsWhole) (x : Vec Ideal S1x512x512 .bf16) (h : Fin 4) (off : Fin 3 → ℕ) (hoff : off = ![0, 0, 128 * h.val])
    (inb : ∀ a, off a + (![1, 512, 128] : Fin 3 → ℕ) a ≤ S1x512x512.size a) :
    arg.view.readAt (Elt Ideal) (Rect.unit (s := S1x512x512) off ![1, 512, 128] inb).toLoadRect (harg.unread x) = qblk x h := by
  subst hoff
  funext y
  rw [View.readAt_apply, harg.read_unread]
  refine congrArg x (funext fun a => Fin.ext ?_)
  have h0 : (y 0).val < 1 := (y 0).isLt
  fin_cases a
  · show 0 + 1 * (y 0).val = 0
    omega
  · show 0 + 1 * (y 1).val = (y 1).val
    omega
  · show 128 * h.val + 1 * (y 2).val = 128 * h.val + (y 2).val
    omega

/-- The scores of the four heads against the diagonal block. -/
def scsM (Q : Fin 4 → FVec Ideal S512x256 .bf16) (x2 x3 : Vec Ideal S1x4096x512 .bf16) (j : ℕ) (h : Fin 4) : FVec Ideal S512x512 .f32 :=
  scM (Q h) (kblk x2 j h) (kblk x3 j h)

/-- One head's output. -/
def oN (Q : Fin 4 → FVec Ideal S512x256 .bf16) (x2 x3 x4 : Vec Ideal S1x4096x512 .bf16) (i : ℕ) (h : Fin 4) : FVec Ideal S1x512x128 .bf16 :=
  k0_pay1 (uA (scsM Q x2 x3 i) x4 i (stM Q x2 x3 i) (stA Q x2 x3 x4 i) h) (uB (scsM Q x2 x3 i) x4 i (stM Q x2 x3 i) (stB Q x2 x3 x4 i) h)

/-- The block written: the four heads' outputs side by side. -/
def outs (Q : Fin 4 → FVec Ideal S512x256 .bf16) (x2 x3 x4 : Vec Ideal S1x4096x512 .bf16) (i : ℕ) : Vec Ideal S1x512x512 .bf16 :=
  View.canon (Val := Elt Ideal) (s := S1x512x512) (e := .bf16)
    [⟨Rect.unit (s := S1x512x512) ![0, 0, 384] ![1, 512, 128] inb_S1x512x512_S1x512x128_0_0_384, oN Q x2 x3 x4 i 3⟩,
     ⟨Rect.unit (s := S1x512x512) ![0, 0, 256] ![1, 512, 128] inb_S1x512x512_S1x512x128_0_0_256, oN Q x2 x3 x4 i 2⟩,
     ⟨Rect.unit (s := S1x512x512) ![0, 0, 128] ![1, 512, 128] inb_S1x512x512_S1x512x128_0_0_128, oN Q x2 x3 x4 i 1⟩,
     ⟨Rect.unit (s := S1x512x512) ![0, 0, 0] ![1, 512, 128] inb_S1x512x512_S1x512x128_0_0_0, oN Q x2 x3 x4 i 0⟩]

theorem off17_eq (i : grid0.Coords) (h1 : (i 2).val % 2 = 1) : k0_off17 i = ![0, 512 * ((i 2).val - 1), 128 * ((0 : Fin 4)).val] := by
  have h : (i 2).val < 8 := (i 2).isLt
  unfold k0_off17
  dsimp only
  generalize (i 2).val = n at h h1 ⊢
  interval_cases n <;> first | exact absurd h1 (by decide) | decide
theorem off18_eq (i : grid0.Coords) (h1 : (i 2).val % 2 = 1) : k0_off18 i = ![0, 512 * ((i 2).val - 1), 128 * ((1 : Fin 4)).val] := by
  have h : (i 2).val < 8 := (i 2).isLt
  unfold k0_off18
  dsimp only
  generalize (i 2).val = n at h h1 ⊢
  interval_cases n <;> first | exact absurd h1 (by decide) | decide
theorem off19_eq (i : grid0.Coords) (h1 : (i 2).val % 2 = 1) : k0_off19 i = ![0, 512 * ((i 2).val - 1), 128 * ((2 : Fin 4)).val] := by
  have h : (i 2).val < 8 := (i 2).isLt
  unfold k0_off19
  dsimp only
  generalize (i 2).val = n at h h1 ⊢
  interval_cases n <;> first | exact absurd h1 (by decide) | decide
theorem off20_eq (i : grid0.Coords) (h1 : (i 2).val % 2 = 1) : k0_off20 i = ![0, 512 * ((i 2).val - 1), 128 * ((3 : Fin 4)).val] := by
  have h : (i 2).val < 8 := (i 2).isLt
  unfold k0_off20
  dsimp only
  generalize (i 2).val = n at h h1 ⊢
  interval_cases n <;> first | exact absurd h1 (by decide) | decide
theorem off21_eq (i : grid0.Coords) : k0_off21 i = ![0, 512 * (i 2).val, 128 * ((0 : Fin 4)).val] := by
  have h : (i 2).val < 8 := (i 2).isLt
  unfold k0_off21
  dsimp only
  generalize (i 2).val = n at h ⊢
  interval_cases n <;> decide
theorem off22_eq (i : grid0.Coords) : k0_off22 i = ![0, 512 * (i 2).val, 128 * ((1 : Fin 4)).val] := by
  have h : (i 2).val < 8 := (i 2).isLt
  unfold k0_off22
  dsimp only
  generalize (i 2).val = n at h ⊢
  interval_cases n <;> decide
theorem off23_eq (i : grid0.Coords) : k0_off23 i = ![0, 512 * (i 2).val, 128 * ((2 : Fin 4)).val] := by
  have h : (i 2).val < 8 := (i 2).isLt
  unfold k0_off23
  dsimp only
  generalize (i 2).val = n at h ⊢
  interval_cases n <;> decide
theorem off24_eq (i : grid0.Coords) : k0_off24 i = ![0, 512 * (i 2).val, 128 * ((3 : Fin 4)).val] := by
  have h : (i 2).val < 8 := (i 2).isLt
  unfold k0_off24
  dsimp only
  generalize (i 2).val = n at h ⊢
  interval_cases n <;> decide
theorem off25_eq (i : grid0.Coords) : k0_off25 i = ![0, 512 * (i 2).val, 128 * ((0 : Fin 4)).val] := by
  have h : (i 2).val < 8 := (i 2).isLt
  unfold k0_off25
  dsimp only
  generalize (i 2).val = n at h ⊢
  interval_cases n <;> decide
theorem off26_eq (i : grid0.Coords) : k0_off26 i = ![0, 512 * (i 2).val, 128 * ((1 : Fin 4)).val] := by
  have h : (i 2).val < 8 := (i 2).isLt
  unfold k0_off26
  dsimp only
  generalize (i 2).val = n at h ⊢
  interval_cases n <;> decide
theorem off27_eq (i : grid0.Coords) : k0_off27 i = ![0, 512 * (i 2).val, 128 * ((2 : Fin 4)).val] := by
  have h : (i 2).val < 8 := (i 2).isLt
  unfold k0_off27
  dsimp only
  generalize (i 2).val = n at h ⊢
  interval_cases n <;> decide
theorem off28_eq (i : grid0.Coords) : k0_off28 i = ![0, 512 * (i 2).val, 128 * ((3 : Fin 4)).val] := by
  have h : (i 2).val < 8 := (i 2).isLt
  unfold k0_off28
  dsimp only
  generalize (i 2).val = n at h ⊢
  interval_cases n <;> decide

theorem out_A (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x256 .f32) (harg10 : arg10.IsWhole) (hc0 : ¬cond0_0 i) (hc1 : cond0_1 i)(h0 : (i 2).val % 2 = 0)
    (x0 x1 : Vec Ideal S1x512x512 .bf16) (x2 x3 x4 : Vec Ideal S1x4096x512 .bf16) :
    out0_A_5 c i arg3 harg3 arg4 harg4 arg5 harg5 arg6 harg6 arg7 harg7 arg8 harg8 arg9 harg9 arg10 harg10 hc0 hc1 x0 x1 x2 x3 x4 = outs (qs x0 x1) x2 x3 x4 (i 2).val := by
  have e1 := trips_eq i
  have hS := fun n (hn : n = (k0_t1_loop i).trips) => loop_st c i arg3 harg3 arg4 harg4 arg5 harg5 arg6 harg6 arg7 harg7 arg8 harg8 arg9 harg9 arg10 harg10 (BitVec.ofNat 32 (i 2).val) (k0_pay373 (qblk x0 0) (qblk x1 0)) (k0_pay374 (qblk x0 1) (qblk x1 1)) (k0_pay375 (qblk x0 2) (qblk x1 2)) (qblk x0 3) (qblk x1 3) x2 x3 x4 n hn.le
  have eQ : ![k0_pay373 (qblk x0 0) (qblk x1 0), k0_pay374 (qblk x0 1) (qblk x1 1), k0_pay375 (qblk x0 2) (qblk x1 2), q2 (qblk x0 3) (qblk x1 3)] = qs x0 x1 := funext fun h => by fin_cases h <;> rfl
  have hS : ∀ n (hn : n = (k0_t1_loop i).trips), _ := fun n hn => (hS n hn).congr rfl rfl (M' := stM (qs x0 x1) x2 x3 ((i 2).val)) (A' := stA (qs x0 x1) x2 x3 x4 ((i 2).val)) (B' := stB (qs x0 x1) x2 x3 x4 ((i 2).val))
    (by rw [eQ, show 2 * n = (i 2).val by omega]) (by rw [eQ, show 2 * n = (i 2).val by omega]) (by rw [eQ, show 2 * n = (i 2).val by omega])
  unfold out0_A_5 kernelRun0_A
  dsimp only
  sl_unfold_run_names
  simp (disch := decide) only [↓View.readCov_skip, ↓View.readCov_cons_toLoadRect, List.cons_append, List.append_assoc, List.nil_append]
  rw [View.read_writes_junk_eq_canon]
  simp (disch := exact rfl) only [pb2_nil, List.nil_append, readCov_app, rdq _ _ _ 0 ![0, 0, 0] rfl, rdq _ _ _ 1 ![0, 0, 128] rfl, rdq _ _ _ 2 ![0, 0, 256] rfl, rdq _ _ _ 3 ![0, 0, 384] rfl, rd _ _ _ _ _ _ (off25_eq i), rd _ _ _ _ _ _ (off26_eq i), rd _ _ _ _ _ _ (off27_eq i), rd _ _ _ _ _ _ (off28_eq i)]
  simp (disch := exact rfl) only [(fun n hn => (hS n hn).m0), (fun n hn => (hS n hn).m1), (fun n hn => (hS n hn).m2), (fun n hn => (hS n hn).m3), (fun n hn => (hS n hn).a0), (fun n hn => (hS n hn).a1), (fun n hn => (hS n hn).a2), (fun n hn => (hS n hn).a3), (fun n hn => (hS n hn).b0), (fun n hn => (hS n hn).b1), (fun n hn => (hS n hn).b2), (fun n hn => (hS n hn).b3)]
  rfl

theorem out_B (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x256 .f32) (harg10 : arg10.IsWhole) (hc0 : cond0_0 i) (hc1 : ¬cond0_1 i)(h1 : (i 2).val % 2 = 1)
    (x0 x1 : Vec Ideal S1x512x512 .bf16) (x2 x3 x4 : Vec Ideal S1x4096x512 .bf16) :
    out0_B_5 c i arg3 harg3 arg4 harg4 arg5 harg5 arg6 harg6 arg7 harg7 arg8 harg8 arg9 harg9 arg10 harg10 hc0 hc1 x0 x1 x2 x3 x4 = outs (qs x0 x1) x2 x3 x4 (i 2).val := by
  have e1 := trips_eq i
  have hS := fun n (hn : n = (k0_t1_loop i).trips) => loop_st c i arg3 harg3 arg4 harg4 arg5 harg5 arg6 harg6 arg7 harg7 arg8 harg8 arg9 harg9 arg10 harg10 (BitVec.ofNat 32 (i 2).val) (k0_pay373 (qblk x0 0) (qblk x1 0)) (k0_pay374 (qblk x0 1) (qblk x1 1)) (k0_pay375 (qblk x0 2) (qblk x1 2)) (qblk x0 3) (qblk x1 3) x2 x3 x4 n hn.le
  have eQ : ![k0_pay373 (qblk x0 0) (qblk x1 0), k0_pay374 (qblk x0 1) (qblk x1 1), k0_pay375 (qblk x0 2) (qblk x1 2), q2 (qblk x0 3) (qblk x1 3)] = qs x0 x1 := funext fun h => by fin_cases h <;> rfl
  have hS : ∀ n (hn : n = (k0_t1_loop i).trips), _ := fun n hn => (hS n hn).congr rfl rfl (M' := stM (qs x0 x1) x2 x3 ((i 2).val - 1)) (A' := stA (qs x0 x1) x2 x3 x4 ((i 2).val - 1)) (B' := stB (qs x0 x1) x2 x3 x4 ((i 2).val - 1))
    (by rw [eQ, show 2 * n = (i 2).val - 1 by omega]) (by rw [eQ, show 2 * n = (i 2).val - 1 by omega]) (by rw [eQ, show 2 * n = (i 2).val - 1 by omega])
  unfold out0_B_5 kernelRun0_B
  dsimp only
  sl_unfold_run_names
  simp (disch := decide) only [↓View.readCov_skip, ↓View.readCov_cons_toLoadRect, List.cons_append, List.append_assoc, List.nil_append]
  rw [View.read_writes_junk_eq_canon]
  simp (disch := exact rfl) only [pb2_nil, List.nil_append, readCov_app, rdq _ _ _ 0 ![0, 0, 0] rfl, rdq _ _ _ 1 ![0, 0, 128] rfl, rdq _ _ _ 2 ![0, 0, 256] rfl, rdq _ _ _ 3 ![0, 0, 384] rfl, rd _ _ _ _ _ _ (off17_eq i h1), rd _ _ _ _ _ _ (off18_eq i h1), rd _ _ _ _ _ _ (off19_eq i h1), rd _ _ _ _ _ _ (off20_eq i h1), rd _ _ _ _ _ _ (off21_eq i), rd _ _ _ _ _ _ (off22_eq i), rd _ _ _ _ _ _ (off23_eq i), rd _ _ _ _ _ _ (off24_eq i)]
  simp (disch := exact rfl) only [(fun n hn => (hS n hn).m0), (fun n hn => (hS n hn).m1), (fun n hn => (hS n hn).m2), (fun n hn => (hS n hn).m3), (fun n hn => (hS n hn).a0), (fun n hn => (hS n hn).a1), (fun n hn => (hS n hn).a2), (fun n hn => (hS n hn).a3), (fun n hn => (hS n hn).b0), (fun n hn => (hS n hn).b1), (fun n hn => (hS n hn).b2), (fun n hn => (hS n hn).b3)]
  have hj : (i 2).val = (i 2).val - 1 + 1 := by omega
  have eM : stM (qs x0 x1) x2 x3 (i 2).val = uM (scs (qs x0 x1) x2 x3 ((i 2).val - 1)) (stM (qs x0 x1) x2 x3 ((i 2).val - 1)) := (congrArg (stM (qs x0 x1) x2 x3) hj).trans rfl
  have eA : stA (qs x0 x1) x2 x3 x4 (i 2).val = uA (scs (qs x0 x1) x2 x3 ((i 2).val - 1)) x4 ((i 2).val - 1) (stM (qs x0 x1) x2 x3 ((i 2).val - 1)) (stA (qs x0 x1) x2 x3 x4 ((i 2).val - 1)) := (congrArg (stA (qs x0 x1) x2 x3 x4) hj).trans rfl
  have eB : stB (qs x0 x1) x2 x3 x4 (i 2).val = uB (scs (qs x0 x1) x2 x3 ((i 2).val - 1)) x4 ((i 2).val - 1) (stM (qs x0 x1) x2 x3 ((i 2).val - 1)) (stB (qs x0 x1) x2 x3 x4 ((i 2).val - 1)) := (congrArg (stB (qs x0 x1) x2 x3 x4) hj).trans rfl
  simp only [outs, oN, eM, eA, eB]
  rfl
end Cert.Proof
-- ==== Proof.Row.lean ====
/- The update and the scores read at one row: what a lane of the new state is, in extended reals. -/
module

public import proofs.«01_k».proof.Proof.Cases

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

theorem ninf : Ideal.ofBits .f32 0xFF800000#32 = ⊥ := by simp [Ideal.ofBits, Ideal.ieee]

/-- Comparing two small numbers as signed words. -/
theorem sle_nat (a b : ℕ) (ha : a < 4096) (hb : b < 4096) : IntOp.cmpi .sle (BitVec.ofNat 32 a) (BitVec.ofNat 32 b) = if a ≤ b then 1#1 else 0#1 := by
  have h : ∀ n : ℕ, n < 4096 → (BitVec.ofNat 32 n).toInt = n := fun n hn => by
    rw [BitVec.toInt_eq_toNat_of_lt (by rw [BitVec.toNat_ofNat]; omega), BitVec.toNat_ofNat]; omega
  simp only [IntOp.cmpi, BitVec.sle, h a ha, h b hb]
  by_cases hab : a ≤ b <;> simp [hab]

/-- The largest score of a row. -/
def rs (s : FVec Ideal S512x512 .f32) (r : Fin 512) : EReal :=
  Finset.fold max (Ideal.ofBits .f32 4286578688#32) (fun x : Fin 128 => max (max (max (s (ix2 r ⟨x.val, by omega⟩)) (s (ix2 r ⟨128 + x.val, by omega⟩))) (s (ix2 r ⟨256 + x.val, by omega⟩))) (s (ix2 r ⟨384 + x.val, by omega⟩))) Finset.univ

theorem sc_at (q qx k kx : Vec Ideal S1x512x128 .bf16) (r c : Fin 512) :
    sc (q2 q qx) k kx (ix2 r c) = ∑ e : Fin 128, q (ix3 0 r e) * k (ix3 0 c e) + ∑ e : Fin 128, qx (ix3 0 r e) * kx (ix3 0 c e) := by
  pointwise [sc, q2, k0_pay2, k0_pay376]
theorem scM_at (q : FVec Ideal S512x256 .bf16) (k kx : Vec Ideal S1x512x128 .bf16) (r c : Fin 512) :
    scM q k kx (ix2 r c) = if c.val ≤ r.val then sc q k kx (ix2 r c) else ⊥ := by
  pointwise [scM]
  rw [sle_nat _ _ (by omega) (by omega), ninf]
  split
  · rfl
  · rfl
theorem mF_at (s : FVec Ideal S512x512 .f32) (m : Vec Ideal S1x512x128 .f32) (r : Fin 512) (l : Fin 128) :
    mF s m (ix2 r l) = max (m (ix3 0 r l)) (rs s r) := by
  pointwise [mF, c0, c1, c2, c3]
  rfl
theorem mN_at (s : FVec Ideal S512x512 .f32) (m : Vec Ideal S1x512x128 .f32) (r : Fin 512) (l : Fin 128) :
    mN s m (ix3 0 r l) = max (m (ix3 0 r l)) (rs s r) := by
  rw [← mF_at]
  pointwise [mN]
theorem wt_at (s : FVec Ideal S512x512 .f32) (m : Vec Ideal S1x512x128 .f32) (r : Fin 512) (μ : EReal) (hm : ∀ l, m (ix3 0 r l) = μ) (l : Fin 512) :
    wt s m (ix2 r l) = Ideal.exp2 (s (ix2 r l) - max μ (rs s r)) := by
  pointwise [wt, c0, c1, c2, c3]
  simp only [mF_at, hm]
  split
  · rfl
  split
  · exact congrArg (fun x => Ideal.exp2 (s (ix2 r x) - max μ (rs s r))) (Fin.ext (by simp only; omega))
  split
  · exact congrArg (fun x => Ideal.exp2 (s (ix2 r x) - max μ (rs s r))) (Fin.ext (by simp only; omega))
  · exact congrArg (fun x => Ideal.exp2 (s (ix2 r x) - max μ (rs s r))) (Fin.ext (by simp only; omega))
theorem aN_at (s : FVec Ideal S512x512 .f32) (m : Vec Ideal S1x512x128 .f32)  (v : Vec Ideal S1x512x128 .bf16) (a : Vec Ideal S1x512x128 .f32) (r : Fin 512) (l : Fin 128) (μ : EReal) (hm : ∀ l, m (ix3 0 r l) = μ) :
    aN s m v a (ix3 0 r l) = Ideal.exp2 (μ - max μ (rs s r)) * a (ix3 0 r l) + ∑ c : Fin 512, Ideal.exp2 (s (ix2 r c) - max μ (rs s r)) * v (ix3 0 c l) := by
  pointwise [aN, pv, al]
  simp only [mF_at, hm, wt_at s m r μ hm]
  rfl
theorem bN_at (s : FVec Ideal S512x512 .f32) (m : Vec Ideal S1x512x128 .f32)  (v : Vec Ideal S1x512x128 .bf16) (a : Vec Ideal S1x512x128 .f32) (r : Fin 512) (l : Fin 128) (μ : EReal) (hm : ∀ l, m (ix3 0 r l) = μ) :
    bN s m v a (ix3 0 r l) = Ideal.exp2 (μ - max μ (rs s r)) * a (ix3 0 r l) + ∑ c : Fin 512, Ideal.exp2 (s (ix2 r c) - max μ (rs s r)) * 1 := by
  pointwise [bN, pv, al, k0_pay370]
  simp only [mF_at, hm, wt_at s m r μ hm, mul_one]
  rfl
theorem div_at (a b : Vec Ideal S1x512x128 .f32) (r : Fin 512) (l : Fin 128) : k0_pay1 a b (ix3 0 r l) = Ideal.div (a (ix3 0 r l)) (b (ix3 0 r l)) := by
  pointwise [k0_pay1]

theorem rs_ne_top (s : FVec Ideal S512x512 .f32) (r : Fin 512) (h : ∀ c, s (ix2 r c) ≠ ⊤) : rs s r ≠ ⊤ := by
  rw [← lt_top_iff_ne_top, rs, Finset.fold_max_lt]
  refine ⟨by rw [ninf]; exact bot_lt_top, fun x _ => ?_⟩
  rw [max_lt_iff, max_lt_iff, max_lt_iff, lt_top_iff_ne_top, lt_top_iff_ne_top, lt_top_iff_ne_top, lt_top_iff_ne_top]
  exact ⟨⟨⟨h _, h _⟩, h _⟩, h _⟩
theorem rs_ge (s : FVec Ideal S512x512 .f32) (r : Fin 512) : s (ix2 r 0) ≤ rs s r := by
  rw [rs, Finset.le_fold_max]
  exact .inr ⟨0, Finset.mem_univ _, le_max_of_le_left (le_max_of_le_left (le_max_of_le_left le_rfl))⟩

/-- The new maximum of a row with one number in it is a number. -/
theorem max_real (s : FVec Ideal S512x512 .f32) (r : Fin 512) (h : ∀ c, s (ix2 r c) ≠ ⊤) (h0 : s (ix2 r 0) ≠ ⊥) (μ : EReal) (hμ : μ ≠ ⊤) : ∃ m : ℝ, max μ (rs s r) = m := by
  refine ⟨(max μ (rs s r)).toReal, (EReal.coe_toReal ?_ ?_).symm⟩
  · rw [← lt_top_iff_ne_top, max_lt_iff, lt_top_iff_ne_top, lt_top_iff_ne_top]; exact ⟨hμ, rs_ne_top s r h⟩
  · rw [← bot_lt_iff_ne_bot] at *
    exact lt_of_lt_of_le h0 ((rs_ge s r).trans (le_max_right _ _))
end Cert.Proof
-- ==== Proof.Online.lean ====
/- The mathematics of the running softmax, on extended reals: weights `2^(s − m)` kept with their maximum so far `m`,
   rescaled when the maximum grows, and divided at the end, are the softmax's weights. -/
module

public import Idealize.ShloMosaic.PureOps.Ideal.Laws
public import Mathlib.Analysis.SpecialFunctions.Pow.Real

@[expose] public section
noncomputable section
namespace Cert.Proof
open Idealize.ShloMosaic

/-- A nonnegative real factor goes into a sum of extended reals. -/
theorem coe_mul_sum {ι : Type} (T : Finset ι) (r : ℝ) (hr : 0 ≤ r) (f : ι → EReal) : (r : EReal) * ∑ t ∈ T, f t = ∑ t ∈ T, (r : EReal) * f t := by
  classical
  induction T using Finset.induction_on with
  | empty => simp
  | insert a T ha ih =>
    rw [Finset.sum_insert ha, Finset.sum_insert ha, EReal.left_distrib_of_nonneg_of_ne_top (by exact_mod_cast hr) (EReal.coe_ne_top r), ih]

theorem coe_sum {ι : Type} (T : Finset ι) (f : ι → ℝ) : ((∑ t ∈ T, f t : ℝ) : EReal) = ∑ t ∈ T, (f t : EReal) := by
  classical
  induction T using Finset.induction_on with
  | empty => simp
  | insert a T ha ih => rw [Finset.sum_insert ha, Finset.sum_insert ha, EReal.coe_add, ih]

/-- Moving a weight from the maximum `a` to the maximum `b`. -/
theorem exp2_shift (x : EReal) (hx : x ≠ ⊤) (a b : ℝ) : Ideal.exp2 ((a : EReal) - (b : EReal)) * Ideal.exp2 (x - (a : EReal)) = Ideal.exp2 (x - (b : EReal)) := by
  induction x using EReal.rec with
  | bot => simp
  | top => exact absurd rfl hx
  | coe x =>
    rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (x - a) = (2 : ℝ) ^ (x - b)
    rw [← Real.rpow_add (by norm_num)]
    congr 1; ring

/-- One rescaling and one more block: the sum over `N` keys at the old maximum becomes the sum over `N + n` at the new. -/
theorem upd_sum (S w : ℕ → EReal) (hS : ∀ t, S t ≠ ⊤) (N n : ℕ) (μ μ' : EReal) (m' : ℝ) (hμ' : μ' = m') (hμ : N = 0 ∨ ∃ m : ℝ, μ = m) (a : EReal)
    (ha : a = ∑ t ∈ Finset.range N, Ideal.exp2 (S t - μ) * w t) :
    Ideal.exp2 (μ - μ') * a + ∑ c : Fin n, Ideal.exp2 (S (N + c.val) - μ') * w (N + c.val) = ∑ t ∈ Finset.range (N + n), Ideal.exp2 (S t - μ') * w t := by
  rw [Finset.sum_range_add, ← Finset.sum_range (fun c => Ideal.exp2 (S (N + c) - μ') * w (N + c))]
  congr 1
  subst hμ'
  rcases hμ with rfl | ⟨m, rfl⟩
  · rw [ha]; simp
  · rw [ha]
    have e : Ideal.exp2 ((m : EReal) - (m' : EReal)) = ((2 : ℝ) ^ (m - m') : ℝ) := by rw [← EReal.coe_sub, Ideal.exp2_coe]; rfl
    rw [e, coe_mul_sum _ _ (Real.rpow_nonneg (by norm_num) _)]
    refine Finset.sum_congr rfl fun t _ => ?_
    rw [← mul_assoc, ← e, exp2_shift _ (hS t)]

/-- The attention of a query at position `R`: the softmax of its logits over the keys up to `R`, times their values. -/
def attn (Z : ℕ → ℝ) (w : ℕ → EReal) (R : ℕ) : EReal :=
  ∑ t ∈ Finset.range (R + 1), ((Real.exp (Z t) / ∑ u ∈ Finset.range (R + 1), Real.exp (Z u) : ℝ) : EReal) * w t

theorem sumexp_pos (Z : ℕ → ℝ) (R : ℕ) : 0 < ∑ u ∈ Finset.range (R + 1), Real.exp (Z u) :=
  Finset.sum_pos (fun _ _ => Real.exp_pos _) ⟨0, by simp⟩

/-- Only the keys up to `R` count when the others have weight zero. -/
theorem sum_le_R (N R : ℕ) (h : R < N) (f : ℕ → EReal) (hf : ∀ t, R < t → f t = 0) : ∑ t ∈ Finset.range N, f t = ∑ t ∈ Finset.range (R + 1), f t := by
  symm
  refine Finset.sum_subset (fun t ht => ?_) (fun t _ ht => hf t ?_)
  · rw [Finset.mem_range] at *; omega
  · rw [Finset.mem_range] at ht; omega

theorem exp2_log2 (z m : ℝ) : Ideal.exp2 (((1 / Real.log 2 * z : ℝ) : EReal) - (m : EReal)) = ((Real.exp z * (2 : ℝ) ^ (-m) : ℝ) : EReal) := by
  rw [← EReal.coe_sub, Ideal.exp2_coe]
  congr 1
  show (2 : ℝ) ^ (1 / Real.log 2 * z - m) = _
  rw [sub_eq_add_neg, Real.rpow_add (by norm_num)]
  congr 1
  have h2 : Real.log 2 ≠ 0 := (Real.log_pos (by norm_num)).ne'
  rw [Real.rpow_def_of_pos (by norm_num)]
  congr 1
  field_simp

/-- The kernel's quotient is the attention. -/
theorem kernel_attn (Z : ℕ → ℝ) (w S : ℕ → EReal) (R N : ℕ) (h : R < N) (m : ℝ)
    (hS : ∀ t, S t = if t ≤ R then ((1 / Real.log 2 * Z t : ℝ) : EReal) else ⊥) :
    Ideal.div (∑ t ∈ Finset.range N, Ideal.exp2 (S t - m) * w t) (∑ t ∈ Finset.range N, Ideal.exp2 (S t - m) * 1) = attn Z w R := by
  have k0 : (0 : ℝ) < (2 : ℝ) ^ (-m) := Real.rpow_pos_of_pos (by norm_num) _
  have hz : ∀ t, R < t → Ideal.exp2 (S t - m) = 0 := fun t ht => by rw [hS, if_neg (by omega)]; simp
  have hp : ∀ t ∈ Finset.range (R + 1), Ideal.exp2 (S t - m) = ((Real.exp (Z t) * (2 : ℝ) ^ (-m) : ℝ) : EReal) := fun t ht => by
    rw [Finset.mem_range] at ht
    rw [hS, if_pos (by omega), exp2_log2]
  rw [sum_le_R N R h _ (fun t ht => by rw [hz t ht, zero_mul]), sum_le_R N R h _ (fun t ht => by rw [hz t ht, zero_mul])]
  rw [Finset.sum_congr rfl (fun t ht => by rw [hp t ht] : ∀ t ∈ Finset.range (R + 1), Ideal.exp2 (S t - m) * w t = ((Real.exp (Z t) * (2 : ℝ) ^ (-m) : ℝ) : EReal) * w t),
    Finset.sum_congr rfl (fun t ht => by rw [hp t ht, mul_one] : ∀ t ∈ Finset.range (R + 1), Ideal.exp2 (S t - m) * 1 = ((Real.exp (Z t) * (2 : ℝ) ^ (-m) : ℝ) : EReal)),
    ← coe_sum]
  have hL : (∑ t ∈ Finset.range (R + 1), Real.exp (Z t) * (2 : ℝ) ^ (-m)) = (∑ t ∈ Finset.range (R + 1), Real.exp (Z t)) * (2 : ℝ) ^ (-m) := (Finset.sum_mul _ _ _).symm
  have hs := sumexp_pos Z R
  rw [hL, Ideal.div_coe (by positivity), mul_comm, coe_mul_sum _ _ (by positivity)]
  refine Finset.sum_congr rfl fun t _ => ?_
  rw [← mul_assoc, ← EReal.coe_mul]
  congr 2
  field_simp

/-- The reference's weighted sum is the attention. -/
theorem ref_attn (Z : ℕ → ℝ) (w S : ℕ → EReal) (R N : ℕ) (h : R < N) (m : ℝ)
    (hS : ∀ t, S t = if t ≤ R then ((Z t : ℝ) : EReal) else ⊥) :
    ∑ t ∈ Finset.range N, w t * Ideal.div (Ideal.exp (S t - m)) (∑ t ∈ Finset.range N, Ideal.exp (S t - m)) = attn Z w R := by
  have hz : ∀ t, R < t → Ideal.exp (S t - m) = 0 := fun t ht => by rw [hS, if_neg (by omega)]; simp
  have hp : ∀ t ∈ Finset.range (R + 1), Ideal.exp (S t - m) = ((Real.exp (Z t) * Real.exp (-m) : ℝ) : EReal) := fun t ht => by
    rw [Finset.mem_range] at ht
    rw [hS, if_pos (by omega), ← EReal.coe_sub, Ideal.exp_coe, sub_eq_add_neg, Real.exp_add]
  have hs := sumexp_pos Z R
  have hL : (∑ t ∈ Finset.range N, Ideal.exp (S t - m)) = (((∑ t ∈ Finset.range (R + 1), Real.exp (Z t)) * Real.exp (-m) : ℝ) : EReal) := by
    rw [sum_le_R N R h _ hz, Finset.sum_congr rfl hp, ← coe_sum, Finset.sum_mul]
  have hpos : (∑ t ∈ Finset.range (R + 1), Real.exp (Z t)) * Real.exp (-m) ≠ 0 := by positivity
  rw [hL, sum_le_R N R h _ (fun t ht => by rw [hz t ht, Ideal.div_coe hpos, zero_mul, mul_zero])]
  refine Finset.sum_congr rfl fun t ht => ?_
  rw [hp t ht, Ideal.div_coe hpos, ← EReal.coe_mul, mul_comm]
  congr 2
  field_simp
end Cert.Proof
-- ==== Proof.State.lean ====
/- The kernel's state along a row, and what it writes: the attention of the row's query. -/
module

public import proofs.«01_k».proof.Proof.Row
public import proofs.«01_k».proof.Proof.Online

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

/-- What the state holds at row `r` after `N` keys with scores `S` and values `w`. -/
structure RowSt (S : ℕ → EReal) (w : Fin 128 → ℕ → EReal) (r : Fin 512) (N : ℕ) (m a b : Vec Ideal S1x512x128 .f32) (μ : EReal) : Prop where
  max : ∀ l, m (ix3 0 r l) = μ
  real : N = 0 ∨ ∃ x : ℝ, μ = x
  ne_top : μ ≠ ⊤
  num : ∀ l, a (ix3 0 r l) = ∑ t ∈ Finset.range N, Ideal.exp2 (S t - μ) * w l t
  den : ∀ l, b (ix3 0 r l) = ∑ t ∈ Finset.range N, Ideal.exp2 (S t - μ) * 1

/-- One block of keys. -/
theorem RowSt.step {S : ℕ → EReal} {w : Fin 128 → ℕ → EReal} {r : Fin 512} {N : ℕ} {m a b : Vec Ideal S1x512x128 .f32} {μ : EReal} (h : RowSt S w r N m a b μ)
    (s : FVec Ideal S512x512 .f32) (v : Vec Ideal S1x512x128 .bf16) (hS : ∀ t, S t ≠ ⊤) (h0 : S N ≠ ⊥) (hs : ∀ c : Fin 512, s (ix2 r c) = S (N + c.val)) (hv : ∀ (c : Fin 512) l, v (ix3 0 c l) = w l (N + c.val)) :
    ∃ x : ℝ, RowSt S w r (N + 512) (mN s m) (aN s m v a) (bN s m v b) (x : EReal) := by
  obtain ⟨x, hx⟩ := max_real s r (fun c => by rw [hs]; exact hS _) (by rw [hs]; exact h0) μ h.ne_top
  refine ⟨x, ⟨fun l => ?_, .inr ⟨x, rfl⟩, EReal.coe_ne_top x, fun l => ?_, fun l => ?_⟩⟩
  · rw [mN_at, h.max l, hx]
  · rw [aN_at s m v a r l μ h.max, hx, ← upd_sum S (w l) hS N 512 μ x x rfl h.real _ (h.num l)]
    simp only [hs, hv]
  · rw [bN_at s m v b r l μ h.max, hx, ← upd_sum S (fun _ => 1) hS N 512 μ x x rfl h.real _ (h.den l)]
    simp only [hs]

/-- The state only depends on the scores of the keys it has seen. -/
theorem RowSt.congr {S S' : ℕ → EReal} {w : Fin 128 → ℕ → EReal} {r : Fin 512} {N : ℕ} {m a b : Vec Ideal S1x512x128 .f32} {μ : EReal} (h : RowSt S w r N m a b μ)
    (e : ∀ t < N, S t = S' t) : RowSt S' w r N m a b μ :=
  ⟨h.max, h.real, h.ne_top, fun l => (h.num l).trans (Finset.sum_congr rfl fun t ht => by rw [e t (Finset.mem_range.mp ht)]),
    fun l => (h.den l).trans (Finset.sum_congr rfl fun t ht => by rw [e t (Finset.mem_range.mp ht)])⟩

/-- Lane `e` of head `h` of key (or value) `t`. -/
def kv (x : Vec Ideal S1x4096x512 .bf16) (h : Fin 4) (t : ℕ) (e : Fin 128) : EReal :=
  x (ix3 0 ⟨t % 4096, Nat.mod_lt _ (by decide)⟩ ⟨128 * h.val + e.val, by omega⟩)
/-- Lane `e` of head `h` of query `r` of the block. -/
def qv (x : Vec Ideal S1x512x512 .bf16) (h : Fin 4) (r : Fin 512) (e : Fin 128) : EReal := x (ix3 0 r ⟨128 * h.val + e.val, by omega⟩)
/-- The score of query `r` of the block and key `t`. -/
def sg (x0 x1 : Vec Ideal S1x512x512 .bf16) (x2 x3 : Vec Ideal S1x4096x512 .bf16) (h : Fin 4) (r : Fin 512) (t : ℕ) : EReal :=
  ∑ e : Fin 128, qv x0 h r e * kv x2 h t e + ∑ e : Fin 128, qv x1 h r e * kv x3 h t e

theorem scs_at (x0 x1 : Vec Ideal S1x512x512 .bf16) (x2 x3 : Vec Ideal S1x4096x512 .bf16) (j : ℕ) (h : Fin 4) (r c : Fin 512) :
    scs (qs x0 x1) x2 x3 j h (ix2 r c) = sg x0 x1 x2 x3 h r (512 * j + c.val) := sc_at _ _ _ _ r c

theorem scsM_at (x0 x1 : Vec Ideal S1x512x512 .bf16) (x2 x3 : Vec Ideal S1x4096x512 .bf16) (j : ℕ) (h : Fin 4) (r c : Fin 512) :
    scsM (qs x0 x1) x2 x3 j h (ix2 r c) = if 512 * j + c.val ≤ 512 * j + r.val then sg x0 x1 x2 x3 h r (512 * j + c.val) else ⊥ := by
  rw [scsM, scM_at]
  simp only [Nat.add_le_add_iff_left]
  rw [← scs_at]; rfl

/-- The state after `j` whole blocks. -/
theorem st_at (x0 x1 : Vec Ideal S1x512x512 .bf16) (x2 x3 x4 : Vec Ideal S1x4096x512 .bf16) (h : Fin 4) (r : Fin 512)
    (hS : ∀ t, ∃ x : ℝ, sg x0 x1 x2 x3 h r t = x) (j : ℕ) :
    ∃ μ, RowSt (sg x0 x1 x2 x3 h r) (fun l t => kv x4 h t l) r (512 * j) (stM (qs x0 x1) x2 x3 j h) (stA (qs x0 x1) x2 x3 x4 j h) (stB (qs x0 x1) x2 x3 x4 j h) μ := by
  induction j with
  | zero =>
    refine ⟨⊥, fun l => ninf, .inl rfl, bot_ne_top, fun l => ?_, fun l => ?_⟩
    · exact Ideal.ofBits_zero_f32
    · exact Ideal.ofBits_zero_f32
  | succ j ih =>
    obtain ⟨μ, ih⟩ := ih
    obtain ⟨x, hx⟩ := ih.step (scs (qs x0 x1) x2 x3 j h) (kblk x4 j h) (fun t => by obtain ⟨y, e⟩ := hS t; rw [e]; exact EReal.coe_ne_top y)
      (by obtain ⟨y, e⟩ := hS (512 * j); rw [e]; exact EReal.coe_ne_bot y) (fun c => scs_at x0 x1 x2 x3 j h r c) (fun c l => rfl)
    exact ⟨x, hx⟩

/-- One head's output is the attention. -/
theorem oN_at (x0 x1 : Vec Ideal S1x512x512 .bf16) (x2 x3 x4 : Vec Ideal S1x4096x512 .bf16) (h : Fin 4) (r : Fin 512) (Z : ℕ → ℝ)
    (hZ : ∀ t, sg x0 x1 x2 x3 h r t = ((1 / Real.log 2 * Z t : ℝ) : EReal)) (i : ℕ) (l : Fin 128) :
    oN (qs x0 x1) x2 x3 x4 i h (ix3 0 r l) = attn Z (fun t => kv x4 h t l) (512 * i + r.val) := by
  obtain ⟨μ, st⟩ := st_at x0 x1 x2 x3 x4 h r (fun t => ⟨_, hZ t⟩) i
  have st' := st.congr (S' := fun t => if t ≤ 512 * i + r.val then ((1 / Real.log 2 * Z t : ℝ) : EReal) else ⊥) (fun t ht => by
    rw [if_pos (by omega), hZ])
  obtain ⟨x, hx⟩ := st'.step (scsM (qs x0 x1) x2 x3 i h) (kblk x4 i h) (fun t => by split; exacts [EReal.coe_ne_top _, bot_ne_top])
    (by rw [if_pos (by omega)]; exact EReal.coe_ne_bot _) (fun c => by rw [scsM_at, hZ]) (fun c l => rfl)
  rw [oN, div_at, uA, uB, hx.num l, hx.den l]
  exact kernel_attn Z _ _ _ _ (by omega) x (fun t => rfl)

theorem cols_emb (r : Fin 512) (l : Fin 128) (o : ℕ) (inb : ∀ a, (![0, 0, o] : Fin 3 → ℕ) a + (![1, 512, 128] : Fin 3 → ℕ) a ≤ S1x512x512.size a) (ho : o + l.val < 512) :
    (ix3 0 r ⟨o + l.val, ho⟩ : S1x512x512.Idx) = (Rect.unit (s := S1x512x512) ![0, 0, o] ![1, 512, 128] inb).emb (ix3 0 r l) := by
  refine funext fun a => Fin.ext ?_
  fin_cases a
  · rfl
  · show r.val = 0 + 1 * r.val
    omega
  · show o + l.val = o + 1 * l.val
    omega
theorem cols_miss (r : Fin 512) (l : Fin 128) (o o' : ℕ) (inb : ∀ a, (![0, 0, o] : Fin 3 → ℕ) a + (![1, 512, 128] : Fin 3 → ℕ) a ≤ S1x512x512.size a) (ho : o' + l.val < 512)
    (h : o' + 128 ≤ o) : (ix3 0 r ⟨o' + l.val, ho⟩ : S1x512x512.Idx) ∉ (Rect.unit (s := S1x512x512) ![0, 0, o] ![1, 512, 128] inb).set := fun hm => by
  rw [Rect.mem_set_unit] at hm
  have : o ≤ o' + l.val := (hm 2).1
  omega

theorem canon_miss (R : Rect S1x512x512) (w : R.shape.Idx → Elt Ideal .bf16) (L : List (View.Piece (Elt Ideal) S1x512x512 .bf16)) {y : S1x512x512.Idx} (h : y ∉ R.set) :
    View.canon (⟨R, w⟩ :: L) y = View.canon L y := View.canon_cons_of_not_mem ⟨R, w⟩ L h

/-- Four blocks of 128 columns side by side. -/
def cols (w0 w1 w2 w3 : Vec Ideal S1x512x128 .bf16) : Vec Ideal S1x512x512 .bf16 :=
  View.canon (Val := Elt Ideal) (s := S1x512x512) (e := .bf16)
    [⟨Rect.unit (s := S1x512x512) ![0, 0, 384] ![1, 512, 128] inb_S1x512x512_S1x512x128_0_0_384, w3⟩,
     ⟨Rect.unit (s := S1x512x512) ![0, 0, 256] ![1, 512, 128] inb_S1x512x512_S1x512x128_0_0_256, w2⟩,
     ⟨Rect.unit (s := S1x512x512) ![0, 0, 128] ![1, 512, 128] inb_S1x512x512_S1x512x128_0_0_128, w1⟩,
     ⟨Rect.unit (s := S1x512x512) ![0, 0, 0] ![1, 512, 128] inb_S1x512x512_S1x512x128_0_0_0, w0⟩]

/-- They are read one by one. -/
theorem cols_at (w0 w1 w2 w3 : Vec Ideal S1x512x128 .bf16) (r : Fin 512) (l : Fin 128) (b : 384 + l.val < 512) :
    cols w0 w1 w2 w3 (ix3 0 r ⟨0 + l.val, by omega⟩) = w0 (ix3 0 r l) ∧ cols w0 w1 w2 w3 (ix3 0 r ⟨128 + l.val, by omega⟩) = w1 (ix3 0 r l)
      ∧ cols w0 w1 w2 w3 (ix3 0 r ⟨256 + l.val, by omega⟩) = w2 (ix3 0 r l) ∧ cols w0 w1 w2 w3 (ix3 0 r ⟨384 + l.val, by omega⟩) = w3 (ix3 0 r l) := by
  unfold cols
  refine ⟨?_, ?_, ?_, ?_⟩
  · rw [canon_miss _ _ _ (cols_miss r l 384 0 _ _ (by omega)), canon_miss _ _ _ (cols_miss r l 256 0 _ _ (by omega)), canon_miss _ _ _ (cols_miss r l 128 0 _ _ (by omega)), cols_emb r l 0 inb_S1x512x512_S1x512x128_0_0_0]
    exact View.canon_cons_emb (Val := Elt Ideal) _ _ _ _
  · rw [canon_miss _ _ _ (cols_miss r l 384 128 _ _ (by omega)), canon_miss _ _ _ (cols_miss r l 256 128 _ _ (by omega)), cols_emb r l 128 inb_S1x512x512_S1x512x128_0_0_128]
    exact View.canon_cons_emb (Val := Elt Ideal) _ _ _ _
  · rw [canon_miss _ _ _ (cols_miss r l 384 256 _ _ (by omega)), cols_emb r l 256 inb_S1x512x512_S1x512x128_0_0_256]
    exact View.canon_cons_emb (Val := Elt Ideal) _ _ _ _
  · rw [cols_emb r l 384 inb_S1x512x512_S1x512x128_0_0_384]
    exact View.canon_cons_emb (Val := Elt Ideal) _ _ _ _

/-- The written block, read in one of its four column groups. -/
theorem outs_at (Q : Fin 4 → FVec Ideal S512x256 .bf16) (x2 x3 x4 : Vec Ideal S1x4096x512 .bf16) (i : ℕ) (h : Fin 4) (r : Fin 512) (l : Fin 128) (b : 128 * h.val + l.val < 512) :
    outs Q x2 x3 x4 i (ix3 0 r ⟨128 * h.val + l.val, b⟩) = oN Q x2 x3 x4 i h (ix3 0 r l) := by
  have e := cols_at (oN Q x2 x3 x4 i 0) (oN Q x2 x3 x4 i 1) (oN Q x2 x3 x4 i 2) (oN Q x2 x3 x4 i 3) r l (by omega)
  have o : outs Q x2 x3 x4 i = cols (oN Q x2 x3 x4 i 0) (oN Q x2 x3 x4 i 1) (oN Q x2 x3 x4 i 2) (oN Q x2 x3 x4 i 3) := rfl
  rw [o]
  obtain ⟨h, hh⟩ := h
  interval_cases h
  · exact e.1
  · exact e.2.1
  · exact e.2.2.1
  · exact e.2.2.2
end Cert.Proof
-- ==== Proof.Host.lean ====
/- What the host makes of the arguments for the call: the scaled queries, and the bias lanes of queries and keys. -/
module

public import proofs.«01_k».proof.Proof.Gen.KernelIdeal.Value
public import Idealize.ShloMosaic.PureOps.Ideal.Laws
public import Idealize.ShloMosaic.Lib.Pointwise
public import Idealize.ShloMosaic.Lib.StableHlo.Run

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

/-- The factor between natural and binary exponentials, and the queries' scale. -/
def hC : FVec Ideal S_ .f32 := Host.divf (constant S_ .f32 0x3F800000#32) (Host.log (constant S_ .f32 0x40000000#32))
def hS : FVec Ideal S_ .f32 := Host.divf hC (Host.sqrt (constant S_ .f32 0x43000000#32))

/-- The scaled queries. -/
def hQ (q : FVec Ideal S16x4096x1024 .f32) : FVec Ideal S16x4096x1024 .bf16 :=
  truncf .bf16 (mulf q (broadcastInDim S16x4096x1024 ![] bcast_S_S16x4096x1024 hS)) bitsLt_bf16_f32

/-- The keys and the values, cast. -/
def hT (x : FVec Ideal S16x4096x1024 .f32) : FVec Ideal S16x4096x1024 .bf16 := truncf .bf16 x bitsLt_bf16_f32
theorem hT_at (x : FVec Ideal S16x4096x1024 .f32) (i : S16x4096x1024.Idx) : hT x i = x i := rfl

/-- The scaled decay sums and the three parts they are split into. -/
def hX (x : FVec Ideal S16x4096x8 .f32) : FVec Ideal S16x4096x8 .f32 := mulf x (broadcastInDim S16x4096x8 ![] bcast_S_S16x4096x8 hC)
def hHi (x : FVec Ideal S16x4096x8 .f32) : FVec Ideal S16x4096x8 .bf16 := truncf .bf16 (hX x) bitsLt_bf16_f32
def hR (x : FVec Ideal S16x4096x8 .f32) : FVec Ideal S16x4096x8 .f32 := subf (hX x) (extf .f32 (hHi x) bitsLt_bf16_f32)
def hMid (x : FVec Ideal S16x4096x8 .f32) : FVec Ideal S16x4096x8 .bf16 := truncf .bf16 (hR x) bitsLt_bf16_f32
def hLo (x : FVec Ideal S16x4096x8 .f32) : FVec Ideal S16x4096x8 .bf16 := truncf .bf16 (subf (hR x) (extf .f32 (hMid x) bitsLt_bf16_f32)) bitsLt_bf16_f32
def up (x : FVec Ideal S16x4096x8 .bf16) : FVec Ideal S16x4096x8x1 .bf16 := broadcastInDim S16x4096x8x1 ![0, 1, 2] bcast_S16x4096x8_S16x4096x8x1_0_1_2 x
def ones : FVec Ideal S16x4096x8x3 .bf16 := broadcastInDim S16x4096x8x3 ![] bcast_S_S16x4096x8x3 (constant S_ .bf16 0x3F80#16)
def rest : FVec Ideal S16x4096x8x122 .bf16 := broadcastInDim S16x4096x8x122 ![] bcast_S_S16x4096x8x122 (constant S_ .bf16 0x0000#16)

/-- The bias lanes of the queries and of the keys. -/
def hQX (x : FVec Ideal S16x4096x8 .f32) : FVec Ideal S16x4096x1024 .bf16 :=
  shapeCast S16x4096x1024 (concatenate S16x4096x8x128 3 [⟨S16x4096x8x1, up (hHi x)⟩, ⟨S16x4096x8x1, up (hMid x)⟩, ⟨S16x4096x8x1, up (hLo x)⟩, ⟨S16x4096x8x3, ones⟩, ⟨S16x4096x8x122, rest⟩] concatenates_S16x4096x8x1_S16x4096x8x1_S16x4096x8x1_S16x4096x8x3_S16x4096x8x122_S16x4096x8x128_d3) shapeCasts_S16x4096x8x128_S16x4096x1024
def hKX (x : FVec Ideal S16x4096x8 .f32) : FVec Ideal S16x4096x1024 .bf16 :=
  shapeCast S16x4096x1024 (concatenate S16x4096x8x128 3 [⟨S16x4096x8x3, ones⟩, ⟨S16x4096x8x1, Host.negf (up (hHi x))⟩, ⟨S16x4096x8x1, Host.negf (up (hMid x))⟩, ⟨S16x4096x8x1, Host.negf (up (hLo x))⟩, ⟨S16x4096x8x122, rest⟩] concatenates_S16x4096x8x3_S16x4096x8x1_S16x4096x8x1_S16x4096x8x1_S16x4096x8x122_S16x4096x8x128_d3) shapeCasts_S16x4096x8x128_S16x4096x1024

section
variable (m : (ℓ : Loc nD τ sig) → Buf (Elt Ideal) ℓ) (c : Dev nD)
theorem V_q : V m c main_v27 = hQ (m ((c : Thread nD τ).loc main_arg0)) := by
  show StableHlo.after hostOps0 _ (Proc.devRef .tc main_v27) = _
  after_results
  rfl
theorem V_k : V m c main_v28 = hT (m ((c : Thread nD τ).loc main_arg1)) := by
  show StableHlo.after hostOps0 _ (Proc.devRef .tc main_v28) = _
  after_results
  rfl
theorem V_v : V m c main_v29 = hT (m ((c : Thread nD τ).loc main_arg2)) := by
  show StableHlo.after hostOps0 _ (Proc.devRef .tc main_v29) = _
  after_results
  rfl
theorem V_qx : V m c main_v19 = hQX (m ((c : Thread nD τ).loc main_arg3)) := by
  show StableHlo.after hostOps0 _ (Proc.devRef .tc main_v19) = _
  after_results
  rfl
theorem V_kx : V m c main_v24 = hKX (m ((c : Thread nD τ).loc main_arg3)) := by
  show StableHlo.after hostOps0 _ (Proc.devRef .tc main_v24) = _
  after_results
  rfl
end

theorem ofBits_2 : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

theorem log2_ne : Real.log 2 ≠ 0 := (Real.log_pos (by norm_num)).ne'
theorem sqrt128_ne : Real.sqrt 128 ≠ 0 := (Real.sqrt_pos.mpr (by norm_num)).ne'

theorem hC_at (i : S_.Idx) : hC i = ((1 / Real.log 2 : ℝ) : EReal) := by
  pointwise [hC]
  rw [show Ideal.ofBits .f32 1073741824#32 = ((2 : ℝ) : EReal) from ofBits_2, Ideal.log_coe, if_neg (by norm_num), Ideal.div_coe log2_ne, one_mul]
theorem hS_at (i : S_.Idx) : hS i = ((1 / Real.log 2 / Real.sqrt 128 : ℝ) : EReal) := by
  pointwise [hS]
  rw [hC_at, show Ideal.ofBits .f32 1124073472#32 = ((128 : ℝ) : EReal) from ofBits_128, Ideal.sqrt_coe, if_neg (by norm_num), Ideal.div_coe sqrt128_ne, ← EReal.coe_mul]
  congr 1
  ring
theorem hQ_at (q : FVec Ideal S16x4096x1024 .f32) (b : Fin 16) (t : Fin 4096) (j : Fin 1024) : hQ q (ix3 b t j) = q (ix3 b t j) * ((1 / Real.log 2 / Real.sqrt 128 : ℝ) : EReal) := by
  pointwise [hQ]
  rw [hS_at]

section
variable (x : FVec Ideal S16x4096x8 .f32) (b : Fin 16) (t : Fin 4096) (n : Fin 8) (a : ℝ) (ha : x (ix3 b t n) = a)
include ha
theorem hHi_at : hHi x (ix3 b t n) = ((a * (1 / Real.log 2) : ℝ) : EReal) := by
  pointwise [hHi, hX]
  rw [hC_at, ha, EReal.coe_mul]
theorem hR_at : hR x (ix3 b t n) = 0 := by
  pointwise [hR, hX]
  rw [hC_at, hHi_at x b t n a ha, ha, ← EReal.coe_mul, ← EReal.coe_sub, sub_self, EReal.coe_zero]
theorem hMid_at : hMid x (ix3 b t n) = 0 := by
  pointwise [hMid]
  exact hR_at x b t n a ha
theorem hLo_at : hLo x (ix3 b t n) = 0 := by
  pointwise [hLo]
  rw [hR_at x b t n a ha, hMid_at x b t n a ha, sub_zero]
end

theorem hQX_at (x : FVec Ideal S16x4096x8 .f32) (b : Fin 16) (t : Fin 4096) (n : Fin 8) (e : Fin 128) (h : 128 * n.val + e.val < 1024) :
    hQX x (ix3 b t ⟨128 * n.val + e.val, h⟩) = if e.val < 1 then hHi x (ix3 b t n) else if e.val - 1 < 1 then hMid x (ix3 b t n) else if e.val - 1 - 1 < 1 then hLo x (ix3 b t n) else if e.val - 1 - 1 - 1 < 3 then 1 else 0 := by
  pointwise [hQX, up, ones, rest]
  rfl
theorem hKX_at (x : FVec Ideal S16x4096x8 .f32) (b : Fin 16) (t : Fin 4096) (n : Fin 8) (e : Fin 128) (h : 128 * n.val + e.val < 1024) :
    hKX x (ix3 b t ⟨128 * n.val + e.val, h⟩) = if e.val < 3 then 1 else if e.val - 3 < 1 then -hHi x (ix3 b t n) else if e.val - 3 - 1 < 1 then -hMid x (ix3 b t n) else if e.val - 3 - 1 - 1 < 1 then -hLo x (ix3 b t n) else 0 := by
  pointwise [hKX, up, ones, rest]
  rfl

/-- The bias lanes of a query against those of a key: the difference of their decay sums. -/
theorem bias_at (x : FVec Ideal S16x4096x8 .f32) (b : Fin 16) (t u : Fin 4096) (n : Fin 8) (a a' : ℝ) (ha : x (ix3 b t n) = a) (ha' : x (ix3 b u n) = a') :
    ∑ e : Fin 128, hQX x (ix3 b t ⟨128 * n.val + e.val, by omega⟩) * hKX x (ix3 b u ⟨128 * n.val + e.val, by omega⟩) = ((1 / Real.log 2 * (a - a') : ℝ) : EReal) := by
  simp only [hQX_at, hKX_at, hHi_at x b t n a ha, hMid_at x b t n a ha, hLo_at x b t n a ha, hHi_at x b u n a' ha', hMid_at x b u n a' ha', hLo_at x b u n a' ha']
  refine (Fin.sum_univ_add (a := 6) (b := 122) _).trans ?_
  rw [Fin.sum_univ_six, Finset.sum_eq_zero (s := (Finset.univ : Finset (Fin 122)))]
  · simp
    norm_cast
    ring
  · intro e _
    simp
end Cert.Proof
-- ==== Proof.Goal.lean ====
/- The array both programs compute: the attention of each query, head and lane. -/
module

public import proofs.«01_k».proof.Proof.Online
public import Idealize.ShloMosaic.Lib.Pointwise

@[expose] public section
noncomputable section
namespace Cert.Proof
open Idealize.ShloMosaic Idealize.ShloMosaic.Pointwise

/-- The position of key `t`. -/
def kI (t : ℕ) : Fin 4096 := ⟨t % 4096, Nat.mod_lt _ (by decide)⟩
/-- Lane `e` of head `n`. -/
def hl (n : Fin 8) (e : Fin 128) : Fin 1024 := ⟨128 * n.val + e.val, by omega⟩

abbrev QI := (⟨3, ![16, 4096, 1024]⟩ : Shape).Idx
abbrev CI := (⟨3, ![16, 4096, 8]⟩ : Shape).Idx

/-- The logit of query `R` and key `t` of batch `b` and head `n`: the scaled product, and the difference of the decay sums. -/
def logit (q k : QI → EReal) (cum : CI → EReal) (b : Fin 16) (n : Fin 8) (R : Fin 4096) (t : ℕ) : ℝ :=
  (∑ e : Fin 128, (q (ix3 b R (hl n e))).toReal * (k (ix3 b (kI t) (hl n e))).toReal) * (1 / Real.sqrt 128) + ((cum (ix3 b R n)).toReal - (cum (ix3 b (kI t) n)).toReal)

/-- The attention at batch `b`, position `R`, head `n` and lane `l`. -/
def goal (q k v : QI → EReal) (cum : CI → EReal) (b : Fin 16) (R : Fin 4096) (n : Fin 8) (l : Fin 128) : EReal :=
  attn (logit q k cum b n R) (fun t => v (ix3 b (kI t) (hl n l))) R.val

/-- Every element is a number. -/
def AllReal {ι : Type} (f : ι → EReal) : Prop := ∀ i, f i = ((f i).toReal : EReal)

/-- The product of a query and a key, when both are numbers. -/
theorem dot_real (f g : Fin 128 → EReal) (hf : AllReal f) (hg : AllReal g) : ∑ e : Fin 128, f e * g e = ((∑ e : Fin 128, (f e).toReal * (g e).toReal : ℝ) : EReal) := by
  rw [coe_sum]
  refine Finset.sum_congr rfl fun e _ => ?_
  rw [hf e, hg e, EReal.coe_mul]; rfl
end Cert.Proof
-- ==== Proof.Blocks.lean ====
/- The kernel's result array: each grid point writes the block of the attention at its place, and the blocks cover the array. -/
module

public import proofs.«01_k».proof.Proof.State
public import proofs.«01_k».proof.Proof.Host
public import proofs.«01_k».proof.Proof.Goal

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

theorem N256 : cfg0.N = 256 := N_0

/-- Point `t` is batch `t / 16`, head group `t / 8 % 2` and query block `t % 8`. -/
theorem co0 (t : Fin cfg0.N) : (grid0.coords t 0).val = t.val / 16 % 16 := Pipeline.Grid.coords_val t 0 rfl rfl
theorem co1 (t : Fin cfg0.N) : (grid0.coords t 1).val = t.val / 8 % 2 := Pipeline.Grid.coords_val t 1 rfl rfl
theorem co2 (t : Fin cfg0.N) : (grid0.coords t 2).val = t.val % 8 := (Pipeline.Grid.coords_val (G := grid0) (S := 1) (B := 8) t 2 rfl rfl).trans (by rw [Nat.div_one])

theorem word (n : ℕ) (h : n < 4096) : (BitVec.ofNat 32 n).toNat = n := by rw [BitVec.toNat_ofNat]; omega

/-- So its blocks' indices are these. -/
theorem w0 (t : Fin cfg0.N) : (BitVec.ofNat 32 (grid0.coords t 0).val).toNat = t.val / 16 := by
  have := t.isLt; have := N256
  rw [co0, word _ (by omega)]; omega
theorem w1 (t : Fin cfg0.N) : (BitVec.ofNat 32 (grid0.coords t 1).val).toNat = t.val / 8 % 2 := by rw [co1, word _ (by omega)]
theorem w2 (t : Fin cfg0.N) : (BitVec.ofNat 32 (grid0.coords t 2).val).toNat = t.val % 8 := by rw [co2, word _ (by omega)]

/-- The place of element `y` of a query block, and of a key block. -/
def qAt (t : Fin cfg0.N) (y : S1x512x512.Idx) : S16x4096x1024.Idx :=
  ix3 ⟨t.val / 16, by have := t.isLt; have := N256; omega⟩ ⟨512 * (t.val % 8) + (y 1).val, by have : (y 1).val < 512 := (y 1).isLt; omega⟩
    ⟨512 * (t.val / 8 % 2) + (y 2).val, by have : (y 2).val < 512 := (y 2).isLt; omega⟩
def kAt (t : Fin cfg0.N) (y : S1x4096x512.Idx) : S16x4096x1024.Idx :=
  ix3 ⟨t.val / 16, by have := t.isLt; have := N256; omega⟩ (y 1) ⟨512 * (t.val / 8 % 2) + (y 2).val, by have : (y 2).val < 512 := (y 2).isLt; omega⟩

theorem at_q (t : Fin cfg0.N) (y : S1x512x512.Idx) (z : S16x4096x1024.Idx) (i0 i1 i2 : ℕ) (h0 : i0 = t.val / 16) (h1 : i1 = t.val % 8) (h2 : i2 = t.val / 8 % 2)
    (e0 : (z 0).val = i0 * 1 + 1 * (y 0).val) (e1 : (z 1).val = i1 * 512 + 1 * (y 1).val) (e2 : (z 2).val = i2 * 512 + 1 * (y 2).val) : z = qAt t y := by
  have : (y 0).val < 1 := (y 0).isLt
  refine funext fun a => Fin.ext ?_
  fin_cases a
  · refine e0.trans ?_
    show i0 * 1 + 1 * (y 0).val = t.val / 16
    omega
  · refine e1.trans ?_
    show i1 * 512 + 1 * (y 1).val = 512 * (t.val % 8) + (y 1).val
    omega
  · refine e2.trans ?_
    show i2 * 512 + 1 * (y 2).val = 512 * (t.val / 8 % 2) + (y 2).val
    omega
theorem at_k (t : Fin cfg0.N) (y : S1x4096x512.Idx) (z : S16x4096x1024.Idx) (i0 i1 i2 : ℕ) (h0 : i0 = t.val / 16) (h1 : i1 = 0) (h2 : i2 = t.val / 8 % 2)
    (e0 : (z 0).val = i0 * 1 + 1 * (y 0).val) (e1 : (z 1).val = i1 * 4096 + 1 * (y 1).val) (e2 : (z 2).val = i2 * 512 + 1 * (y 2).val) : z = kAt t y := by
  have : (y 0).val < 1 := (y 0).isLt
  refine funext fun a => Fin.ext ?_
  fin_cases a
  · refine e0.trans ?_
    show i0 * 1 + 1 * (y 0).val = t.val / 16
    omega
  · refine e1.trans ?_
    show i1 * 4096 + 1 * (y 1).val = (y 1).val
    omega
  · refine e2.trans ?_
    show i2 * 512 + 1 * (y 2).val = 512 * (t.val / 8 % 2) + (y 2).val
    omega

theorem emb0 (t : Fin cfg0.N) (y : S1x512x512.Idx) : ((cfg0.win 0).blk t).view.emb y = qAt t y := by
  refine at_q t y _ (win0_0.index t (0 : Fin 3)) (win0_0.index t (1 : Fin 3)) (win0_0.index t (2 : Fin 3)) (w0 t) (w2 t) (w1 t) ?_ ?_ ?_
  · show win0_0.index t (0 : Fin 3) * 1 + 1 * (y 0).val = _
    rfl
  · show win0_0.index t (1 : Fin 3) * 512 + 1 * (y 1).val = _
    rfl
  · show win0_0.index t (2 : Fin 3) * 512 + 1 * (y 2).val = _
    rfl

theorem emb1 (t : Fin cfg0.N) (y : S1x512x512.Idx) : ((cfg0.win 1).blk t).view.emb y = qAt t y := by
  refine at_q t y _ (win0_1.index t (0 : Fin 3)) (win0_1.index t (1 : Fin 3)) (win0_1.index t (2 : Fin 3)) (w0 t) (w2 t) (w1 t) ?_ ?_ ?_
  · show win0_1.index t (0 : Fin 3) * 1 + 1 * (y 0).val = _
    rfl
  · show win0_1.index t (1 : Fin 3) * 512 + 1 * (y 1).val = _
    rfl
  · show win0_1.index t (2 : Fin 3) * 512 + 1 * (y 2).val = _
    rfl

theorem emb2 (t : Fin cfg0.N) (y : S1x4096x512.Idx) : ((cfg0.win 2).blk t).view.emb y = kAt t y := by
  refine at_k t y _ (win0_2.index t (0 : Fin 3)) (win0_2.index t (1 : Fin 3)) (win0_2.index t (2 : Fin 3)) (w0 t) rfl (w1 t) ?_ ?_ ?_
  · show win0_2.index t (0 : Fin 3) * 1 + 1 * (y 0).val = _
    rfl
  · show win0_2.index t (1 : Fin 3) * 4096 + 1 * (y 1).val = _
    rfl
  · show win0_2.index t (2 : Fin 3) * 512 + 1 * (y 2).val = _
    rfl

theorem emb3 (t : Fin cfg0.N) (y : S1x4096x512.Idx) : ((cfg0.win 3).blk t).view.emb y = kAt t y := by
  refine at_k t y _ (win0_3.index t (0 : Fin 3)) (win0_3.index t (1 : Fin 3)) (win0_3.index t (2 : Fin 3)) (w0 t) rfl (w1 t) ?_ ?_ ?_
  · show win0_3.index t (0 : Fin 3) * 1 + 1 * (y 0).val = _
    rfl
  · show win0_3.index t (1 : Fin 3) * 4096 + 1 * (y 1).val = _
    rfl
  · show win0_3.index t (2 : Fin 3) * 512 + 1 * (y 2).val = _
    rfl

theorem emb4 (t : Fin cfg0.N) (y : S1x4096x512.Idx) : ((cfg0.win 4).blk t).view.emb y = kAt t y := by
  refine at_k t y _ (win0_4.index t (0 : Fin 3)) (win0_4.index t (1 : Fin 3)) (win0_4.index t (2 : Fin 3)) (w0 t) rfl (w1 t) ?_ ?_ ?_
  · show win0_4.index t (0 : Fin 3) * 1 + 1 * (y 0).val = _
    rfl
  · show win0_4.index t (1 : Fin 3) * 4096 + 1 * (y 1).val = _
    rfl
  · show win0_4.index t (2 : Fin 3) * 512 + 1 * (y 2).val = _
    rfl

theorem emb5 (t : Fin cfg0.N) (y : S1x512x512.Idx) : ((cfg0.win 5).blk t).view.emb y = qAt t y := by
  refine at_q t y _ (win0_5.index t (0 : Fin 3)) (win0_5.index t (1 : Fin 3)) (win0_5.index t (2 : Fin 3)) (w0 t) (w2 t) (w1 t) ?_ ?_ ?_
  · show win0_5.index t (0 : Fin 3) * 1 + 1 * (y 0).val = _
    rfl
  · show win0_5.index t (1 : Fin 3) * 512 + 1 * (y 1).val = _
    rfl
  · show win0_5.index t (2 : Fin 3) * 512 + 1 * (y 2).val = _
    rfl

section
variable (m : (ℓ : Loc nD τ sig) → Buf (Elt Ideal) ℓ) (c : Dev nD)

theorem rd0 (f : (b : Ref sig .tc) → Buf (Elt Ideal) ((c : Thread nD τ).loc b)) (t : Fin cfg0.N) (y : S1x512x512.Idx) :
    ((cfg0.win 0).blk t).view.read (Elt Ideal) (f (Pipeline.arrRef spec0 0)) y = f main_v27 (qAt t y) := by
  have h : ((cfg0.win 0).blk t).view.read (Elt Ideal) (f (Pipeline.arrRef spec0 0)) y = f main_v27 (((cfg0.win 0).blk t).view.emb y) := rfl
  rw [h, emb0]
theorem iblk0_at (t : Fin cfg0.N) (y : S1x512x512.Idx) : iblk m c 0 t y = hQ (m ((c : Thread nD τ).loc main_arg0)) (qAt t y) :=
  (rd0 c (V m c) t y).trans (congrFun (V_q m c) (qAt t y))

theorem rd1 (f : (b : Ref sig .tc) → Buf (Elt Ideal) ((c : Thread nD τ).loc b)) (t : Fin cfg0.N) (y : S1x512x512.Idx) :
    ((cfg0.win 1).blk t).view.read (Elt Ideal) (f (Pipeline.arrRef spec0 1)) y = f main_v19 (qAt t y) := by
  have h : ((cfg0.win 1).blk t).view.read (Elt Ideal) (f (Pipeline.arrRef spec0 1)) y = f main_v19 (((cfg0.win 1).blk t).view.emb y) := rfl
  rw [h, emb1]
theorem iblk1_at (t : Fin cfg0.N) (y : S1x512x512.Idx) : iblk m c 1 t y = hQX (m ((c : Thread nD τ).loc main_arg3)) (qAt t y) :=
  (rd1 c (V m c) t y).trans (congrFun (V_qx m c) (qAt t y))

theorem rd2 (f : (b : Ref sig .tc) → Buf (Elt Ideal) ((c : Thread nD τ).loc b)) (t : Fin cfg0.N) (y : S1x4096x512.Idx) :
    ((cfg0.win 2).blk t).view.read (Elt Ideal) (f (Pipeline.arrRef spec0 2)) y = f main_v28 (kAt t y) := by
  have h : ((cfg0.win 2).blk t).view.read (Elt Ideal) (f (Pipeline.arrRef spec0 2)) y = f main_v28 (((cfg0.win 2).blk t).view.emb y) := rfl
  rw [h, emb2]
theorem iblk2_at (t : Fin cfg0.N) (y : S1x4096x512.Idx) : iblk m c 2 t y = hT (m ((c : Thread nD τ).loc main_arg1)) (kAt t y) :=
  (rd2 c (V m c) t y).trans (congrFun (V_k m c) (kAt t y))

theorem rd3 (f : (b : Ref sig .tc) → Buf (Elt Ideal) ((c : Thread nD τ).loc b)) (t : Fin cfg0.N) (y : S1x4096x512.Idx) :
    ((cfg0.win 3).blk t).view.read (Elt Ideal) (f (Pipeline.arrRef spec0 3)) y = f main_v24 (kAt t y) := by
  have h : ((cfg0.win 3).blk t).view.read (Elt Ideal) (f (Pipeline.arrRef spec0 3)) y = f main_v24 (((cfg0.win 3).blk t).view.emb y) := rfl
  rw [h, emb3]
theorem iblk3_at (t : Fin cfg0.N) (y : S1x4096x512.Idx) : iblk m c 3 t y = hKX (m ((c : Thread nD τ).loc main_arg3)) (kAt t y) :=
  (rd3 c (V m c) t y).trans (congrFun (V_kx m c) (kAt t y))

theorem rd4 (f : (b : Ref sig .tc) → Buf (Elt Ideal) ((c : Thread nD τ).loc b)) (t : Fin cfg0.N) (y : S1x4096x512.Idx) :
    ((cfg0.win 4).blk t).view.read (Elt Ideal) (f (Pipeline.arrRef spec0 4)) y = f main_v29 (kAt t y) := by
  have h : ((cfg0.win 4).blk t).view.read (Elt Ideal) (f (Pipeline.arrRef spec0 4)) y = f main_v29 (((cfg0.win 4).blk t).view.emb y) := rfl
  rw [h, emb4]
theorem iblk4_at (t : Fin cfg0.N) (y : S1x4096x512.Idx) : iblk m c 4 t y = hT (m ((c : Thread nD τ).loc main_arg2)) (kAt t y) :=
  (rd4 c (V m c) t y).trans (congrFun (V_v m c) (kAt t y))
end
end Cert.Proof
-- ==== Proof.Result.lean ====
/- The kernel's result: one block is the attention at its place, hence so is the whole array. -/
module

public import proofs.«01_k».proof.Proof.Blocks

@[expose] public section
noncomputable section
namespace Cert.Proof
open Idealize.ShloMosaic.Pointwise Cert.KernelIdeal Cert.KernelIdeal.Gen Idealize.ShloMosaic Idealize.ShloMosaic.TcCoe Idealize.ShloMosaic.Tactic Idealize.SL.Sem

/-- The batch, head and query of an element of point `t`'s block. -/
def tB (t : Fin cfg0.N) : Fin 16 := ⟨t.val / 16, by have := t.isLt; have := N256; omega⟩
def tN (t : Fin cfg0.N) (h : Fin 4) : Fin 8 := ⟨4 * (t.val / 8 % 2) + h.val, by omega⟩
def tR (t : Fin cfg0.N) (r : Fin 512) : Fin 4096 := ⟨512 * (t.val % 8) + r.val, by omega⟩

theorem qAt_eq (t : Fin cfg0.N) (h : Fin 4) (r : Fin 512) (e : Fin 128) (b : 128 * h.val + e.val < 512) :
    qAt t (ix3 0 r ⟨128 * h.val + e.val, b⟩) = ix3 (tB t) (tR t r) (hl (tN t h) e) := by
  refine funext fun a => Fin.ext ?_
  fin_cases a
  · rfl
  · rfl
  · show 512 * (t.val / 8 % 2) + (128 * h.val + e.val) = 128 * (4 * (t.val / 8 % 2) + h.val) + e.val
    omega
theorem kAt_eq (t : Fin cfg0.N) (h : Fin 4) (u : ℕ) (e : Fin 128) (b : 128 * h.val + e.val < 512) :
    kAt t (ix3 0 (kI u) ⟨128 * h.val + e.val, b⟩) = ix3 (tB t) (kI u) (hl (tN t h) e) := by
  refine funext fun a => Fin.ext ?_
  fin_cases a
  · rfl
  · rfl
  · show 512 * (t.val / 8 % 2) + (128 * h.val + e.val) = 128 * (4 * (t.val / 8 % 2) + h.val) + e.val
    omega

section
variable (q k v : S16x4096x1024.Idx → EReal) (cum : S16x4096x8.Idx → EReal) (fq : AllReal q) (fk : AllReal k) (fc : AllReal cum)
variable (t : Fin cfg0.N) (x0 x1 : Vec Ideal S1x512x512 .bf16) (x2 x3 x4 : Vec Ideal S1x4096x512 .bf16)
variable (h0 : ∀ y, x0 y = hQ q (qAt t y)) (h1 : ∀ y, x1 y = hQX cum (qAt t y)) (h2 : ∀ y, x2 y = k (kAt t y)) (h3 : ∀ y, x3 y = hKX cum (kAt t y)) (h4 : ∀ y, x4 y = v (kAt t y))
include fq fk fc h0 h1 h2 h3

/-- A score is the logit, in the binary logarithm. -/
theorem sg_at (h : Fin 4) (r : Fin 512) (u : ℕ) : sg x0 x1 x2 x3 h r u = ((1 / Real.log 2 * logit q k cum (tB t) (tN t h) (tR t r) u : ℝ) : EReal) := by
  have e0 : ∀ e, qv x0 h r e = q (ix3 (tB t) (tR t r) (hl (tN t h) e)) * ((1 / Real.log 2 / Real.sqrt 128 : ℝ) : EReal) := fun e => by
    rw [qv, h0, qAt_eq, hQ_at]
  have e1 : ∀ e, qv x1 h r e = hQX cum (ix3 (tB t) (tR t r) (hl (tN t h) e)) := fun e => by rw [qv, h1, qAt_eq]
  have e2 : ∀ e, kv x2 h u e = k (ix3 (tB t) (kI u) (hl (tN t h) e)) := fun e => (h2 _).trans (congrArg k (kAt_eq t h u e _))
  have e3 : ∀ e, kv x3 h u e = hKX cum (ix3 (tB t) (kI u) (hl (tN t h) e)) := fun e => (h3 _).trans (congrArg (hKX cum) (kAt_eq t h u e _))
  have s1 : ∑ e : Fin 128, qv x0 h r e * kv x2 h u e = (((∑ e : Fin 128, (q (ix3 (tB t) (tR t r) (hl (tN t h) e))).toReal * (k (ix3 (tB t) (kI u) (hl (tN t h) e))).toReal) * (1 / Real.log 2 / Real.sqrt 128) : ℝ) : EReal) := by
    rw [Finset.sum_mul, coe_sum]
    refine Finset.sum_congr rfl fun e _ => ?_
    rw [e0, e2, fq, fk, ← EReal.coe_mul, ← EReal.coe_mul]
    simp only [EReal.toReal_coe]
    congr 1; ring
  have s2 : ∑ e : Fin 128, qv x1 h r e * kv x3 h u e = _ :=
    (Finset.sum_congr rfl fun e _ => by rw [e1, e3]; rfl).trans (bias_at cum (tB t) (tR t r) (kI u) (tN t h) _ _ (fc _) (fc _))
  rw [sg, s1, s2, ← EReal.coe_add, logit]
  congr 1; ring

include h4 in
/-- The block written at point `t`. -/
theorem block_at (y : S1x512x512.Idx) (G : S16x4096x1024.Idx → EReal) (hG : ∀ b R n l, G (ix3 b R (hl n l)) = goal q k v cum b R n l) :
    outs (qs x0 x1) x2 x3 x4 (t.val % 8) y = G (qAt t y) := by
  have y0 : (y 0).val < 1 := (y 0).isLt
  have y2 : (y 2).val < 512 := (y 2).isLt
  have ey : ∃ (r : Fin 512) (h : Fin 4) (l : Fin 128) (b : 128 * h.val + l.val < 512), y = ix3 0 r ⟨128 * h.val + l.val, b⟩ := by
    refine ⟨y 1, ⟨(y 2).val / 128, by omega⟩, ⟨(y 2).val % 128, by omega⟩, by show 128 * ((y 2).val / 128) + (y 2).val % 128 < 512; omega, ?_⟩
    refine funext fun a => Fin.ext ?_
    fin_cases a
    · show (y 0).val = 0
      omega
    · rfl
    · show (y 2).val = 128 * ((y 2).val / 128) + (y 2).val % 128
      omega
  obtain ⟨r, h, l, b, rfl⟩ := ey
  rw [outs_at, qAt_eq, hG, oN_at x0 x1 x2 x3 x4 h r _ (sg_at q k cum fq fk fc t x0 x1 x2 x3 h0 h1 h2 h3 h r), goal]
  congr 1
  funext u
  exact (h4 _).trans (congrArg v (kAt_eq t h u l _))
end

/-- The whole array. -/
def whole (q k v : S16x4096x1024.Idx → EReal) (cum : S16x4096x8.Idx → EReal) : S16x4096x1024.Idx → EReal := fun y =>
  goal q k v cum (y 0) (y 1) ⟨(y 2).val / 128, by have : (y 2).val < 1024 := (y 2).isLt; omega⟩ ⟨(y 2).val % 128, Nat.mod_lt _ (by decide)⟩

theorem whole_at (q k v : S16x4096x1024.Idx → EReal) (cum : S16x4096x8.Idx → EReal) (b : Fin 16) (R : Fin 4096) (n : Fin 8) (l : Fin 128) :
    whole q k v cum (ix3 b R (hl n l)) = goal q k v cum b R n l := by
  have e1 : (128 * n.val + l.val) / 128 = n.val := by omega
  have e2 : (128 * n.val + l.val) % 128 = l.val := by omega
  show goal q k v cum b R ⟨(128 * n.val + l.val) / 128, _⟩ ⟨(128 * n.val + l.val) % 128, _⟩ = _
  congr 1
  · exact Fin.ext e1
  · exact Fin.ext e2

section
variable (m : (ℓ : Loc nD τ sig) → Buf (Elt Ideal) ℓ) (c : Dev nD)
variable (fq : AllReal (m ((c : Thread nD τ).loc main_arg0) : S16x4096x1024.Idx → EReal)) (fk : AllReal (m ((c : Thread nD τ).loc main_arg1) : S16x4096x1024.Idx → EReal)) (fc : AllReal (m ((c : Thread nD τ).loc main_arg3) : S16x4096x8.Idx → EReal))
include fq fk fc

/-- What point `t` writes back. -/
theorem flushed_at (t : Fin cfg0.N) : (dats m 0 c).flushed 5 t = ((cfg0.win 5).blk t).view.read (Elt Ideal) (whole (m ((c : Thread nD τ).loc main_arg0)) (m ((c : Thread nD τ).loc main_arg1)) (m ((c : Thread nD τ).loc main_arg2)) (m ((c : Thread nD τ).loc main_arg3)) : Buf (Elt Ideal) ((c : Thread nD τ).loc main_v30)) := by
  funext y
  have key := block_at _ _ _ _ fq fk fc t (iblk m c 0 t) (iblk m c 1 t) (iblk m c 2 t) (iblk m c 3 t) (iblk m c 4 t)
    (iblk0_at m c t) (iblk1_at m c t) (fun y => (iblk2_at m c t y).trans (hT_at _ _)) (iblk3_at m c t) (fun y => (iblk4_at m c t y).trans (hT_at _ _)) y _ (whole_at _ _ _ _)
  have e : ((cfg0.win 5).blk t).view.read (Elt Ideal) (whole (m ((c : Thread nD τ).loc main_arg0)) (m ((c : Thread nD τ).loc main_arg1)) (m ((c : Thread nD τ).loc main_arg2)) (m ((c : Thread nD τ).loc main_arg3)) : Buf (Elt Ideal) ((c : Thread nD τ).loc main_v30)) y
      = whole (m ((c : Thread nD τ).loc main_arg0)) (m ((c : Thread nD τ).loc main_arg1)) (m ((c : Thread nD τ).loc main_arg2)) (m ((c : Thread nD τ).loc main_arg3)) (qAt t y) := by
    rw [← emb5]; rfl
  rw [e, ← key, ← co2 t]
  have hp : (grid0.coords t 2).val % 2 = t.val % 2 := by rw [co2]; omega
  rcases Nat.mod_two_eq_zero_or_one t.val with h | h
  · rw [Cert.KernelIdeal.Value.flushed5_A m c t (by omega) h, out_A _ _ _ _ _ _ _ _ _ _ _ _ _ _ _ _ _ _ _ _ (hp.trans h)]
  · rw [Cert.KernelIdeal.Value.flushed5_B m c t h (by omega), out_B _ _ _ _ _ _ _ _ _ _ _ _ _ _ _ _ _ _ _ _ (hp.trans h)]

/-- The array after the run. -/
theorem arr_eq : (dats m 0 c).arrAt 5 cfg0.N = (whole (m ((c : Thread nD τ).loc main_arg0)) (m ((c : Thread nD τ).loc main_arg1)) (m ((c : Thread nD τ).loc main_arg2)) (m ((c : Thread nD τ).loc main_arg3)) : Buf (Elt Ideal) ((c : Thread nD τ).loc main_v30)) := by
  refine (dats m 0 c).arrAt_eq_of_cover 5 _ (fun t _ => flushed_at m c fq fk fc t) fun i => ?_
  have i0 : (i 0).val < 16 := (i 0).isLt
  have i1 : (i 1).val < 4096 := (i 1).isLt
  have i2 : (i 2).val < 1024 := (i 2).isLt
  have hN := N256
  let t : Fin cfg0.N := ⟨16 * (i 0).val + 8 * ((i 2).val / 512) + (i 1).val / 512, by omega⟩
  have ht : t.val = 16 * (i 0).val + 8 * ((i 2).val / 512) + (i 1).val / 512 := rfl
  refine ⟨t, flush0_5 t, ?_⟩
  have hi : i = qAt t (ix3 0 ⟨(i 1).val % 512, Nat.mod_lt _ (by decide)⟩ ⟨(i 2).val % 512, Nat.mod_lt _ (by decide)⟩) := by
    refine funext fun a => Fin.ext ?_
    fin_cases a
    · show (i 0).val = t.val / 16
      omega
    · show (i 1).val = 512 * (t.val % 8) + (i 1).val % 512
      omega
    · show (i 2).val = 512 * (t.val / 8 % 2) + (i 2).val % 512
      omega
  rw [hi, ← emb5]
  exact View.emb_mem_set _ _
end
end Cert.Proof
-- ==== Proof.RefScore.lean ====
/- The reference's scores, weights and result, read at one index. -/
module

public import proofs.«01_k».proof.Proof.Row
public import proofs.«01_k».proof.Proof.Goal
public import proofs.«01_k».proof.Proof.Gen.ReferenceIdeal.Read
public import Idealize.ShloMosaic.Lib.Pointwise

@[expose] public section
noncomputable section
namespace Cert.Proof
open Idealize.ShloMosaic Idealize.ShloMosaic.Pointwise Cert.ReferenceIdeal Cert.ReferenceIdeal.Gen Cert.ReferenceIdeal.Read

variable (x0 x1 x2 : QI → EReal) (x3 : CI → EReal)

/-- The reshaped index of one lane of one head. -/
theorem idx_lane (b : Fin 16) (n : Fin 8) (R : Fin 4096) (e : Fin 128) : idx_main_v0 (ix4 b R n e) = ix3 b R (hl n e) := by
  refine funext fun a => Fin.ext ?_
  fin_cases a
  · show (((b.val * 4096 + R.val) * 8 + n.val) * 128 + e.val) / 4194304 = b.val
    omega
  · show (((b.val * 4096 + R.val) * 8 + n.val) * 128 + e.val) / 1024 % 4096 = R.val
    omega
  · show (((b.val * 4096 + R.val) * 8 + n.val) * 128 + e.val) % 1024 = 128 * n.val + e.val
    omega

/-- The product of a query and a key. -/
theorem ref_dot (b : Fin 16) (n : Fin 8) (R t : Fin 4096) :
    val_main_v7 (F := Ideal) x0 x1 (ix4 b n R t) = ∑ e : Fin 128, x0 (ix3 b R (hl n e)) * x1 (ix3 b t (hl n e)) := by
  rw [val_main_v7_apply]
  refine Finset.sum_congr rfl fun e _ => ?_
  have l : lidx_main_v7 (ix4 b n R t) e = ix4 b R n e := funext fun a => by fin_cases a <;> rfl
  have r : ridx_main_v7 (ix4 b n R t) e = ix4 b t n e := funext fun a => by fin_cases a <;> rfl
  rw [l, r, val_main_v0_apply, val_main_v1_apply, idx_lane]
  exact congrArg (fun z => x0 _ * x1 z) (idx_lane b n t e)

theorem ref_s (b : Fin 16) (n : Fin 8) (R t : Fin 4096) :
    val_main_v21 (F := Ideal) x0 x1 x3 (ix4 b n R t) =
      if t.val ≤ R.val then (∑ e : Fin 128, x0 (ix3 b R (hl n e)) * x1 (ix3 b t (hl n e))) * Ideal.div (Ideal.ofBits .f32 0x3F800000#32) (Ideal.sqrt (Ideal.ofBits .f32 0x43000000#32)) + x3 (ix3 b R n) - x3 (ix3 b t n) else ⊥ := by
  have hm : val_main_call0_v1 (F := Ideal) (ix4 b n R t) = if t.val ≤ R.val then 1#1 else 0#1 := by
    rw [val_main_call0_v1_apply, val_main_v20_apply, val_main_v18_apply, val_main_v19_apply, val_main_v16_apply, val_main_v17_apply, val_main_v5_apply, val_main_v5_apply]
    exact sle_nat t.val R.val t.isLt R.isLt
  have hq : val_main_v11 (F := Ideal) x3 (ix4 b n R t) = x3 (ix3 b R n) := by
    rw [val_main_v11_apply, val_main_v10_apply, val_main_v6_apply]
    exact congrArg x3 (funext fun a => by fin_cases a <;> rfl)
  have hk : val_main_v14 (F := Ideal) x3 (ix4 b n R t) = x3 (ix3 b t n) := by
    rw [val_main_v14_apply, val_main_v13_apply, val_main_v6_apply]
    exact congrArg x3 (funext fun a => by fin_cases a <;> rfl)
  have hb : val_main_call0_v2 (F := Ideal) (ix4 b n R t) = ⊥ := by
    rw [val_main_call0_v2_apply, val_main_call0_v0_apply, val_main_cst_1_apply]
    exact ninf
  rw [val_main_v21_apply, hm, hb, val_main_v15_apply, val_main_v12_apply, val_main_v9_apply, ref_dot, val_main_v8_apply, val_main_v4_apply, hq, hk]
  by_cases h : t.val ≤ R.val
  · rw [if_pos h, if_pos h]; rfl
  · rw [if_neg h, if_neg h]; rfl
end Cert.Proof
-- ==== Proof.RefOut.lean ====
/- The reference's maximum, sum, weights and result at one index. -/
module

public import proofs.«01_k».proof.Proof.RefScore
public import proofs.«01_k».proof.Proof.Host
public import proofs.«01_k».proof.Proof.Goal
public import proofs.«01_k».proof.Proof.Gen.ReferenceIdeal.Read
public import Idealize.ShloMosaic.Lib.Pointwise

@[expose] public section
noncomputable section
namespace Cert.Proof
open Idealize.ShloMosaic Idealize.ShloMosaic.Pointwise Cert.ReferenceIdeal Cert.ReferenceIdeal.Gen Cert.ReferenceIdeal.Read

variable (x0 x1 x2 : QI → EReal) (x3 : CI → EReal)

/-- The maximum of the scores. -/
theorem ref_m (b : Fin 16) (n : Fin 8) (R : Fin 4096) :
    val_main_v22 (F := Ideal) x0 x1 x3 (ix3 b n R) = Finset.univ.fold max ⊥ fun t : Fin 4096 => val_main_v21 (F := Ideal) x0 x1 x3 (ix4 b n R t) := by
  unfold val_main_v22
  generalize val_main_v21 (F := Ideal) x0 x1 x3 = y
  refine Eq.trans ?_ (congrArg (fun z => Finset.univ.fold max z fun t : Fin 4096 => y (ix4 b n R t)) ninf)
  simp only [pointwise]
  rfl

/-- The maximum as it is subtracted. -/
theorem ref_sub (b : Fin 16) (n : Fin 8) (R t : Fin 4096) :
    val_main_v26 (F := Ideal) x0 x1 x3 (ix4 b n R t) = Finset.univ.fold max ⊥ fun t : Fin 4096 => val_main_v21 (F := Ideal) x0 x1 x3 (ix4 b n R t) := by
  have e : idx_main_v25 (idx_main_v26 (ix4 b n R t)) = ix3 b n R := funext fun a => by fin_cases a <;> rfl
  rw [val_main_v26_apply, val_main_v25_apply, e, val_main_v24_apply, ref_m, val_main_v23_apply, val_main_cst_3_apply]
  exact (congrArg (fun z => max z _) ninf).trans (max_eq_right bot_le)

/-- The maximum of scores none of which is ⊤ and one of which is a number is a number. -/
theorem fold_real (S : Fin 4096 → EReal) (h : ∀ t, S t ≠ ⊤) (h0 : S 0 ≠ ⊥) : ∃ m : ℝ, Finset.univ.fold max ⊥ S = m := by
  refine ⟨(Finset.univ.fold max ⊥ S).toReal, (EReal.coe_toReal ?_ ?_).symm⟩
  · rw [← lt_top_iff_ne_top, Finset.fold_max_lt]
    exact ⟨bot_lt_top, fun x _ => lt_top_iff_ne_top.mpr (h x)⟩
  · rw [← bot_lt_iff_ne_bot] at *
    exact lt_of_lt_of_le h0 ((Finset.le_fold_max _).mpr (.inr ⟨0, Finset.mem_univ _, le_rfl⟩))

/-- The weight of a key. -/
theorem ref_p (b : Fin 16) (n : Fin 8) (R t : Fin 4096) (S : Fin 4096 → EReal) (m : EReal) (hS : ∀ t, val_main_v21 (F := Ideal) x0 x1 x3 (ix4 b n R t) = S t) (hm : Finset.univ.fold max ⊥ S = m) :
    val_main_v32 (F := Ideal) x0 x1 x3 (ix4 b n R t) = Ideal.div (Ideal.exp (S t - m)) (∑ u : Fin 4096, Ideal.exp (S u - m)) := by
  have hx : ∀ t, val_main_v28 (F := Ideal) x0 x1 x3 (ix4 b n R t) = Ideal.exp (S t - m) := fun t => by
    rw [val_main_v28_apply, val_main_v27_apply, ref_sub, hS, ← hm]
    simp only [hS]
    rfl
  have e : idx_main_v30 (idx_main_v31 (ix4 b n R t)) = ix3 b n R := funext fun a => by fin_cases a <;> rfl
  have e' : ∀ u, idx_main_v29 (ix3 b n R) u = ix4 b n R u := fun u => funext fun a => by fin_cases a <;> rfl
  rw [val_main_v32_apply, hx, val_main_v31_apply, val_main_v30_apply, e, val_main_v29_apply, val_main_cst_4_apply]
  simp only [e', hx]
  exact congrArg (Ideal.div _) ((congrArg (fun z => z + _) Ideal.ofBits_zero_f32).trans (zero_add _))

/-- The result at one index. -/
theorem ref_o (b : Fin 16) (n : Fin 8) (R : Fin 4096) (l : Fin 128) :
    val_main_v36 (F := Ideal) x0 x1 x2 x3 (ix3 b R (hl n l)) = ∑ t : Fin 4096, x2 (ix3 b t (hl n l)) * val_main_v32 (F := Ideal) x0 x1 x3 (ix4 b n R t) := by
  have e : idx_main_v34 (idx_main_v35 (ix3 b R (hl n l))) = ix4 b n l R := by
    refine funext fun a => Fin.ext ?_
    fin_cases a
    · show ((b.val * 4096 + R.val) * 1024 + (128 * n.val + l.val)) / 4194304 = b.val
      omega
    · show ((b.val * 4096 + R.val) * 1024 + (128 * n.val + l.val)) / 128 % 8 = n.val
      omega
    · show ((b.val * 4096 + R.val) * 1024 + (128 * n.val + l.val)) % 128 = l.val
      omega
    · show ((b.val * 4096 + R.val) * 1024 + (128 * n.val + l.val)) / 1024 % 4096 = R.val
      omega
  refine Eq.trans (val_main_v35_apply (F := Ideal) x0 x1 x2 x3 _) ?_
  rw [val_main_v34_apply, e, val_main_v33_apply]
  refine Finset.sum_congr rfl fun t _ => ?_
  have el : lidx_main_v33 (ix4 b n l R) t = ix4 b t n l := funext fun a => by fin_cases a <;> rfl
  have er : ridx_main_v33 (ix4 b n l R) t = ix4 b n R t := funext fun a => by fin_cases a <;> rfl
  rw [el, er, val_main_v2_apply]
  exact congrArg (fun z => x2 z * _) (idx_lane b n t l)

/-- A score, when the arrays are numbers. -/
theorem ref_logit (h0 : AllReal x0) (h1 : AllReal x1) (h3 : AllReal x3) (b : Fin 16) (n : Fin 8) (R t : Fin 4096) :
    val_main_v21 (F := Ideal) x0 x1 x3 (ix4 b n R t) = if t.val ≤ R.val then ((logit x0 x1 x3 b n R t.val : ℝ) : EReal) else ⊥ := by
  have hk : kI t.val = t := Fin.ext (Nat.mod_eq_of_lt t.isLt)
  rw [ref_s, dot_real _ _ (fun e => h0 _) (fun e => h1 _), ofBits_128, Ideal.sqrt_coe, if_neg (show ¬ (128 : ℝ) < 0 by norm_num), Ideal.div_coe sqrt128_ne, show Ideal.ofBits .f32 0x3F800000#32 = 1 from Ideal.ofBits_one_f32, one_mul, h3 (ix3 b R n), h3 (ix3 b t n), logit, hk]
  refine congrArg (fun z => if t.val ≤ R.val then z else (⊥ : EReal)) ?_
  rw [← EReal.coe_mul, ← EReal.coe_add, ← EReal.coe_sub, add_sub_assoc]

/-- The reference is the attention. -/
theorem ref_goal (h0 : AllReal x0) (h1 : AllReal x1) (h3 : AllReal x3) (b : Fin 16) (n : Fin 8) (R : Fin 4096) (l : Fin 128) :
    val_main_v36 (F := Ideal) x0 x1 x2 x3 (ix3 b R (hl n l)) = goal x0 x1 x2 x3 b R n l := by
  let S : ℕ → EReal := fun t => if t ≤ R.val then ((logit x0 x1 x3 b n R t : ℝ) : EReal) else ⊥
  obtain ⟨m, hm⟩ := fold_real (fun t => S t.val) (fun t => by
    by_cases h : t.val ≤ R.val
    · simp only [S, if_pos h]; exact EReal.coe_ne_top _
    · simp only [S, if_neg h]; exact bot_ne_top) (by simp only [S, if_pos (show (0 : Fin 4096).val ≤ R.val from Nat.zero_le _)]; exact EReal.coe_ne_bot _)
  rw [ref_o, goal, ← ref_attn (logit x0 x1 x3 b n R) _ S R.val 4096 R.isLt m (fun _ => rfl), Finset.sum_range, Finset.sum_range]
  refine Finset.sum_congr rfl fun t _ => ?_
  have hk : kI t.val = t := Fin.ext (Nat.mod_eq_of_lt t.isLt)
  rw [ref_p x0 x1 x3 b n R t (fun t => S t.val) m (fun t => ref_logit x0 x1 x3 h0 h1 h3 b n R t) hm, hk]
end Cert.Proof
-- ==== Proof.Pre.lean ====
/- The precondition read back: the queries, keys and decay sums are numbers. -/
module

public import proofs.«01_k».proof.Proof.Goal
public import proofs.«01_k».proof.Proof.Gen.Pre_finite
public import Idealize.ShloMosaic.Lib.ReduceAll

@[expose] public section
noncomputable section
namespace Cert.Proof
open Idealize.ShloMosaic Idealize.ShloMosaic.Pointwise Cert.Pre_finite Cert.Pre_finite.Gen

theorem pinf : Ideal.ofBits .f32 0x7F800000#32 = ⊤ := by simp [Ideal.ofBits, Ideal.ieee]

/-- An extended real whose absolute value is below +∞ is a number. -/
theorem real_of_abs (x : EReal) (h : Ideal.cmp .olt (max x (-x)) ⊤ = 1#1) : x = (x.toReal : EReal) := by
  have h' : max x (-x) < ⊤ := by
    by_contra hn
    simp [Ideal.cmp, hn] at h
  rw [max_lt_iff] at h'
  refine (EReal.coe_toReal h'.1.ne fun e => ?_).symm
  rw [e] at h'
  exact absurd h'.2 (by simp)

theorem pre_real (x0 x1 x2 : QI → EReal) (x3 : CI → EReal) (h : fn (F := Ideal) x0 x1 x2 x3 = fun _ => 1#1) : AllReal x0 ∧ AllReal x1 ∧ AllReal x3 := by
  obtain ⟨h01, h3⟩ := IntOp.andi_eq_one.1 (congrFun h ix0)
  obtain ⟨h0, h1⟩ := IntOp.andi_eq_one.1 h01
  haveI : Subsingleton (⟨0, ![]⟩ : Shape).Idx := ⟨fun a b => funext fun z => z.elim0⟩
  have key : ∀ x : EReal, FloatOps.cmpf (F := Ideal) (φ := .f32) .olt (FloatOps.hostAbsf (F := Ideal) (φ := .f32) x) (Ideal.ofBits .f32 0x7F800000#32) = 1#1 → x = (x.toReal : EReal) := fun x hx => real_of_abs x (by rw [pinf] at hx; exact hx)
  exact ⟨fun i => key _ (Host.reduce_andi_all _ _ _ _ _ h0 i), fun i => key _ (Host.reduce_andi_all _ _ _ _ _ h1 i), fun i => key _ (Host.reduce_andi_all _ _ _ _ _ h3 i)⟩
end Cert.Proof
-- ==== Proof.Attention.lean ====
/- The claims of the attention. -/
module

public import proofs.«01_k».proof.Defs
public import proofs.«01_k».proof.Proof.Result
public import proofs.«01_k».proof.Proof.RefOut
public import proofs.«01_k».proof.Proof.Pre
public import proofs.«01_k».proof.Proof.Gen.Kernel.Frame
public import proofs.«01_k».proof.Proof.Gen.KernelIdeal.Value
public import Idealize.ShloMosaic.Adequacy

@[expose] public section
noncomputable section
namespace Cert.Proof
open Idealize.ShloMosaic Idealize.ShloMosaic.Pointwise Idealize.SL.Sem

/-- The reference's array is the attention's. -/
theorem ref_whole (x0 x1 x2 : QI → EReal) (x3 : CI → EReal) (h0 : AllReal x0) (h1 : AllReal x1) (h3 : AllReal x3) :
    Cert.ReferenceIdeal.Read.val_main_v36 (F := Ideal) x0 x1 x2 x3 = whole x0 x1 x2 x3 := by
  funext i
  have i2 : (i 2).val < 1024 := (i 2).isLt
  have hi : ∃ (b : Fin 16) (R : Fin 4096) (n : Fin 8) (l : Fin 128), i = ix3 b R (hl n l) := by
    refine ⟨i 0, i 1, ⟨(i 2).val / 128, by omega⟩, ⟨(i 2).val % 128, by omega⟩, funext fun a => Fin.ext ?_⟩
    fin_cases a
    · rfl
    · rfl
    · show (i 2).val = 128 * ((i 2).val / 128) + (i 2).val % 128
      omega
  obtain ⟨b, R, n, l, rfl⟩ := hi
  exact (ref_goal x0 x1 x2 x3 h0 h1 h3 b n R l).trans (whole_at x0 x1 x2 x3 b R n l).symm

/-- The reference leaves its arguments as they were and no semaphore behind. -/
theorem ref_frame : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel and the reference end with the same array. -/
theorem attention : Cert.algebraic_KernelIdeal_ReferenceIdeal_pre_finite := fun m g m' g' hp ha => by
  refine ⟨fun c => whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks m g)
    obtain ⟨f0, f1, f3⟩ := pre_real _ _ _ _ (hp c)
    exact ⟨(h c).1.trans (arr_eq m c f0 f1 f3), (h c).2⟩
  · refine (θ_run Cert.ReferenceIdeal.defs _ _).mono (fun r h c => ?_) (Cert.ReferenceIdeal.Value.run (F := Ideal) m' g')
    obtain ⟨f0, f1, f3⟩ := pre_real _ _ _ _ (hp c)
    obtain ⟨a0, a1, a2, a3⟩ := ha c
    refine ⟨(h c).1.trans ?_, (h c).2⟩
    rw [Cert.ReferenceIdeal.Read.val_main_v36_eq, a0, a1, a2, a3]
    exact ref_whole _ _ _ _ f0 f1 f3
end Cert.Proof
-- ==== Proof.ProjDefs.lean ====
/- The projection as a function of plain arrays: a row is normalized, scaled and shifted, and multiplied by a column of the weights. -/
module

public import Idealize.ShloMosaic.PureOps.Ideal.Laws

@[expose] public section
noncomputable section
namespace Cert.Proof.Proj
open Idealize.ShloMosaic

/-- An element of a normalized, scaled and shifted row. -/
def rowH (x g sc sh : Fin 1024 → EReal) (e : Fin 1024) : EReal :=
  x e * Ideal.rsqrt (Ideal.div (∑ k, x k * x k) (Ideal.ofBits .f32 0x44800000#32) + Ideal.ofBits .f32 0x3727C5AC#32) * g e * (1 + sc e) + sh e

/-- Its product with a column. -/
def proj (x g sc sh w : Fin 1024 → EReal) : EReal := ∑ e, rowH x g sc sh e * w e
end Cert.Proof.Proj
-- ==== Proof.ProjBody.lean ====
/- What the projection kernel computes from its blocks, element by element. -/
module

public import proofs.«01_k».proof.Proof.ProjDefs
public import proofs.«01_k».proof.Proof.Gen.Kernel2Ideal.Value
public import Idealize.ShloMosaic.Lib.Pointwise

@[expose] public section
noncomputable section
namespace Cert.Proof.Proj
open Idealize.ShloMosaic.Pointwise Cert.Kernel2Ideal Cert.Kernel2Ideal.Gen Idealize.ShloMosaic

variable (x : Vec Ideal S1x512x1024 .f32) (g sc sh : Vec Ideal S1x1x1024 .f32)

/-- The normalized row. -/
theorem pay2_at (r : Fin 512) (e : Fin 1024) :
    k0_pay2 x g sc sh (ix2 r e) = rowH (fun k => x (ix3 0 r k)) (fun k => g (ix3 0 0 k)) (fun k => sc (ix3 0 0 k)) (fun k => sh (ix3 0 0 k)) e := by
  pointwise [k0_pay2]
  rfl

/-- A row of the block, times a column of the weights. -/
def pr (r : Fin 512) (w : Fin 1024 → EReal) : EReal := proj (fun k => x (ix3 0 r k)) (fun k => g (ix3 0 0 k)) (fun k => sc (ix3 0 0 k)) (fun k => sh (ix3 0 0 k)) w

theorem qscale : Named.named (F := Ideal) κ "qscale" (φ := .f32) 0x3E0293EE#32 = (((Real.log 2 * Real.sqrt 128)⁻¹ : ℝ) : EReal) :=
  IdealRules.named_const.ideal_named_scalar _ _ _ _ rfl

/-- The queries. -/
theorem pay3_at (w : Vec Ideal S1024x1024 .bf16) (r : Fin 512) (j : Fin 1024) :
    k0_pay3 x g sc sh w (ix3 0 r j) = pr x g sc sh r (fun e => w (ix2 e j)) * (((Real.log 2 * Real.sqrt 128)⁻¹ : ℝ) : EReal) := by
  pointwise [k0_pay3]
  simp only [pay2_at, qscale]
  rfl

/-- The keys, the values, the gate: f32 and bf16. -/
theorem pay5_at (w : Vec Ideal S1024x1024 .bf16) (r : Fin 512) (j : Fin 1024) :
    k0_pay5 (k0_pay2 x g sc sh) w (ix3 0 r j) = pr x g sc sh r (fun e => w (ix2 e j)) := by
  pointwise [k0_pay5, k0_pay4]
  simp only [pay2_at]
  rfl
theorem pay6_at (w : Vec Ideal S1024x1024 .bf16) (r : Fin 512) (j : Fin 1024) :
    k0_pay6 (k0_pay2 x g sc sh) w (ix3 0 r j) = pr x g sc sh r (fun e => w (ix2 e j)) := by
  pointwise [k0_pay6, k0_pay4]
  simp only [pay2_at]
  rfl
theorem pay8_at (w : Vec Ideal S1024x1024 .bf16) (r : Fin 512) (j : Fin 1024) :
    k0_pay8 (k0_pay2 x g sc sh) w (ix3 0 r j) = pr x g sc sh r (fun e => w (ix2 e j)) := by
  pointwise [k0_pay8, k0_pay7]
  simp only [pay2_at]
  rfl
theorem pay9_at (w : Vec Ideal S1024x1024 .bf16) (r : Fin 512) (j : Fin 1024) :
    k0_pay9 (k0_pay2 x g sc sh) w (ix3 0 r j) = pr x g sc sh r (fun e => w (ix2 e j)) := by
  pointwise [k0_pay9, k0_pay7]
  simp only [pay2_at]
  rfl
theorem pay10_at (w : Vec Ideal S1024x1024 .bf16) (r : Fin 512) (j : Fin 1024) :
    k0_pay10 (k0_pay2 x g sc sh) w (ix3 0 r j) = pr x g sc sh r (fun e => w (ix2 e j)) := by
  pointwise [k0_pay10]
  simp only [pay2_at]
  rfl

/-- The convolution's input. -/
theorem pay11_at (w : Vec Ideal S1024x1536 .bf16) (r : Fin 512) (j : Fin 1536) :
    k0_pay11 (k0_pay2 x g sc sh) w (ix3 0 r j) = pr x g sc sh r (fun e => w (ix2 e j)) := by
  pointwise [k0_pay11]
  simp only [pay2_at]
  rfl

/-- The narrow outputs. -/
theorem pay1_at (w : Vec Ideal S1024x128 .bf16) (r : Fin 512) (j : Fin 128) :
    k0_pay1 (k0_pay2 x g sc sh) w (ix3 0 r j) = pr x g sc sh r (fun e => w (ix2 e j)) := by
  pointwise [k0_pay1]
  simp only [pay2_at]
  rfl
end Cert.Proof.Proj
-- ==== Proof.ProjHost.lean ====
/- What the host makes of the arguments for the projection's call: cuts of the weights, and reshapes. -/
module

public import proofs.«01_k».proof.Proof.Gen.Kernel2Ideal.Value
public import Idealize.ShloMosaic.PureOps.Ideal.Laws
public import Idealize.ShloMosaic.Lib.Pointwise
public import Idealize.ShloMosaic.Lib.StableHlo.Run

@[expose] public section
noncomputable section
namespace Cert.Proof.Proj
open Idealize.ShloMosaic.Pointwise Cert.Kernel2Ideal Cert.Kernel2Ideal.Gen Idealize.ShloMosaic Idealize.ShloMosaic.TcCoe Idealize.ShloMosaic.Tactic Idealize.SL.Sem

def hG (g : FVec Ideal S1024 .f32) : FVec Ideal S1x1x1024 .f32 := shapeCast S1x1x1024 g shapeCasts_S1024_S1x1x1024
def hS (s : FVec Ideal S16x1024 .f32) : FVec Ideal S16x1x1024 .f32 := shapeCast S16x1x1024 s shapeCasts_S16x1024_S16x1x1024
def hW0 (w : FVec Ideal S1024x5656 .f32) : FVec Ideal S1024x1024 .bf16 := truncf .bf16 (extractStridedSlice S1024x1024 ![0, 0] w slices_S1024x5656_S1024x1024_0_0) bitsLt_bf16_f32
def hW1 (w : FVec Ideal S1024x5656 .f32) : FVec Ideal S1024x1024 .bf16 := truncf .bf16 (extractStridedSlice S1024x1024 ![0, 1024] w slices_S1024x5656_S1024x1024_0_1024) bitsLt_bf16_f32
def hW2 (w : FVec Ideal S1024x5656 .f32) : FVec Ideal S1024x1024 .bf16 := truncf .bf16 (extractStridedSlice S1024x1024 ![0, 2048] w slices_S1024x5656_S1024x1024_0_2048) bitsLt_bf16_f32
def hW3 (w : FVec Ideal S1024x5656 .f32) : FVec Ideal S1024x1024 .bf16 := truncf .bf16 (extractStridedSlice S1024x1024 ![0, 3080] w slices_S1024x5656_S1024x1024_0_3080) bitsLt_bf16_f32
def hW4 (w : FVec Ideal S1024x5656 .f32) : FVec Ideal S1024x1536 .bf16 := truncf .bf16 (extractStridedSlice S1024x1536 ![0, 4104] w slices_S1024x5656_S1024x1536_0_4104) bitsLt_bf16_f32
def hW5 (w : FVec Ideal S1024x5656 .f32) : FVec Ideal S1024x128 .bf16 :=
  truncf .bf16 (concatenate S1024x128 1 [⟨S1024x8, extractStridedSlice S1024x8 ![0, 3072] w slices_S1024x5656_S1024x8_0_3072⟩, ⟨S1024x16, extractStridedSlice S1024x16 ![0, 5640] w slices_S1024x5656_S1024x16_0_5640⟩, ⟨S1024x104, broadcastInDim S1024x104 ![] bcast_S_S1024x104 (constant S_ .f32 0x00000000#32)⟩] concatenates_S1024x8_S1024x16_S1024x104_S1024x128_d1) bitsLt_bf16_f32

theorem hG_at (g : FVec Ideal S1024 .f32) (k : Fin 1024) : hG g (ix3 0 0 k) = g (ix1 k) := by pointwise [hG]
theorem hS_at (s : FVec Ideal S16x1024 .f32) (b : Fin 16) (k : Fin 1024) : hS s (ix3 b 0 k) = s (ix2 b k) := by pointwise [hS]
theorem hW0_at (w : FVec Ideal S1024x5656 .f32) (e j : Fin 1024) : hW0 w (ix2 e j) = w (ix2 e ⟨0 + j.val, by omega⟩) := by pointwise [hW0]
theorem hW1_at (w : FVec Ideal S1024x5656 .f32) (e j : Fin 1024) : hW1 w (ix2 e j) = w (ix2 e ⟨1024 + j.val, by omega⟩) := by pointwise [hW1]
theorem hW2_at (w : FVec Ideal S1024x5656 .f32) (e j : Fin 1024) : hW2 w (ix2 e j) = w (ix2 e ⟨2048 + j.val, by omega⟩) := by pointwise [hW2]
theorem hW3_at (w : FVec Ideal S1024x5656 .f32) (e j : Fin 1024) : hW3 w (ix2 e j) = w (ix2 e ⟨3080 + j.val, by omega⟩) := by pointwise [hW3]
theorem hW4_at (w : FVec Ideal S1024x5656 .f32) (e : Fin 1024) (j : Fin 1536) : hW4 w (ix2 e j) = w (ix2 e ⟨4104 + j.val, by omega⟩) := by pointwise [hW4]
theorem hW5_at (w : FVec Ideal S1024x5656 .f32) (e : Fin 1024) (j : Fin 128) : hW5 w (ix2 e j) =
    if h : j.val < 8 then w (ix2 e ⟨3072 + j.val, by omega⟩) else if h' : j.val - 8 < 16 then w (ix2 e ⟨5640 + (j.val - 8), by omega⟩) else 0 := by
  pointwise [hW5]

section
variable (m : (ℓ : Loc nD τ sig) → Buf (Elt Ideal) ℓ) (c : Dev nD)
theorem V_g : V m c main_v15 = hG (m ((c : Thread nD τ).loc main_arg1)) := by
  show StableHlo.after hostOps0 _ (Proc.devRef .tc main_v15) = _
  after_results
  rfl
theorem V_sc : V m c main_v16 = hS (m ((c : Thread nD τ).loc main_arg2)) := by
  show StableHlo.after hostOps0 _ (Proc.devRef .tc main_v16) = _
  after_results
  rfl
theorem V_sh : V m c main_v17 = hS (m ((c : Thread nD τ).loc main_arg3)) := by
  show StableHlo.after hostOps0 _ (Proc.devRef .tc main_v17) = _
  after_results
  rfl
theorem V_w0 : V m c main_v5 = hW0 (m ((c : Thread nD τ).loc main_arg4)) := by
  show StableHlo.after hostOps0 _ (Proc.devRef .tc main_v5) = _
  after_results
  rfl
theorem V_w1 : V m c main_v7 = hW1 (m ((c : Thread nD τ).loc main_arg4)) := by
  show StableHlo.after hostOps0 _ (Proc.devRef .tc main_v7) = _
  after_results
  rfl
theorem V_w2 : V m c main_v9 = hW2 (m ((c : Thread nD τ).loc main_arg4)) := by
  show StableHlo.after hostOps0 _ (Proc.devRef .tc main_v9) = _
  after_results
  rfl
theorem V_w3 : V m c main_v11 = hW3 (m ((c : Thread nD τ).loc main_arg4)) := by
  show StableHlo.after hostOps0 _ (Proc.devRef .tc main_v11) = _
  after_results
  rfl
theorem V_w4 : V m c main_v13 = hW4 (m ((c : Thread nD τ).loc main_arg4)) := by
  show StableHlo.after hostOps0 _ (Proc.devRef .tc main_v13) = _
  after_results
  rfl
theorem V_w5 : V m c main_v14 = hW5 (m ((c : Thread nD τ).loc main_arg4)) := by
  show StableHlo.after hostOps0 _ (Proc.devRef .tc main_v14) = _
  after_results
  rfl
end
end Cert.Proof.Proj
-- ==== Proof.ProjBlocks.lean ====
/- The blocks of the projection: where each window's block lies, and what it holds. -/
module

public import proofs.«01_k».proof.Proof.ProjBody
public import proofs.«01_k».proof.Proof.ProjHost

@[expose] public section
noncomputable section
namespace Cert.Proof.Proj
open Idealize.ShloMosaic.Pointwise Cert.Kernel2Ideal Cert.Kernel2Ideal.Gen Idealize.ShloMosaic Idealize.ShloMosaic.TcCoe Idealize.ShloMosaic.Tactic Idealize.SL.Sem

theorem N128 : cfg0.N = 128 := N_0

/-- Point `t` is batch `t / 8` and token block `t % 8`. -/
theorem co0 (t : Fin cfg0.N) : (grid0.coords t 0).val = t.val / 8 % 16 := Pipeline.Grid.coords_val t 0 rfl rfl
theorem co1 (t : Fin cfg0.N) : (grid0.coords t 1).val = t.val % 8 := (Pipeline.Grid.coords_val (G := grid0) (S := 1) (B := 8) t 1 rfl rfl).trans (by rw [Nat.div_one])
theorem word (n : ℕ) (h : n < 4096) : (BitVec.ofNat 32 n).toNat = n := by rw [BitVec.toNat_ofNat]; omega
theorem w0 (t : Fin cfg0.N) : (BitVec.ofNat 32 (grid0.coords t 0).val).toNat = t.val / 8 := by
  have := t.isLt; have := N128
  rw [co0, word _ (by omega)]; omega
theorem w1 (t : Fin cfg0.N) : (BitVec.ofNat 32 (grid0.coords t 1).val).toNat = t.val % 8 := by rw [co1, word _ (by omega)]

/-- The batch of a point and the token of a row of its block. -/
def tB (t : Fin cfg0.N) : Fin 16 := ⟨t.val / 8, by have := t.isLt; have := N128; omega⟩
def tR (t : Fin cfg0.N) (r : Fin 512) : Fin 4096 := ⟨512 * (t.val % 8) + r.val, by omega⟩

/-- The place of an element of a block of 512 rows. -/
theorem at_o {n : ℕ} (t : Fin cfg0.N) (y : (⟨3, ![1, 512, n]⟩ : Shape).Idx) (z : (⟨3, ![16, 4096, n]⟩ : Shape).Idx) (i0 i1 i2 : ℕ) (h0 : i0 = t.val / 8) (h1 : i1 = t.val % 8) (h2 : i2 = 0)
    (e0 : (z 0).val = i0 * 1 + 1 * (y 0).val) (e1 : (z 1).val = i1 * 512 + 1 * (y 1).val) (e2 : (z 2).val = i2 * n + 1 * (y 2).val) : z = ix3 (tB t) (tR t (y 1)) (y 2) := by
  have : (y 0).val < 1 := (y 0).isLt
  refine funext fun a => Fin.ext ?_
  fin_cases a
  · refine e0.trans ?_
    show i0 * 1 + 1 * (y 0).val = t.val / 8
    omega
  · refine e1.trans ?_
    show i1 * 512 + 1 * (y 1).val = 512 * (t.val % 8) + (y 1).val
    omega
  · refine e2.trans ?_
    show i2 * n + 1 * (y 2).val = (y 2).val
    rw [h2]; omega

/-- The place of an element of a block that is a whole matrix. -/
theorem at_w {p q : ℕ} (y z : (⟨2, ![p, q]⟩ : Shape).Idx) (i0 i1 : ℕ) (h0 : i0 = 0) (h1 : i1 = 0) (e0 : (z 0).val = i0 * p + 1 * (y 0).val) (e1 : (z 1).val = i1 * q + 1 * (y 1).val) : z = y := by
  refine funext fun a => Fin.ext ?_
  fin_cases a
  · refine e0.trans ?_
    show i0 * p + 1 * (y 0).val = (y 0).val
    rw [h0]; omega
  · refine e1.trans ?_
    show i1 * q + 1 * (y 1).val = (y 1).val
    rw [h1]; omega

/-- The place of an element of a row of 1024. -/
theorem at_r {n : ℕ} (y : S1x1x1024.Idx) (z : (⟨3, ![n, 1, 1024]⟩ : Shape).Idx) (k : Fin n) (i0 : ℕ) (h0 : i0 = k.val) (e0 : (z 0).val = i0 * 1 + 1 * (y 0).val) (e1 : (z 1).val = 0 * 1 + 1 * (y 1).val) (e2 : (z 2).val = 0 * 1024 + 1 * (y 2).val) : z = ix3 k 0 (y 2) := by
  have y0 : (y 0).val < 1 := (y 0).isLt
  have y1 : (y 1).val < 1 := (y 1).isLt
  refine funext fun a => Fin.ext ?_
  fin_cases a
  · refine e0.trans ?_
    show i0 * 1 + 1 * (y 0).val = k.val
    omega
  · refine e1.trans ?_
    show 0 * 1 + 1 * (y 1).val = 0
    omega
  · refine e2.trans ?_
    show 0 * 1024 + 1 * (y 2).val = (y 2).val
    omega

/-- Every element of an array of 4096 rows a batch lies in a block. -/
theorem cov {n : ℕ} (i : (⟨3, ![16, 4096, n]⟩ : Shape).Idx) : ∃ (t : Fin cfg0.N) (y : (⟨3, ![1, 512, n]⟩ : Shape).Idx), ix3 (tB t) (tR t (y 1)) (y 2) = i := by
  have i0 : (i 0).val < 16 := (i 0).isLt
  have i1 : (i 1).val < 4096 := (i 1).isLt
  have hN := N128
  refine ⟨⟨8 * (i 0).val + (i 1).val / 512, by omega⟩, ix3 0 ⟨(i 1).val % 512, Nat.mod_lt _ (by decide)⟩ (i 2), funext fun a => Fin.ext ?_⟩
  fin_cases a
  · show (8 * (i 0).val + (i 1).val / 512) / 8 = (i 0).val
    omega
  · show 512 * ((8 * (i 0).val + (i 1).val / 512) % 8) + (i 1).val % 512 = (i 1).val
    omega
  · rfl

theorem emb1 (t : Fin cfg0.N) (y : S1x1x1024.Idx) : ((cfg0.win 1).blk t).view.emb y = ix3 0 0 (y 2) :=
  at_r (n := 1) y _ 0 0 rfl rfl rfl rfl
theorem emb2 (t : Fin cfg0.N) (y : S1x1x1024.Idx) : ((cfg0.win 2).blk t).view.emb y = ix3 (tB t) 0 (y 2) :=
  at_r (n := 16) y _ (tB t) (win0_2.index t (0 : Fin 3)) (w0 t) rfl rfl rfl
theorem emb3 (t : Fin cfg0.N) (y : S1x1x1024.Idx) : ((cfg0.win 3).blk t).view.emb y = ix3 (tB t) 0 (y 2) :=
  at_r (n := 16) y _ (tB t) (win0_3.index t (0 : Fin 3)) (w0 t) rfl rfl rfl

theorem emb0 (t : Fin cfg0.N) (y : S1x512x1024.Idx) : ((cfg0.win 0).blk t).view.emb y = ix3 (tB t) (tR t (y 1)) (y 2) :=
  at_o t y _ (win0_0.index t (0 : Fin 3)) (win0_0.index t (1 : Fin 3)) (win0_0.index t (2 : Fin 3)) (w0 t) (w1 t) rfl rfl rfl rfl
theorem emb10 (t : Fin cfg0.N) (y : S1x512x1024.Idx) : ((cfg0.win 10).blk t).view.emb y = ix3 (tB t) (tR t (y 1)) (y 2) :=
  at_o t y _ (win0_10.index t (0 : Fin 3)) (win0_10.index t (1 : Fin 3)) (win0_10.index t (2 : Fin 3)) (w0 t) (w1 t) rfl rfl rfl rfl
theorem emb11 (t : Fin cfg0.N) (y : S1x512x1024.Idx) : ((cfg0.win 11).blk t).view.emb y = ix3 (tB t) (tR t (y 1)) (y 2) :=
  at_o t y _ (win0_11.index t (0 : Fin 3)) (win0_11.index t (1 : Fin 3)) (win0_11.index t (2 : Fin 3)) (w0 t) (w1 t) rfl rfl rfl rfl
theorem emb12 (t : Fin cfg0.N) (y : S1x512x1024.Idx) : ((cfg0.win 12).blk t).view.emb y = ix3 (tB t) (tR t (y 1)) (y 2) :=
  at_o t y _ (win0_12.index t (0 : Fin 3)) (win0_12.index t (1 : Fin 3)) (win0_12.index t (2 : Fin 3)) (w0 t) (w1 t) rfl rfl rfl rfl
theorem emb13 (t : Fin cfg0.N) (y : S1x512x1024.Idx) : ((cfg0.win 13).blk t).view.emb y = ix3 (tB t) (tR t (y 1)) (y 2) :=
  at_o t y _ (win0_13.index t (0 : Fin 3)) (win0_13.index t (1 : Fin 3)) (win0_13.index t (2 : Fin 3)) (w0 t) (w1 t) rfl rfl rfl rfl
theorem emb14 (t : Fin cfg0.N) (y : S1x512x1024.Idx) : ((cfg0.win 14).blk t).view.emb y = ix3 (tB t) (tR t (y 1)) (y 2) :=
  at_o t y _ (win0_14.index t (0 : Fin 3)) (win0_14.index t (1 : Fin 3)) (win0_14.index t (2 : Fin 3)) (w0 t) (w1 t) rfl rfl rfl rfl
theorem emb15 (t : Fin cfg0.N) (y : S1x512x1024.Idx) : ((cfg0.win 15).blk t).view.emb y = ix3 (tB t) (tR t (y 1)) (y 2) :=
  at_o t y _ (win0_15.index t (0 : Fin 3)) (win0_15.index t (1 : Fin 3)) (win0_15.index t (2 : Fin 3)) (w0 t) (w1 t) rfl rfl rfl rfl
theorem emb16 (t : Fin cfg0.N) (y : S1x512x1536.Idx) : ((cfg0.win 16).blk t).view.emb y = ix3 (tB t) (tR t (y 1)) (y 2) :=
  at_o t y _ (win0_16.index t (0 : Fin 3)) (win0_16.index t (1 : Fin 3)) (win0_16.index t (2 : Fin 3)) (w0 t) (w1 t) rfl rfl rfl rfl
theorem emb17 (t : Fin cfg0.N) (y : S1x512x128.Idx) : ((cfg0.win 17).blk t).view.emb y = ix3 (tB t) (tR t (y 1)) (y 2) :=
  at_o t y _ (win0_17.index t (0 : Fin 3)) (win0_17.index t (1 : Fin 3)) (win0_17.index t (2 : Fin 3)) (w0 t) (w1 t) rfl rfl rfl rfl
theorem emb4 (t : Fin cfg0.N) (y : S1024x1024.Idx) : ((cfg0.win 4).blk t).view.emb y = y :=
  at_w y _ (win0_4.index t (0 : Fin 2)) (win0_4.index t (1 : Fin 2)) rfl rfl rfl rfl
theorem emb5 (t : Fin cfg0.N) (y : S1024x1024.Idx) : ((cfg0.win 5).blk t).view.emb y = y :=
  at_w y _ (win0_5.index t (0 : Fin 2)) (win0_5.index t (1 : Fin 2)) rfl rfl rfl rfl
theorem emb6 (t : Fin cfg0.N) (y : S1024x1024.Idx) : ((cfg0.win 6).blk t).view.emb y = y :=
  at_w y _ (win0_6.index t (0 : Fin 2)) (win0_6.index t (1 : Fin 2)) rfl rfl rfl rfl
theorem emb7 (t : Fin cfg0.N) (y : S1024x1024.Idx) : ((cfg0.win 7).blk t).view.emb y = y :=
  at_w y _ (win0_7.index t (0 : Fin 2)) (win0_7.index t (1 : Fin 2)) rfl rfl rfl rfl
theorem emb8 (t : Fin cfg0.N) (y : S1024x1536.Idx) : ((cfg0.win 8).blk t).view.emb y = y :=
  at_w y _ (win0_8.index t (0 : Fin 2)) (win0_8.index t (1 : Fin 2)) rfl rfl rfl rfl
theorem emb9 (t : Fin cfg0.N) (y : S1024x128.Idx) : ((cfg0.win 9).blk t).view.emb y = y :=
  at_w y _ (win0_9.index t (0 : Fin 2)) (win0_9.index t (1 : Fin 2)) rfl rfl rfl rfl

section
variable (m : (ℓ : Loc nD τ sig) → Buf (Elt Ideal) ℓ) (c : Dev nD)

theorem rd0 (f : (b : Ref sig .tc) → Buf (Elt Ideal) ((c : Thread nD τ).loc b)) (t : Fin cfg0.N) (y : S1x512x1024.Idx) :
    ((cfg0.win 0).blk t).view.read (Elt Ideal) (f (Pipeline.arrRef spec0 0)) y = f main_arg0 (ix3 (tB t) (tR t (y 1)) (y 2)) :=
  congrArg (f main_arg0) (emb0 t y)
theorem iblk0_at (t : Fin cfg0.N) (y : S1x512x1024.Idx) : iblk m c 0 t y = (m ((c : Thread nD τ).loc main_arg0) : S16x4096x1024.Idx → EReal) (ix3 (tB t) (tR t (y 1)) (y 2)) :=
  (rd0 c (V m c) t y).trans (congrFun (V_main_arg0 m c) _)
theorem rd1 (f : (b : Ref sig .tc) → Buf (Elt Ideal) ((c : Thread nD τ).loc b)) (t : Fin cfg0.N) (y : S1x1x1024.Idx) :
    ((cfg0.win 1).blk t).view.read (Elt Ideal) (f (Pipeline.arrRef spec0 1)) y = f main_v15 (ix3 0 0 (y 2)) :=
  congrArg (f main_v15) (emb1 t y)
theorem iblk1_at (t : Fin cfg0.N) (y : S1x1x1024.Idx) : iblk m c 1 t y = hG (m ((c : Thread nD τ).loc main_arg1)) (ix3 0 0 (y 2)) :=
  (rd1 c (V m c) t y).trans (congrFun (V_g m c) _)
theorem rd2 (f : (b : Ref sig .tc) → Buf (Elt Ideal) ((c : Thread nD τ).loc b)) (t : Fin cfg0.N) (y : S1x1x1024.Idx) :
    ((cfg0.win 2).blk t).view.read (Elt Ideal) (f (Pipeline.arrRef spec0 2)) y = f main_v16 (ix3 (tB t) 0 (y 2)) :=
  congrArg (f main_v16) (emb2 t y)
theorem iblk2_at (t : Fin cfg0.N) (y : S1x1x1024.Idx) : iblk m c 2 t y = hS (m ((c : Thread nD τ).loc main_arg2)) (ix3 (tB t) 0 (y 2)) :=
  (rd2 c (V m c) t y).trans (congrFun (V_sc m c) _)
theorem rd3 (f : (b : Ref sig .tc) → Buf (Elt Ideal) ((c : Thread nD τ).loc b)) (t : Fin cfg0.N) (y : S1x1x1024.Idx) :
    ((cfg0.win 3).blk t).view.read (Elt Ideal) (f (Pipeline.arrRef spec0 3)) y = f main_v17 (ix3 (tB t) 0 (y 2)) :=
  congrArg (f main_v17) (emb3 t y)
theorem iblk3_at (t : Fin cfg0.N) (y : S1x1x1024.Idx) : iblk m c 3 t y = hS (m ((c : Thread nD τ).loc main_arg3)) (ix3 (tB t) 0 (y 2)) :=
  (rd3 c (V m c) t y).trans (congrFun (V_sh m c) _)
theorem rd4 (f : (b : Ref sig .tc) → Buf (Elt Ideal) ((c : Thread nD τ).loc b)) (t : Fin cfg0.N) (y : S1024x1024.Idx) :
    ((cfg0.win 4).blk t).view.read (Elt Ideal) (f (Pipeline.arrRef spec0 4)) y = f main_v5 (y) :=
  congrArg (f main_v5) (emb4 t y)
theorem iblk4_at (t : Fin cfg0.N) (y : S1024x1024.Idx) : iblk m c 4 t y = hW0 (m ((c : Thread nD τ).loc main_arg4)) (y) :=
  (rd4 c (V m c) t y).trans (congrFun (V_w0 m c) _)
theorem rd5 (f : (b : Ref sig .tc) → Buf (Elt Ideal) ((c : Thread nD τ).loc b)) (t : Fin cfg0.N) (y : S1024x1024.Idx) :
    ((cfg0.win 5).blk t).view.read (Elt Ideal) (f (Pipeline.arrRef spec0 5)) y = f main_v7 (y) :=
  congrArg (f main_v7) (emb5 t y)
theorem iblk5_at (t : Fin cfg0.N) (y : S1024x1024.Idx) : iblk m c 5 t y = hW1 (m ((c : Thread nD τ).loc main_arg4)) (y) :=
  (rd5 c (V m c) t y).trans (congrFun (V_w1 m c) _)
theorem rd6 (f : (b : Ref sig .tc) → Buf (Elt Ideal) ((c : Thread nD τ).loc b)) (t : Fin cfg0.N) (y : S1024x1024.Idx) :
    ((cfg0.win 6).blk t).view.read (Elt Ideal) (f (Pipeline.arrRef spec0 6)) y = f main_v9 (y) :=
  congrArg (f main_v9) (emb6 t y)
theorem iblk6_at (t : Fin cfg0.N) (y : S1024x1024.Idx) : iblk m c 6 t y = hW2 (m ((c : Thread nD τ).loc main_arg4)) (y) :=
  (rd6 c (V m c) t y).trans (congrFun (V_w2 m c) _)
theorem rd7 (f : (b : Ref sig .tc) → Buf (Elt Ideal) ((c : Thread nD τ).loc b)) (t : Fin cfg0.N) (y : S1024x1024.Idx) :
    ((cfg0.win 7).blk t).view.read (Elt Ideal) (f (Pipeline.arrRef spec0 7)) y = f main_v11 (y) :=
  congrArg (f main_v11) (emb7 t y)
theorem iblk7_at (t : Fin cfg0.N) (y : S1024x1024.Idx) : iblk m c 7 t y = hW3 (m ((c : Thread nD τ).loc main_arg4)) (y) :=
  (rd7 c (V m c) t y).trans (congrFun (V_w3 m c) _)
theorem rd8 (f : (b : Ref sig .tc) → Buf (Elt Ideal) ((c : Thread nD τ).loc b)) (t : Fin cfg0.N) (y : S1024x1536.Idx) :
    ((cfg0.win 8).blk t).view.read (Elt Ideal) (f (Pipeline.arrRef spec0 8)) y = f main_v13 (y) :=
  congrArg (f main_v13) (emb8 t y)
theorem iblk8_at (t : Fin cfg0.N) (y : S1024x1536.Idx) : iblk m c 8 t y = hW4 (m ((c : Thread nD τ).loc main_arg4)) (y) :=
  (rd8 c (V m c) t y).trans (congrFun (V_w4 m c) _)
theorem rd9 (f : (b : Ref sig .tc) → Buf (Elt Ideal) ((c : Thread nD τ).loc b)) (t : Fin cfg0.N) (y : S1024x128.Idx) :
    ((cfg0.win 9).blk t).view.read (Elt Ideal) (f (Pipeline.arrRef spec0 9)) y = f main_v14 (y) :=
  congrArg (f main_v14) (emb9 t y)
theorem iblk9_at (t : Fin cfg0.N) (y : S1024x128.Idx) : iblk m c 9 t y = hW5 (m ((c : Thread nD τ).loc main_arg4)) (y) :=
  (rd9 c (V m c) t y).trans (congrFun (V_w5 m c) _)
end
end Cert.Proof.Proj
-- ==== Proof.ProjRef.lean ====
/- The reference's projection at one index, and the whole arrays both programs end with. -/
module

public import proofs.«01_k».proof.Proof.ProjDefs
public import proofs.«01_k».proof.Proof.Host
public import proofs.«01_k».proof.Proof.Gen.Reference2Ideal.Read
public import Idealize.ShloMosaic.Lib.Pointwise

@[expose] public section
noncomputable section
namespace Cert.Proof.Proj
open Idealize.ShloMosaic Idealize.ShloMosaic.Pointwise Cert.Reference2Ideal Cert.Reference2Ideal.Gen Cert.Reference2Ideal.Read

variable (x0 : S16x4096x1024.Idx → EReal) (x1 : S1024.Idx → EReal) (x2 x3 : S16x1024.Idx → EReal) (x4 : S1024x5656.Idx → EReal)

/-- The projection of token `R` of batch `b` on column `j`. -/
def pj (b : Fin 16) (R : Fin 4096) (j : Fin 5656) : EReal :=
  proj (fun k => x0 (ix3 b R k)) (fun k => x1 (ix1 k)) (fun k => x2 (ix2 b k)) (fun k => x3 (ix2 b k)) (fun e => x4 (ix2 e j))

/-- The scaled queries; a cut of 1024 columns; the convolution's input; the narrow outputs. -/
def oQ : S16x4096x1024.Idx → EReal := fun y => pj x0 x1 x2 x3 x4 (y 0) (y 1) ⟨0 + (y 2).val, by have : (y 2).val < 1024 := (y 2).isLt; omega⟩ * (((Real.log 2 * Real.sqrt 128)⁻¹ : ℝ) : EReal)
def oC (o : ℕ) (h : o + 1024 ≤ 5656) : S16x4096x1024.Idx → EReal := fun y => pj x0 x1 x2 x3 x4 (y 0) (y 1) ⟨o + (y 2).val, by have : (y 2).val < 1024 := (y 2).isLt; omega⟩
def oX : S16x4096x1536.Idx → EReal := fun y => pj x0 x1 x2 x3 x4 (y 0) (y 1) ⟨4104 + (y 2).val, by have : (y 2).val < 1536 := (y 2).isLt; omega⟩
def sm (b : Fin 16) (R : Fin 4096) (j : Fin 128) : EReal :=
  if h : j.val < 8 then pj x0 x1 x2 x3 x4 b R ⟨3072 + j.val, by omega⟩
  else if h' : j.val - 8 < 16 then pj x0 x1 x2 x3 x4 b R ⟨5640 + (j.val - 8), by omega⟩ else 0
def oS : S16x4096x128.Idx → EReal := fun y => sm x0 x1 x2 x3 x4 (y 0) (y 1) (y 2)

theorem at3 {a b c : ℕ} (i : (⟨3, ![a, b, c]⟩ : Shape).Idx) : ∃ (p : Fin a) (q : Fin b) (r : Fin c), i = ix3 p q r :=
  ⟨i 0, i 1, i 2, funext fun a => by fin_cases a <;> rfl⟩

/-- The normalized, scaled and shifted array. -/
theorem ref_h (b : Fin 16) (R : Fin 4096) (e : Fin 1024) :
    val_main_v20 (F := Ideal) x0 x1 x2 x3 (ix3 b R e) = rowH (fun k => x0 (ix3 b R k)) (fun k => x1 (ix1 k)) (fun k => x2 (ix2 b k)) (fun k => x3 (ix2 b k)) e := by
  have e1 : idx_main_v2 (idx_main_v8 (ix3 b R e)) = ix2 b R := funext fun a => by fin_cases a <;> rfl
  have e2 : ∀ k, idx_main_v1 (ix2 b R) k = ix3 b R k := fun k => funext fun a => by fin_cases a <;> rfl
  have e3 : idx_main_v10 (idx_main_v11 (ix3 b R e)) = ix1 e := funext fun a => by fin_cases a <;> rfl
  have e4 : idx_main_v13 (idx_main_v16 (ix3 b R e)) = ix2 b e := funext fun a => by fin_cases a <;> rfl
  have e5 : idx_main_v18 (idx_main_v19 (ix3 b R e)) = ix2 b e := funext fun a => by fin_cases a <;> rfl
  rw [val_main_v20_apply, val_main_v17_apply, val_main_v12_apply, val_main_v9_apply, val_main_v8_apply, val_main_v7_apply, val_main_v6_apply, val_main_v4_apply, val_main_v2_apply, e1, val_main_v1_apply,
    val_main_v3_apply, val_main_v5_apply, val_main_v11_apply, val_main_v10_apply, e3, val_main_v16_apply, val_main_v15_apply, val_main_v14_apply, val_main_v13_apply, e4, val_main_v19_apply, val_main_v18_apply, e5,
    val_main_cst_apply, val_main_cst_0_apply, val_main_cst_1_apply, val_main_cst_2_apply]
  simp only [e2, val_main_v0_apply, pointwise, Ideal.mulf_def, Ideal.addf_def, Ideal.hostDivf_def, Ideal.hostUnary_rsqrt_def, Ideal.ofBits_def, Ideal.ofBits_zero_f32, Ideal.ofBits_one_f32, zero_add]
  rfl

/-- The product with the weights. -/
theorem ref_p (b : Fin 16) (R : Fin 4096) (j : Fin 5656) : val_main_v21 (F := Ideal) x0 x1 x2 x3 x4 (ix3 b R j) = pj x0 x1 x2 x3 x4 b R j := by
  rw [val_main_v21_apply]
  unfold pj proj
  refine Finset.sum_congr rfl fun e _ => ?_
  have el : lidx_main_v21 (ix3 b R j) e = ix3 b R e := funext fun a => by fin_cases a <;> rfl
  have er : ridx_main_v21 (ix3 b R j) e = ix2 e j := funext fun a => by fin_cases a <;> rfl
  rw [el, er, ref_h]

theorem ref_scale (i : S_.Idx) : val_main_v32 (F := Ideal) i = (((Real.log 2 * Real.sqrt 128)⁻¹ : ℝ) : EReal) := by
  have e : val_main_v32 (F := Ideal) i = Cert.Proof.hS i := rfl
  rw [e, Cert.Proof.hS_at, one_div, div_eq_mul_inv, mul_inv]

theorem ref_q : val_main_v37 (F := Ideal) x0 x1 x2 x3 x4 = oQ x0 x1 x2 x3 x4 := by
  funext i
  obtain ⟨b, R, j, rfl⟩ := at3 i
  have e : idx_main_v22 (ix3 b R j) = ix3 b R ⟨0 + j.val, by omega⟩ := funext fun a => Fin.ext (by fin_cases a <;> first | rfl | exact (Nat.zero_add _).symm)
  rw [val_main_v37_apply, val_main_v34_apply, val_main_v33_apply, ref_scale, val_main_v22_apply, e, ref_p]
  rfl
theorem ref_k : val_main_v23 (F := Ideal) x0 x1 x2 x3 x4 = oC x0 x1 x2 x3 x4 1024 (by decide) := by
  funext i
  obtain ⟨b, R, j, rfl⟩ := at3 i
  have e : idx_main_v23 (ix3 b R j) = ix3 b R ⟨1024 + j.val, by omega⟩ := funext fun a => by fin_cases a <;> rfl
  rw [val_main_v23_apply, e, ref_p]
  rfl
theorem ref_v : val_main_v24 (F := Ideal) x0 x1 x2 x3 x4 = oC x0 x1 x2 x3 x4 2048 (by decide) := by
  funext i
  obtain ⟨b, R, j, rfl⟩ := at3 i
  have e : idx_main_v24 (ix3 b R j) = ix3 b R ⟨2048 + j.val, by omega⟩ := funext fun a => by fin_cases a <;> rfl
  rw [val_main_v24_apply, e, ref_p]
  rfl
theorem ref_kb : val_main_v38 (F := Ideal) x0 x1 x2 x3 x4 = oC x0 x1 x2 x3 x4 1024 (by decide) :=
  funext fun i => (val_main_v38_apply (F := Ideal) x0 x1 x2 x3 x4 i).trans (congrFun (ref_k x0 x1 x2 x3 x4) i)
theorem ref_vb : val_main_v39 (F := Ideal) x0 x1 x2 x3 x4 = oC x0 x1 x2 x3 x4 2048 (by decide) :=
  funext fun i => (val_main_v39_apply (F := Ideal) x0 x1 x2 x3 x4 i).trans (congrFun (ref_v x0 x1 x2 x3 x4) i)
theorem ref_z : val_main_v26 (F := Ideal) x0 x1 x2 x3 x4 = oC x0 x1 x2 x3 x4 3080 (by decide) := by
  funext i
  obtain ⟨b, R, j, rfl⟩ := at3 i
  have e : idx_main_v26 (ix3 b R j) = ix3 b R ⟨3080 + j.val, by omega⟩ := funext fun a => by fin_cases a <;> rfl
  rw [val_main_v26_apply, e, ref_p]
  rfl
theorem ref_x : val_main_v27 (F := Ideal) x0 x1 x2 x3 x4 = oX x0 x1 x2 x3 x4 := by
  funext i
  obtain ⟨b, R, j, rfl⟩ := at3 i
  have e : idx_main_v27 (ix3 b R j) = ix3 b R ⟨4104 + j.val, by omega⟩ := funext fun a => by fin_cases a <;> rfl
  rw [val_main_v27_apply, e, ref_p]
  rfl

/-- The padding value is zero. -/
theorem ref_pad0 (i : S_.Idx) : val_main_call0_v0 (F := Ideal) i = 0 := by
  rw [val_main_call0_v0_apply, val_main_c_apply]
  show ((((0#32 : BitVec 32).toInt : ℝ)) : EReal) = 0
  norm_num

theorem ref_small : val_main_v36 (F := Ideal) x0 x1 x2 x3 x4 = oS x0 x1 x2 x3 x4 := by
  funext i
  obtain ⟨b, R, j, rfl⟩ := at3 i
  have e25 : ∀ k : Fin 8, val_main_v25 (F := Ideal) x0 x1 x2 x3 x4 (ix3 b R k) = pj x0 x1 x2 x3 x4 b R ⟨3072 + k.val, by omega⟩ := fun k => by
    rw [val_main_v25_apply]
    exact (congrArg _ (funext fun a => by fin_cases a <;> rfl)).trans (ref_p x0 x1 x2 x3 x4 b R _)
  have e28 : ∀ k : Fin 16, val_main_v28 (F := Ideal) x0 x1 x2 x3 x4 (ix3 b R k) = pj x0 x1 x2 x3 x4 b R ⟨5640 + k.val, by omega⟩ := fun k => by
    rw [val_main_v28_apply]
    exact (congrArg _ (funext fun a => by fin_cases a <;> rfl)).trans (ref_p x0 x1 x2 x3 x4 b R _)
  unfold val_main_v36 val_main_v35
  generalize val_main_v25 (F := Ideal) x0 x1 x2 x3 x4 = y at e25
  generalize val_main_v28 (F := Ideal) x0 x1 x2 x3 x4 = z at e28
  pointwise
  simp only [e25, e28, ref_pad0]
  show _ = sm x0 x1 x2 x3 x4 b R j
  unfold sm
  by_cases h1 : j.val < 8
  · rw [dif_pos (by omega), dif_pos h1, dif_pos h1]
  · by_cases h2 : j.val - 8 < 16
    · rw [dif_pos (by omega), dif_neg h1, dif_neg h1, dif_pos h2]
    · rw [dif_neg (by omega), dif_neg h1, dif_neg h2]
end Cert.Proof.Proj
-- ==== Proof.ProjResult.lean ====
/- The arrays the projection kernel leaves. -/
module

public import proofs.«01_k».proof.Proof.ProjBlocks
public import proofs.«01_k».proof.Proof.ProjRef

@[expose] public section
noncomputable section
namespace Cert.Proof.Proj
open Idealize.ShloMosaic.Pointwise Cert.Kernel2Ideal Cert.Kernel2Ideal.Gen Idealize.ShloMosaic Idealize.ShloMosaic.TcCoe Idealize.ShloMosaic.Tactic Idealize.SL.Sem

/-- The zero offsets of a whole block. -/
theorem o3 : (![0, 0, 0] : Fin 3 → ℕ) = fun _ => 0 := funext fun a => by fin_cases a <;> rfl
theorem o2 : (![0, 0] : Fin 2 → ℕ) = fun _ => 0 := funext fun a => by fin_cases a <;> rfl
theorem ld0 (x : Vec Ideal S1x512x1024 .f32) : View.ld x r0_0 = x := View.ld_unit_zero o3 _ x
theorem ld1 (x : Vec Ideal S1x1x1024 .f32) : View.ld x r0_1 = x := View.ld_unit_zero o3 _ x
theorem ld2 (x : Vec Ideal S1024x1024 .bf16) : View.ld x r0_2 = x := View.ld_unit_zero o2 _ x
theorem ld3 (x : Vec Ideal S1024x1536 .bf16) : View.ld x r0_3 = x := View.ld_unit_zero o2 _ x
theorem ld5 (x : Vec Ideal S1024x128 .bf16) : View.ld x r0_5 = x := View.ld_unit_zero o2 _ x

theorem y3 {n : ℕ} (y : (⟨3, ![1, 512, n]⟩ : Shape).Idx) : ∃ (r : Fin 512) (j : Fin n), y = ix3 0 r j := by
  have h0 : (y 0).val < 1 := (y 0).isLt
  refine ⟨y 1, y 2, funext fun a => Fin.ext ?_⟩
  fin_cases a
  · show (y 0).val = 0
    omega
  · rfl
  · rfl

/-- Two blocks of 512 rows are equal if they are at each row and column. -/
theorem ext_y {n : ℕ} {F G : (⟨3, ![1, 512, n]⟩ : Shape).Idx → EReal} (h : ∀ r j, F (ix3 0 r j) = G (ix3 0 r j)) : F = G := funext fun y => by
  obtain ⟨r, j, rfl⟩ := y3 y
  exact h r j

section
variable (x0 : Vec Ideal S1x512x1024 .f32) (x1 x2 x3 : Vec Ideal S1x1x1024 .f32) (x4 x5 x6 x7 : Vec Ideal S1024x1024 .bf16) (x8 : Vec Ideal S1024x1536 .bf16) (x9 : Vec Ideal S1024x128 .bf16)

theorem pay12 : k0_pay12 x0 x1 x2 x3 x4 x5 x6 x7 x8 x9 = k0_pay2 x0 x1 x2 x3 := by
  unfold k0_pay12
  rw [ld0, ld1, ld1, ld1]
theorem out10_at (r : Fin 512) (j : Fin 1024) : out0_10 x0 x1 x2 x3 x4 x5 x6 x7 x8 x9 (ix3 0 r j) = pr x0 x1 x2 x3 r (fun e => x4 (ix2 e j)) * (((Real.log 2 * Real.sqrt 128)⁻¹ : ℝ) : EReal) := by
  unfold out0_10
  rw [ld0, ld1, ld1, ld1, ld2]
  rw [View.canon_unit_zero (Val := Elt Ideal) o3]
  exact pay3_at x0 x1 x2 x3 x4 r j
theorem out11_at (r : Fin 512) (j : Fin 1024) : out0_11 x0 x1 x2 x3 x4 x5 x6 x7 x8 x9 (ix3 0 r j) = pr x0 x1 x2 x3 r (fun e => x5 (ix2 e j)) := by
  unfold out0_11
  rw [pay12, ld2]
  rw [View.canon_unit_zero (Val := Elt Ideal) o3]
  exact pay5_at x0 x1 x2 x3 x5 r j
theorem out12_at (r : Fin 512) (j : Fin 1024) : out0_12 x0 x1 x2 x3 x4 x5 x6 x7 x8 x9 (ix3 0 r j) = pr x0 x1 x2 x3 r (fun e => x6 (ix2 e j)) := by
  unfold out0_12
  rw [pay12, ld2]
  rw [View.canon_unit_zero (Val := Elt Ideal) o3]
  exact pay8_at x0 x1 x2 x3 x6 r j
theorem out13_at (r : Fin 512) (j : Fin 1024) : out0_13 x0 x1 x2 x3 x4 x5 x6 x7 x8 x9 (ix3 0 r j) = pr x0 x1 x2 x3 r (fun e => x5 (ix2 e j)) := by
  unfold out0_13
  rw [pay12, ld2]
  rw [View.canon_unit_zero (Val := Elt Ideal) o3]
  exact pay6_at x0 x1 x2 x3 x5 r j
theorem out14_at (r : Fin 512) (j : Fin 1024) : out0_14 x0 x1 x2 x3 x4 x5 x6 x7 x8 x9 (ix3 0 r j) = pr x0 x1 x2 x3 r (fun e => x6 (ix2 e j)) := by
  unfold out0_14
  rw [pay12, ld2]
  rw [View.canon_unit_zero (Val := Elt Ideal) o3]
  exact pay9_at x0 x1 x2 x3 x6 r j
theorem out15_at (r : Fin 512) (j : Fin 1024) : out0_15 x0 x1 x2 x3 x4 x5 x6 x7 x8 x9 (ix3 0 r j) = pr x0 x1 x2 x3 r (fun e => x7 (ix2 e j)) := by
  unfold out0_15
  rw [pay12, ld2]
  rw [View.canon_unit_zero (Val := Elt Ideal) o3]
  exact pay10_at x0 x1 x2 x3 x7 r j
theorem out16_at (r : Fin 512) (j : Fin 1536) : out0_16 x0 x1 x2 x3 x4 x5 x6 x7 x8 x9 (ix3 0 r j) = pr x0 x1 x2 x3 r (fun e => x8 (ix2 e j)) := by
  unfold out0_16
  rw [pay12, ld3]
  rw [View.canon_unit_zero (Val := Elt Ideal) o3]
  exact pay11_at x0 x1 x2 x3 x8 r j
theorem out17_at (r : Fin 512) (j : Fin 128) : out0_17 x0 x1 x2 x3 x4 x5 x6 x7 x8 x9 (ix3 0 r j) = pr x0 x1 x2 x3 r (fun e => x9 (ix2 e j)) := by
  unfold out0_17
  rw [pay12, ld5]
  rw [View.canon_unit_zero (Val := Elt Ideal) o3]
  exact pay1_at x0 x1 x2 x3 x9 r j
end

theorem pr_of (x : Vec Ideal S1x512x1024 .f32) (g sc sh : Vec Ideal S1x1x1024 .f32) (r : Fin 512) (w X G A B W : Fin 1024 → EReal) (h0 : ∀ k, x (ix3 0 r k) = X k) (h1 : ∀ k, g (ix3 0 0 k) = G k) (h2 : ∀ k, sc (ix3 0 0 k) = A k)
    (h3 : ∀ k, sh (ix3 0 0 k) = B k) (hw : ∀ k, w k = W k) : pr x g sc sh r w = proj X G A B W := by
  unfold pr
  rw [funext h0, funext h1, funext h2, funext h3, funext hw]

section
variable (m : (ℓ : Loc nD τ sig) → Buf (Elt Ideal) ℓ) (c : Dev nD)

/-- A projection of a block's row is the projection of its token. -/
theorem pr_pj (t : Fin cfg0.N) (r : Fin 512) (w : Fin 1024 → EReal) (j : Fin 5656) (hw : ∀ e, w e = (m ((c : Thread nD τ).loc main_arg4) : S1024x5656.Idx → EReal) (ix2 e j)) :
    pr (iblk m c 0 t) (iblk m c 1 t) (iblk m c 2 t) (iblk m c 3 t) r w
      = pj (m ((c : Thread nD τ).loc main_arg0)) (m ((c : Thread nD τ).loc main_arg1)) (m ((c : Thread nD τ).loc main_arg2)) (m ((c : Thread nD τ).loc main_arg3)) (m ((c : Thread nD τ).loc main_arg4)) (tB t) (tR t r) j := by
  exact pr_of _ _ _ _ r w _ _ _ _ _ (fun k => iblk0_at m c t _) (fun k => (iblk1_at m c t _).trans (hG_at _ k)) (fun k => (iblk2_at m c t _).trans (hS_at _ (tB t) k)) (fun k => (iblk3_at m c t _).trans (hS_at _ (tB t) k)) hw

/-- A zero column gives zero. -/
theorem pr_zero (x : Vec Ideal S1x512x1024 .f32) (g sc sh : Vec Ideal S1x1x1024 .f32) (r : Fin 512) (w : Fin 1024 → EReal) (hw : ∀ e, w e = 0) : pr x g sc sh r w = 0 := by
  unfold pr proj
  exact Finset.sum_eq_zero fun e _ => by rw [hw, mul_zero]

/-- A result whose every point writes its block of one array, and whose blocks cover that array, ends as it. -/
theorem arr_of (W : Fin cfg0.W) (G : Buf (Elt Ideal) ((cfg0.win W).arr.view.loc (c.tc : Thread nD τ))) (hG : ∀ t, (dats m 0 c).flushed W t = ((cfg0.win W).blk t).view.read (Elt Ideal) G)
    (hf : ∀ t, (cfg0.win W).flush t = true) (hc : ∀ i : ((cfg0.win W).arr.view.loc (c.tc : Thread nD τ)).2.ty.Idx, ∃ t y, i = ((cfg0.win W).blk t).view.emb y) : (dats m 0 c).arrAt W cfg0.N = G :=
  (dats m 0 c).arrAt_eq_of_cover W G (fun t _ => hG t) fun i => by
    obtain ⟨t, y, e⟩ := hc i
    exact ⟨t, hf t, by rw [e]; exact View.emb_mem_set _ y⟩

theorem wr10 (G : Buf (Elt Ideal) ((c : Thread nD τ).loc main_v18_0)) (t : Fin cfg0.N) (y : S1x512x1024.Idx) : ((cfg0.win 10).blk t).view.read (Elt Ideal) G y = (G : S16x4096x1024.Idx → EReal) (ix3 (tB t) (tR t (y 1)) (y 2)) :=
  congrArg G (emb10 t y)
theorem fl10 (t : Fin cfg0.N) : (dats m 0 c).flushed 10 t = ((cfg0.win 10).blk t).view.read (Elt Ideal) (oQ (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v18_0)) :=
  (Cert.Kernel2Ideal.Value.flushed10 m c t).trans (ext_y fun r j => by
    refine Eq.trans ?_ (wr10 c _ t (ix3 0 r j)).symm
    exact (out10_at (iblk m c 0 t) (iblk m c 1 t) (iblk m c 2 t) (iblk m c 3 t) (iblk m c 4 t) (iblk m c 5 t) (iblk m c 6 t) (iblk m c 7 t) (iblk m c 8 t) (iblk m c 9 t) r j).trans (congrArg (· * _) (pr_pj m c t r _ _ fun e => (iblk4_at m c t _).trans (hW0_at _ e j))))
theorem arr10 : (dats m 0 c).arrAt 10 cfg0.N = (oQ (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v18_0)) :=
  arr_of m c 10 _ (fl10 m c) flush0_10 fun i =>
    let ⟨t, y, e⟩ := cov i
    ⟨t, y, ((emb10 t y).trans e).symm⟩

theorem wr11 (G : Buf (Elt Ideal) ((c : Thread nD τ).loc main_v18_1)) (t : Fin cfg0.N) (y : S1x512x1024.Idx) : ((cfg0.win 11).blk t).view.read (Elt Ideal) G y = (G : S16x4096x1024.Idx → EReal) (ix3 (tB t) (tR t (y 1)) (y 2)) :=
  congrArg G (emb11 t y)
theorem fl11 (t : Fin cfg0.N) : (dats m 0 c).flushed 11 t = ((cfg0.win 11).blk t).view.read (Elt Ideal) (oC (m ((c : Thread nD τ).loc main_arg0)) (m ((c : Thread nD τ).loc main_arg1)) (m ((c : Thread nD τ).loc main_arg2)) (m ((c : Thread nD τ).loc main_arg3)) (m ((c : Thread nD τ).loc main_arg4)) 1024 (by decide) : Buf (Elt Ideal) ((c : Thread nD τ).loc main_v18_1)) :=
  (Cert.Kernel2Ideal.Value.flushed11 m c t).trans (ext_y fun r j => by
    refine Eq.trans ?_ (wr11 c _ t (ix3 0 r j)).symm
    exact (out11_at (iblk m c 0 t) (iblk m c 1 t) (iblk m c 2 t) (iblk m c 3 t) (iblk m c 4 t) (iblk m c 5 t) (iblk m c 6 t) (iblk m c 7 t) (iblk m c 8 t) (iblk m c 9 t) r j).trans (pr_pj m c t r _ _ fun e => (iblk5_at m c t _).trans (hW1_at _ e j)))
theorem arr11 : (dats m 0 c).arrAt 11 cfg0.N = (oC (m ((c : Thread nD τ).loc main_arg0)) (m ((c : Thread nD τ).loc main_arg1)) (m ((c : Thread nD τ).loc main_arg2)) (m ((c : Thread nD τ).loc main_arg3)) (m ((c : Thread nD τ).loc main_arg4)) 1024 (by decide) : Buf (Elt Ideal) ((c : Thread nD τ).loc main_v18_1)) :=
  arr_of m c 11 _ (fl11 m c) flush0_11 fun i =>
    let ⟨t, y, e⟩ := cov i
    ⟨t, y, ((emb11 t y).trans e).symm⟩

theorem wr12 (G : Buf (Elt Ideal) ((c : Thread nD τ).loc main_v18_2)) (t : Fin cfg0.N) (y : S1x512x1024.Idx) : ((cfg0.win 12).blk t).view.read (Elt Ideal) G y = (G : S16x4096x1024.Idx → EReal) (ix3 (tB t) (tR t (y 1)) (y 2)) :=
  congrArg G (emb12 t y)
theorem fl12 (t : Fin cfg0.N) : (dats m 0 c).flushed 12 t = ((cfg0.win 12).blk t).view.read (Elt Ideal) (oC (m ((c : Thread nD τ).loc main_arg0)) (m ((c : Thread nD τ).loc main_arg1)) (m ((c : Thread nD τ).loc main_arg2)) (m ((c : Thread nD τ).loc main_arg3)) (m ((c : Thread nD τ).loc main_arg4)) 2048 (by decide) : Buf (Elt Ideal) ((c : Thread nD τ).loc main_v18_2)) :=
  (Cert.Kernel2Ideal.Value.flushed12 m c t).trans (ext_y fun r j => by
    refine Eq.trans ?_ (wr12 c _ t (ix3 0 r j)).symm
    exact (out12_at (iblk m c 0 t) (iblk m c 1 t) (iblk m c 2 t) (iblk m c 3 t) (iblk m c 4 t) (iblk m c 5 t) (iblk m c 6 t) (iblk m c 7 t) (iblk m c 8 t) (iblk m c 9 t) r j).trans (pr_pj m c t r _ _ fun e => (iblk6_at m c t _).trans (hW2_at _ e j)))
theorem arr12 : (dats m 0 c).arrAt 12 cfg0.N = (oC (m ((c : Thread nD τ).loc main_arg0)) (m ((c : Thread nD τ).loc main_arg1)) (m ((c : Thread nD τ).loc main_arg2)) (m ((c : Thread nD τ).loc main_arg3)) (m ((c : Thread nD τ).loc main_arg4)) 2048 (by decide) : Buf (Elt Ideal) ((c : Thread nD τ).loc main_v18_2)) :=
  arr_of m c 12 _ (fl12 m c) flush0_12 fun i =>
    let ⟨t, y, e⟩ := cov i
    ⟨t, y, ((emb12 t y).trans e).symm⟩

theorem wr13 (G : Buf (Elt Ideal) ((c : Thread nD τ).loc main_v18_3)) (t : Fin cfg0.N) (y : S1x512x1024.Idx) : ((cfg0.win 13).blk t).view.read (Elt Ideal) G y = (G : S16x4096x1024.Idx → EReal) (ix3 (tB t) (tR t (y 1)) (y 2)) :=
  congrArg G (emb13 t y)
theorem fl13 (t : Fin cfg0.N) : (dats m 0 c).flushed 13 t = ((cfg0.win 13).blk t).view.read (Elt Ideal) (oC (m ((c : Thread nD τ).loc main_arg0)) (m ((c : Thread nD τ).loc main_arg1)) (m ((c : Thread nD τ).loc main_arg2)) (m ((c : Thread nD τ).loc main_arg3)) (m ((c : Thread nD τ).loc main_arg4)) 1024 (by decide) : Buf (Elt Ideal) ((c : Thread nD τ).loc main_v18_3)) :=
  (Cert.Kernel2Ideal.Value.flushed13 m c t).trans (ext_y fun r j => by
    refine Eq.trans ?_ (wr13 c _ t (ix3 0 r j)).symm
    exact (out13_at (iblk m c 0 t) (iblk m c 1 t) (iblk m c 2 t) (iblk m c 3 t) (iblk m c 4 t) (iblk m c 5 t) (iblk m c 6 t) (iblk m c 7 t) (iblk m c 8 t) (iblk m c 9 t) r j).trans (pr_pj m c t r _ _ fun e => (iblk5_at m c t _).trans (hW1_at _ e j)))
theorem arr13 : (dats m 0 c).arrAt 13 cfg0.N = (oC (m ((c : Thread nD τ).loc main_arg0)) (m ((c : Thread nD τ).loc main_arg1)) (m ((c : Thread nD τ).loc main_arg2)) (m ((c : Thread nD τ).loc main_arg3)) (m ((c : Thread nD τ).loc main_arg4)) 1024 (by decide) : Buf (Elt Ideal) ((c : Thread nD τ).loc main_v18_3)) :=
  arr_of m c 13 _ (fl13 m c) flush0_13 fun i =>
    let ⟨t, y, e⟩ := cov i
    ⟨t, y, ((emb13 t y).trans e).symm⟩

theorem wr14 (G : Buf (Elt Ideal) ((c : Thread nD τ).loc main_v18_4)) (t : Fin cfg0.N) (y : S1x512x1024.Idx) : ((cfg0.win 14).blk t).view.read (Elt Ideal) G y = (G : S16x4096x1024.Idx → EReal) (ix3 (tB t) (tR t (y 1)) (y 2)) :=
  congrArg G (emb14 t y)
theorem fl14 (t : Fin cfg0.N) : (dats m 0 c).flushed 14 t = ((cfg0.win 14).blk t).view.read (Elt Ideal) (oC (m ((c : Thread nD τ).loc main_arg0)) (m ((c : Thread nD τ).loc main_arg1)) (m ((c : Thread nD τ).loc main_arg2)) (m ((c : Thread nD τ).loc main_arg3)) (m ((c : Thread nD τ).loc main_arg4)) 2048 (by decide) : Buf (Elt Ideal) ((c : Thread nD τ).loc main_v18_4)) :=
  (Cert.Kernel2Ideal.Value.flushed14 m c t).trans (ext_y fun r j => by
    refine Eq.trans ?_ (wr14 c _ t (ix3 0 r j)).symm
    exact (out14_at (iblk m c 0 t) (iblk m c 1 t) (iblk m c 2 t) (iblk m c 3 t) (iblk m c 4 t) (iblk m c 5 t) (iblk m c 6 t) (iblk m c 7 t) (iblk m c 8 t) (iblk m c 9 t) r j).trans (pr_pj m c t r _ _ fun e => (iblk6_at m c t _).trans (hW2_at _ e j)))
theorem arr14 : (dats m 0 c).arrAt 14 cfg0.N = (oC (m ((c : Thread nD τ).loc main_arg0)) (m ((c : Thread nD τ).loc main_arg1)) (m ((c : Thread nD τ).loc main_arg2)) (m ((c : Thread nD τ).loc main_arg3)) (m ((c : Thread nD τ).loc main_arg4)) 2048 (by decide) : Buf (Elt Ideal) ((c : Thread nD τ).loc main_v18_4)) :=
  arr_of m c 14 _ (fl14 m c) flush0_14 fun i =>
    let ⟨t, y, e⟩ := cov i
    ⟨t, y, ((emb14 t y).trans e).symm⟩

theorem wr15 (G : Buf (Elt Ideal) ((c : Thread nD τ).loc main_v18_5)) (t : Fin cfg0.N) (y : S1x512x1024.Idx) : ((cfg0.win 15).blk t).view.read (Elt Ideal) G y = (G : S16x4096x1024.Idx → EReal) (ix3 (tB t) (tR t (y 1)) (y 2)) :=
  congrArg G (emb15 t y)
theorem fl15 (t : Fin cfg0.N) : (dats m 0 c).flushed 15 t = ((cfg0.win 15).blk t).view.read (Elt Ideal) (oC (m ((c : Thread nD τ).loc main_arg0)) (m ((c : Thread nD τ).loc main_arg1)) (m ((c : Thread nD τ).loc main_arg2)) (m ((c : Thread nD τ).loc main_arg3)) (m ((c : Thread nD τ).loc main_arg4)) 3080 (by decide) : Buf (Elt Ideal) ((c : Thread nD τ).loc main_v18_5)) :=
  (Cert.Kernel2Ideal.Value.flushed15 m c t).trans (ext_y fun r j => by
    refine Eq.trans ?_ (wr15 c _ t (ix3 0 r j)).symm
    exact (out15_at (iblk m c 0 t) (iblk m c 1 t) (iblk m c 2 t) (iblk m c 3 t) (iblk m c 4 t) (iblk m c 5 t) (iblk m c 6 t) (iblk m c 7 t) (iblk m c 8 t) (iblk m c 9 t) r j).trans (pr_pj m c t r _ _ fun e => (iblk7_at m c t _).trans (hW3_at _ e j)))
theorem arr15 : (dats m 0 c).arrAt 15 cfg0.N = (oC (m ((c : Thread nD τ).loc main_arg0)) (m ((c : Thread nD τ).loc main_arg1)) (m ((c : Thread nD τ).loc main_arg2)) (m ((c : Thread nD τ).loc main_arg3)) (m ((c : Thread nD τ).loc main_arg4)) 3080 (by decide) : Buf (Elt Ideal) ((c : Thread nD τ).loc main_v18_5)) :=
  arr_of m c 15 _ (fl15 m c) flush0_15 fun i =>
    let ⟨t, y, e⟩ := cov i
    ⟨t, y, ((emb15 t y).trans e).symm⟩

theorem wr16 (G : Buf (Elt Ideal) ((c : Thread nD τ).loc main_v18_6)) (t : Fin cfg0.N) (y : S1x512x1536.Idx) : ((cfg0.win 16).blk t).view.read (Elt Ideal) G y = (G : S16x4096x1536.Idx → EReal) (ix3 (tB t) (tR t (y 1)) (y 2)) :=
  congrArg G (emb16 t y)
theorem fl16 (t : Fin cfg0.N) : (dats m 0 c).flushed 16 t = ((cfg0.win 16).blk t).view.read (Elt Ideal) (oX (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v18_6)) :=
  (Cert.Kernel2Ideal.Value.flushed16 m c t).trans (ext_y fun r j => by
    refine Eq.trans ?_ (wr16 c _ t (ix3 0 r j)).symm
    exact (out16_at (iblk m c 0 t) (iblk m c 1 t) (iblk m c 2 t) (iblk m c 3 t) (iblk m c 4 t) (iblk m c 5 t) (iblk m c 6 t) (iblk m c 7 t) (iblk m c 8 t) (iblk m c 9 t) r j).trans (pr_pj m c t r _ _ fun e => (iblk8_at m c t _).trans (hW4_at _ e j)))
theorem arr16 : (dats m 0 c).arrAt 16 cfg0.N = (oX (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v18_6)) :=
  arr_of m c 16 _ (fl16 m c) flush0_16 fun i =>
    let ⟨t, y, e⟩ := cov i
    ⟨t, y, ((emb16 t y).trans e).symm⟩

theorem wr17 (G : Buf (Elt Ideal) ((c : Thread nD τ).loc main_v18_7)) (t : Fin cfg0.N) (y : S1x512x128.Idx) : ((cfg0.win 17).blk t).view.read (Elt Ideal) G y = (G : S16x4096x128.Idx → EReal) (ix3 (tB t) (tR t (y 1)) (y 2)) :=
  congrArg G (emb17 t y)
theorem fl17 (t : Fin cfg0.N) : (dats m 0 c).flushed 17 t = ((cfg0.win 17).blk t).view.read (Elt Ideal) (oS (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v18_7)) := by
  funext y
  refine Eq.trans ?_ (wr17 c _ t y).symm
  rw [Cert.Kernel2Ideal.Value.flushed17]
  obtain ⟨r, j, rfl⟩ := y3 (n := 128) y
  refine (out17_at (iblk m c 0 t) (iblk m c 1 t) (iblk m c 2 t) (iblk m c 3 t) (iblk m c 4 t) (iblk m c 5 t) (iblk m c 6 t) (iblk m c 7 t) (iblk m c 8 t) (iblk m c 9 t) r j).trans ?_
  have hw := fun e => (iblk9_at m c t (ix2 e j)).trans (hW5_at _ e j)
  show _ = sm (m ((c : Thread nD τ).loc main_arg0)) (m ((c : Thread nD τ).loc main_arg1)) (m ((c : Thread nD τ).loc main_arg2)) (m ((c : Thread nD τ).loc main_arg3)) (m ((c : Thread nD τ).loc main_arg4)) (tB t) (tR t r) j
  unfold sm
  by_cases h1 : j.val < 8
  · rw [dif_pos h1]
    exact pr_pj m c t r _ _ fun e => (hw e).trans (dif_pos h1)
  · by_cases h2 : j.val - 8 < 16
    · rw [dif_neg h1, dif_pos h2]
      exact pr_pj m c t r _ _ fun e => (hw e).trans ((dif_neg h1).trans (dif_pos h2))
    · rw [dif_neg h1, dif_neg h2]
      exact pr_zero _ _ _ _ r _ fun e => (hw e).trans ((dif_neg h1).trans (dif_neg h2))
theorem arr17 : (dats m 0 c).arrAt 17 cfg0.N = (oS (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v18_7)) :=
  arr_of m c 17 _ (fl17 m c) flush0_17 fun i =>
    let ⟨t, y, e⟩ := cov i
    ⟨t, y, ((emb17 t y).trans e).symm⟩
end
end Cert.Proof.Proj
-- ==== Proof.Projection.lean ====
/- The claims of the projection. -/
module

public import proofs.«01_k».proof.Defs
public import proofs.«01_k».proof.Proof.ProjResult
public import proofs.«01_k».proof.Proof.Gen.Kernel2.Frame
public import proofs.«01_k».proof.Proof.Gen.Kernel2Ideal.Value
public import proofs.«01_k».proof.Proof.Gen.Reference2Ideal.Read
public import Idealize.ShloMosaic.Adequacy

@[expose] public section
noncomputable section
namespace Cert.Proof.Proj
open Idealize.ShloMosaic Idealize.ShloMosaic.Pointwise Idealize.SL.Sem

/-- The reference leaves its arguments as they were and no semaphore behind. -/
theorem ref_frame : Cert.quiescent_Reference2Ideal := fun m ρ _ =>
  (θ_run Cert.Reference2Ideal.defs _ _).mono (fun r h => ⟨fun c => (h c).2.2.2.2.2.2.2.2, sem_eq_zero_of_no_sems (by decide) r.2⟩) (Cert.Reference2Ideal.Value.run (F := Ideal) m ρ)

/-- The one rounded constant is named. -/
theorem named : Cert.preserves_Kernel2_Kernel2Ideal :=
  IdealRules.named_const.statement Cert.Kernel2Ideal.κ "qscale" .f32 0x3E0293EE#32 ((((Real.log 2) * (Real.sqrt 128))⁻¹ : ℝ) : EReal) rfl

/-- The kernel and the reference end with the same eight arrays. -/
theorem projection : Cert.algebraic_Kernel2Ideal_Reference2Ideal := fun m g m' g' _ ha => by
  refine ⟨fun c => oQ (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => oC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 1024 (by decide), fun c => oC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 2048 (by decide), fun c => oC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 1024 (by decide), fun c => oC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 2048 (by decide), fun c => oC (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) 3080 (by decide), fun c => oX (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), fun c => oS (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · refine (θ_run Cert.Kernel2Ideal.defs _ _).mono (fun r h c => ?_) (Cert.Kernel2Ideal.Value.run_blocks m g)
    obtain ⟨h0, h1, h2, h3, h4, h5, h6, h7, hr⟩ := h c
    exact ⟨h0.trans (arr10 m c), h1.trans (arr11 m c), h2.trans (arr12 m c), h3.trans (arr13 m c), h4.trans (arr14 m c), h5.trans (arr15 m c), h6.trans (arr16 m c), h7.trans (arr17 m c), hr⟩
  · refine (θ_run Cert.Reference2Ideal.defs _ _).mono (fun r h c => ?_) (Cert.Reference2Ideal.Value.run (F := Ideal) m' g')
    obtain ⟨h0, h1, h2, h3, h4, h5, h6, h7, hr⟩ := h c
    obtain ⟨a0, a1, a2, a3, a4⟩ := ha c
    refine ⟨h0.trans ?_, h1.trans ?_, h2.trans ?_, h3.trans ?_, h4.trans ?_, h5.trans ?_, h6.trans ?_, h7.trans ?_, hr⟩
    · rw [Cert.Reference2Ideal.Read.val_main_v37_eq, ref_q, a0, a1, a2, a3, a4]
    · rw [Cert.Reference2Ideal.Read.val_main_v23_eq, ref_k, a0, a1, a2, a3, a4]
    · rw [Cert.Reference2Ideal.Read.val_main_v24_eq, ref_v, a0, a1, a2, a3, a4]
    · rw [Cert.Reference2Ideal.Read.val_main_v38_eq, ref_kb, a0, a1, a2, a3, a4]
    · rw [Cert.Reference2Ideal.Read.val_main_v39_eq, ref_vb, a0, a1, a2, a3, a4]
    · rw [Cert.Reference2Ideal.Read.val_main_v26_eq, ref_z, a0, a1, a2, a3, a4]
    · rw [Cert.Reference2Ideal.Read.val_main_v27_eq, ref_x, a0, a1, a2, a3, a4]
    · rw [Cert.Reference2Ideal.Read.val_main_v36_eq, ref_small, a0, a1, a2, a3, a4]
end Cert.Proof.Proj
-- ==== Proof.ExSetup.lean ====
/-
  The experts' call: what its launch is set up with. The arrays as the pipeline finds them, the two tables (the expert
  of each block, and how many blocks are used) read off the launch memory, each window's block at a grid point, and the
  staging buffers the body is handed there.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of a core once the host has run its five operations. -/
abbrev V (c : Dev nD) (b : Ref sig .tc) : Buf (Elt F) ((c : Thread nD τ).loc b) :=
  StableHlo.after hostOps0 (fun b => m (c, b)) b

/-- Each host operation only overwrites its result. -/
theorem host_fresh : (hostOps0 : List (HloOp τ sig (Elt F))).Forall fun op => op.fresh = ∅ := by
  simp only [List.Forall]; repeat' constructor

set_option maxHeartbeats 800000 in
/-- The program is its host operations followed by the pipeline. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub host_fresh main_chain

/-- A buffer that is none of the five results is found as it was launched. -/
theorem V_kept (c : Dev nD) (b : Ref sig .tc) (h : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2⟩))

/-- The two tables' contents. -/
def tbl : pre0.Contents (Elt F) := fun j => V m (0 : Dev nD) (pre0.ref j)

/-- There is one device, so these are its tables. -/
theorem V_pre (c : Dev nD) (j : Fin 2) : V m c (pre0.ref j) = tbl m j := by
  obtain rfl : c = 0 := Subsingleton.elim _ _; rfl

/-- Every block of weights the table of experts names lies inside its array. -/
abbrev Ok : Prop := ok0 (F := F) (tbl m)

/-- The pipeline at these tables. -/
abbrev adm (hO : Ok m) : (pcfg0 (F := F)).Adm := ⟨tbl m, hO⟩
abbrev cfgM (hO : Ok m) : Pipeline.Cfg sig Λ₀ := cfg0 (adm m hO)

/-- The tables as the body is handed them. -/
abbrev tE : Memref sig .tc .smem S544 .i32 := Memref.whole main_arg0
abbrev hE : tE.IsWhole := Memref.isWhole_whole _
abbrev tU : Memref sig .tc .smem S1 .i32 := Memref.whole main_arg1
abbrev hU : tU.IsWhole := Memref.isWhole_whole _

/-- A table's buffer on a core, and half of it held. -/
abbrev TabBuf (c : Dev nD) {S : Shape} {e : EltTy} (M : Memref sig .tc .smem S e) : Type :=
  Buf (Elt F) (M.view.loc (c : Thread nD τ))
abbrev tabHeld (c : Dev nD) {S : Shape} {e : EltTy} (M : Memref sig .tc .smem S e) (f : TabBuf (F := F) c M) : sProp 𝕄 :=
  M.view.loc (c : Thread nD τ) ↦{fullShare.right} f

/-- What the region holds of the tables, one by one. -/
theorem tables_held (c : Dev nD) : (Pipeline.ΦT pre0 (tbl m) c : sProp 𝕄)
    = iprop(tabHeld c tE (tbl m 0) ∗ tabHeld c tU (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of used blocks, as the body reads it off a buffer of the second table. -/
abbrev usedOf {c : Dev nD} (f : TabBuf (F := F) c tU) : BitVec 32 :=
  tU.view.readAt (Elt F) (Rect.unit (s := S1) ![0] S1.size inb_S1_S1_0).toLoadRect f (Shape.Idx.first (numel1_S1.symm ▸ Nat.one_pos))

/-- The two conditions of the body's branches. -/
abbrev isUsed (i : grid0.Coords) (v : BitVec 32) : Prop := k0_cond1 i v = 1#1
abbrev isPast (i : grid0.Coords) (v : BitVec 32) : Prop := k0_cond2 i v = 1#1

/-- The two branches exclude each other and leave nothing out. -/
theorem past_iff (i : grid0.Coords) (v : BitVec 32) : isPast i v ↔ ¬ isUsed i v := by
  have key : ∀ b : BitVec 1, (Scalar.cmpi .ne (Scalar.extui (Scalar.xori b 1#1)) 0#32 = (1#1 : BitVec 1)
      ↔ ¬ Scalar.cmpi .ne (Scalar.extui b) 0#32 = (1#1 : BitVec 1)) := by decide
  exact key _

/-- A window's block at a grid point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The body finds each input window at its block. -/
theorem found_0 (hO : Ok m) {c : Dev nD} (d : Dat τ (Elt F) Unit ℕ (UR sig nD τ) ℕ (cfgM m hO) c)
    (hA : d.A 0 = V m c (Pipeline.arrRef spec0 0)) (ha : ∀ t, d.after 0 t = iblk m hO c 0 t) (t : Fin (cfgM m hO).N) (y) :
    d.before 0 t y = iblk m hO c 0 t :=
  (d.before_in_eq_fetched 0 rfl (fun _ => rfl) (fun _ _ _ => rfl)
    (fun t => by rw [ha]; unfold Dat.blockOf iblk; rw [hA]; try rfl) t y).trans
    (by unfold Dat.fetched Dat.blockOf iblk; rw [hA]; try rfl)
theorem found_1 (hO : Ok m) {c : Dev nD} (d : Dat τ (Elt F) Unit ℕ (UR sig nD τ) ℕ (cfgM m hO) c)
    (hA : d.A 1 = V m c (Pipeline.arrRef spec0 1)) (ha : ∀ t, d.after 1 t = iblk m hO c 1 t) (t : Fin (cfgM m hO).N) (y) :
    d.before 1 t y = iblk m hO c 1 t :=
  (d.before_in_eq_fetched 1 rfl (fun _ => rfl) (fun _ _ _ => rfl)
    (fun t => by rw [ha]; unfold Dat.blockOf iblk; rw [hA]; try rfl) t y).trans
    (by unfold Dat.fetched Dat.blockOf iblk; rw [hA]; try rfl)
theorem found_2 (hO : Ok m) {c : Dev nD} (d : Dat τ (Elt F) Unit ℕ (UR sig nD τ) ℕ (cfgM m hO) c)
    (hA : d.A 2 = V m c (Pipeline.arrRef spec0 2)) (ha : ∀ t, d.after 2 t = iblk m hO c 2 t) (t : Fin (cfgM m hO).N) (y) :
    d.before 2 t y = iblk m hO c 2 t :=
  (d.before_in_eq_fetched 2 rfl (fun _ => rfl) (fun _ _ _ => rfl)
    (fun t => by rw [ha]; unfold Dat.blockOf iblk; rw [hA]; try rfl) t y).trans
    (by unfold Dat.fetched Dat.blockOf iblk; rw [hA]; try rfl)
theorem found_3 (hO : Ok m) {c : Dev nD} (d : Dat τ (Elt F) Unit ℕ (UR sig nD τ) ℕ (cfgM m hO) c)
    (hA : d.A 3 = V m c (Pipeline.arrRef spec0 3)) (ha : ∀ t, d.after 3 t = iblk m hO c 3 t) (t : Fin (cfgM m hO).N) (y) :
    d.before 3 t y = iblk m hO c 3 t :=
  (d.before_in_eq_fetched 3 rfl (fun _ => rfl) (fun _ _ _ => rfl)
    (fun t => by rw [ha]; unfold Dat.blockOf iblk; rw [hA]; try rfl) t y).trans
    (by unfold Dat.fetched Dat.blockOf iblk; rw [hA]; try rfl)
theorem found_4 (hO : Ok m) {c : Dev nD} (d : Dat τ (Elt F) Unit ℕ (UR sig nD τ) ℕ (cfgM m hO) c)
    (hA : d.A 4 = V m c (Pipeline.arrRef spec0 4)) (ha : ∀ t, d.after 4 t = iblk m hO c 4 t) (t : Fin (cfgM m hO).N) (y) :
    d.before 4 t y = iblk m hO c 4 t :=
  (d.before_in_eq_fetched 4 rfl (fun _ => rfl) (fun _ _ _ => rfl)
    (fun t => by rw [ha]; unfold Dat.blockOf iblk; rw [hA]; try rfl) t y).trans
    (by unfold Dat.fetched Dat.blockOf iblk; rw [hA]; try rfl)
theorem found_5 (hO : Ok m) {c : Dev nD} (d : Dat τ (Elt F) Unit ℕ (UR sig nD τ) ℕ (cfgM m hO) c)
    (hA : d.A 5 = V m c (Pipeline.arrRef spec0 5)) (ha : ∀ t, d.after 5 t = iblk m hO c 5 t) (t : Fin (cfgM m hO).N) (y) :
    d.before 5 t y = iblk m hO c 5 t :=
  (d.before_in_eq_fetched 5 rfl (fun _ => rfl) (fun _ _ _ => rfl)
    (fun t => by rw [ha]; unfold Dat.blockOf iblk; rw [hA]; try rfl) t y).trans
    (by unfold Dat.fetched Dat.blockOf iblk; rw [hA]; try rfl)
theorem found_6 (hO : Ok m) {c : Dev nD} (d : Dat τ (Elt F) Unit ℕ (UR sig nD τ) ℕ (cfgM m hO) c)
    (hA : d.A 6 = V m c (Pipeline.arrRef spec0 6)) (ha : ∀ t, d.after 6 t = iblk m hO c 6 t) (t : Fin (cfgM m hO).N) (y) :
    d.before 6 t y = iblk m hO c 6 t :=
  (d.before_in_eq_fetched 6 rfl (fun _ => rfl) (fun _ _ _ => rfl)
    (fun t => by rw [ha]; unfold Dat.blockOf iblk; rw [hA]; try rfl) t y).trans
    (by unfold Dat.fetched Dat.blockOf iblk; rw [hA]; try rfl)
theorem found_7 (hO : Ok m) {c : Dev nD} (d : Dat τ (Elt F) Unit ℕ (UR sig nD τ) ℕ (cfgM m hO) c)
    (hA : d.A 7 = V m c (Pipeline.arrRef spec0 7)) (ha : ∀ t, d.after 7 t = iblk m hO c 7 t) (t : Fin (cfgM m hO).N) (y) :
    d.before 7 t y = iblk m hO c 7 t :=
  (d.before_in_eq_fetched 7 rfl (fun _ => rfl) (fun _ _ _ => rfl)
    (fun t => by rw [ha]; unfold Dat.blockOf iblk; rw [hA]; try rfl) t y).trans
    (by unfold Dat.fetched Dat.blockOf iblk; rw [hA]; try rfl)
theorem found_8 (hO : Ok m) {c : Dev nD} (d : Dat τ (Elt F) Unit ℕ (UR sig nD τ) ℕ (cfgM m hO) c)
    (hA : d.A 8 = V m c (Pipeline.arrRef spec0 8)) (ha : ∀ t, d.after 8 t = iblk m hO c 8 t) (t : Fin (cfgM m hO).N) (y) :
    d.before 8 t y = iblk m hO c 8 t :=
  (d.before_in_eq_fetched 8 rfl (fun _ => rfl) (fun _ _ _ => rfl)
    (fun t => by rw [ha]; unfold Dat.blockOf iblk; rw [hA]; try rfl) t y).trans
    (by unfold Dat.fetched Dat.blockOf iblk; rw [hA]; try rfl)

/-- The buffer each window is staged in at a grid point. -/
abbrev st0 (hO : Ok m) (t : Fin (cfgM m hO).N) : Memref sig .tc .vmem S8192x128 .f32 := spec0_0.stage ((cfgM m hO).slots t 0)
abbrev wh0 (hO : Ok m) (t : Fin (cfgM m hO).N) : (st0 m hO t).IsWhole := hstage0_0 (((cfgM m hO).slots t 0).cast nbuf0_0)
abbrev st1 (hO : Ok m) (t : Fin (cfgM m hO).N) : Memref sig .tc .vmem S1x1024x2048 .bf16 := spec0_1.stage ((cfgM m hO).slots t 1)
abbrev wh1 (hO : Ok m) (t : Fin (cfgM m hO).N) : (st1 m hO t).IsWhole := hstage0_1 (((cfgM m hO).slots t 1).cast nbuf0_1)
abbrev st2 (hO : Ok m) (t : Fin (cfgM m hO).N) : Memref sig .tc .vmem S1x1x2048 .f32 := spec0_2.stage ((cfgM m hO).slots t 2)
abbrev wh2 (hO : Ok m) (t : Fin (cfgM m hO).N) : (st2 m hO t).IsWhole := hstage0_2 (((cfgM m hO).slots t 2).cast nbuf0_2)
abbrev st3 (hO : Ok m) (t : Fin (cfgM m hO).N) : Memref sig .tc .vmem S1x1024x1024 .bf16 := spec0_3.stage ((cfgM m hO).slots t 3)
abbrev wh3 (hO : Ok m) (t : Fin (cfgM m hO).N) : (st3 m hO t).IsWhole := hstage0_3 (((cfgM m hO).slots t 3).cast nbuf0_3)
abbrev st4 (hO : Ok m) (t : Fin (cfgM m hO).N) : Memref sig .tc .vmem S1x1x1024 .f32 := spec0_4.stage ((cfgM m hO).slots t 4)
abbrev wh4 (hO : Ok m) (t : Fin (cfgM m hO).N) : (st4 m hO t).IsWhole := hstage0_4 (((cfgM m hO).slots t 4).cast nbuf0_4)
abbrev st5 (hO : Ok m) (t : Fin (cfgM m hO).N) : Memref sig .tc .vmem S1x1024x2048 .bf16 := spec0_5.stage ((cfgM m hO).slots t 5)
abbrev wh5 (hO : Ok m) (t : Fin (cfgM m hO).N) : (st5 m hO t).IsWhole := hstage0_5 (((cfgM m hO).slots t 5).cast nbuf0_5)
abbrev st6 (hO : Ok m) (t : Fin (cfgM m hO).N) : Memref sig .tc .vmem S1x1x2048 .f32 := spec0_6.stage ((cfgM m hO).slots t 6)
abbrev wh6 (hO : Ok m) (t : Fin (cfgM m hO).N) : (st6 m hO t).IsWhole := hstage0_6 (((cfgM m hO).slots t 6).cast nbuf0_6)
abbrev st7 (hO : Ok m) (t : Fin (cfgM m hO).N) : Memref sig .tc .vmem S1x1024x1024 .bf16 := spec0_7.stage ((cfgM m hO).slots t 7)
abbrev wh7 (hO : Ok m) (t : Fin (cfgM m hO).N) : (st7 m hO t).IsWhole := hstage0_7 (((cfgM m hO).slots t 7).cast nbuf0_7)
abbrev st8 (hO : Ok m) (t : Fin (cfgM m hO).N) : Memref sig .tc .vmem S1x1x1024 .f32 := spec0_8.stage ((cfgM m hO).slots t 8)
abbrev wh8 (hO : Ok m) (t : Fin (cfgM m hO).N) : (st8 m hO t).IsWhole := hstage0_8 (((cfgM m hO).slots t 8).cast nbuf0_8)
abbrev st9 (hO : Ok m) (t : Fin (cfgM m hO).N) : Memref sig .tc .vmem S8192x128 .f32 := spec0_9.stage ((cfgM m hO).slots t 9)
abbrev wh9 (hO : Ok m) (t : Fin (cfgM m hO).N) : (st9 m hO t).IsWhole := hstage0_9 (((cfgM m hO).slots t 9).cast nbuf0_9)

/-- The body at a grid point, on the buffers of that point. -/
abbrev bodyAt (hO : Ok m) (t : Fin (cfgM m hO).N) : Prog (TpuEff nD τ sig (Elt F) Λ₀ .tc) PUnit :=
  cc0__experts_kernel (grid0.coords t) tE hE tU hU (st0 m hO t) (wh0 m hO t) (st1 m hO t) (wh1 m hO t) (st2 m hO t) (wh2 m hO t) (st3 m hO t) (wh3 m hO t) (st4 m hO t) (wh4 m hO t) (st5 m hO t) (wh5 m hO t) (st6 m hO t) (wh6 m hO t) (st7 m hO t) (wh7 m hO t) (st8 m hO t) (wh8 m hO t) (st9 m hO t) (wh9 m hO t)

/-- The buffer through which the output's contents are stated. -/
abbrev outV : View sig .tc .vmem S8192x128 .f32 := (Memref.whole cc0_stg9_0 : Memref sig .tc .vmem S8192x128 .f32).view

end Cert.Experts

end
-- ==== Proof.ExRuns.lean ====
/-
  What it is for the experts' body to run at a grid point: from its nine inputs' blocks, its two tables and an output
  buffer at anything, it ends with the inputs and the tables as they were and the output holding a list of pieces.
-/
module

public import proofs.«01_k».proof.Proof.ExSetup

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at a grid point, with the pieces it leaves in the output. -/
def Runs (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec F S8192x128 .f32) (x1 : Vec F S1x1024x2048 .bf16) (x2 : Vec F S1x1x2048 .f32) (x3 : Vec F S1x1024x1024 .bf16) (x4 : Vec F S1x1x1024 .f32) (x5 : Vec F S1x1024x2048 .bf16) (x6 : Vec F S1x1x2048 .f32) (x7 : Vec F S1x1024x1024 .bf16) (x8 : Vec F S1x1x1024 .f32)
    (xt0 : TabBuf (F := F) c tE) (xt1 : TabBuf (F := F) c tU) (L : List (View.Piece (Elt F) S8192x128 .f32)) : Prop :=
  ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ tabHeld c tE xt0 ∗ tabHeld c tU xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ tabHeld c tE xt0 ∗ tabHeld c tU xt1) -∗ K ⟨⟩))
      ⊢ wp frame (wpE (defs₀ (F := F)) Variants.none c none) E (cc0__experts_kernel i tE hE tU hU arg3 harg3 arg4 harg4 arg5 harg5 arg6 harg6 arg7 harg7 arg8 harg8 arg9 harg9 arg10 harg10 arg11 harg11 arg12 harg12) K

end Cert.Experts

end
-- ==== Proof.ExUsed.lean ====
/-
  The experts' body on a pair of blocks that is used: both blocks are computed and stored, row tile by row tile.
-/
module

public import proofs.«01_k».proof.Proof.ExRuns

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The run of a used pair. -/
noncomputable def exUsed (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec F S8192x128 .f32) (x1 : Vec F S1x1024x2048 .bf16) (x2 : Vec F S1x1x2048 .f32) (x3 : Vec F S1x1024x1024 .bf16) (x4 : Vec F S1x1x1024 .f32) (x5 : Vec F S1x1024x2048 .bf16) (x6 : Vec F S1x1x2048 .f32) (x7 : Vec F S1x1024x1024 .bf16) (x8 : Vec F S1x1x1024 .f32)
    (xt0 : TabBuf (F := F) c tE) (xt1 : TabBuf (F := F) c tU)
    (h0 : isUsed i (usedOf xt1)) (h1 : ¬ isPast i (usedOf xt1)) :
    { L : List (View.Piece (Elt F) S8192x128 .f32) // Runs c i arg3 harg3 arg4 harg4 arg5 harg5 arg6 harg6 arg7 harg7 arg8 harg8 arg9 harg9 arg10 harg10 arg11 harg11 arg12 harg12 x0 x1 x2 x3 x4 x5 x6 x7 x8 xt0 xt1 L } := by
  refine ⟨?_, ?run⟩
  case run =>
    intro E K
    simp only [cc0__experts_kernel_eq_skeleton]; unfold cc0__experts_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, HT0, HT1, Hk⟩
    obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8
    sl_exec (disch := first | sl_exact h0 | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HT0]; · iexact HT0
    iexact HT1

end Cert.Experts

end
-- ==== Proof.ExPast.lean ====
/-
  The experts' body on a pair of blocks past the used ones: the output is filled with zeros.
-/
module

public import proofs.«01_k».proof.Proof.ExRuns

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The run of a pair past the used ones. -/
noncomputable def exPast (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec F S8192x128 .f32) (x1 : Vec F S1x1024x2048 .bf16) (x2 : Vec F S1x1x2048 .f32) (x3 : Vec F S1x1024x1024 .bf16) (x4 : Vec F S1x1x1024 .f32) (x5 : Vec F S1x1024x2048 .bf16) (x6 : Vec F S1x1x2048 .f32) (x7 : Vec F S1x1024x1024 .bf16) (x8 : Vec F S1x1x1024 .f32)
    (xt0 : TabBuf (F := F) c tE) (xt1 : TabBuf (F := F) c tU)
    (h0 : ¬ isUsed i (usedOf xt1)) (h1 : isPast i (usedOf xt1)) :
    { L : List (View.Piece (Elt F) S8192x128 .f32) // Runs c i arg3 harg3 arg4 harg4 arg5 harg5 arg6 harg6 arg7 harg7 arg8 harg8 arg9 harg9 arg10 harg10 arg11 harg11 arg12 harg12 x0 x1 x2 x3 x4 x5 x6 x7 x8 xt0 xt1 L } := by
  refine ⟨?_, ?run⟩
  case run =>
    intro E K
    simp only [cc0__experts_kernel_eq_skeleton]; unfold cc0__experts_kernel_skel
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, HT0, HT1, Hk⟩
    obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8
    sl_exec (disch := first | sl_exact h0 | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    isplitl [HT0]; · iexact HT0
    iexact HT1

end Cert.Experts

end
-- ==== Proof.ExPieces.lean ====
/-
  The rectangles the experts' body stores: for each of its two blocks and each of the eight sublanes of a row tile, every
  eighth row of the block's half of the output. Together they are all of it.
-/
module

public import proofs.«01_k».proof.Proof.ExUsed
public import proofs.«01_k».proof.Proof.ExPast

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every eighth row from a first one on, 512 of them. -/
abbrev everyEighth (o : ℕ) (h : ∀ a, (S512x128.size a = 0) ∨ (![o, 0] : Fin 2 → ℕ) a + (![8, 1] : Fin 2 → ℕ) a * (S512x128.size a - 1) < S8192x128.size a) :
    Rect S8192x128 := ⟨(⟨![o, 0], S512x128.size, ![8, 1], h⟩ : LoadRect S8192x128), spos_8_1⟩

/-- The sixteen rectangles, the last stored first. -/
def stored : List (Rect S8192x128) :=
  [everyEighth 4103 inb_S8192x128_S512x128_4103_0_s_8_1,
   everyEighth 4102 inb_S8192x128_S512x128_4102_0_s_8_1,
   everyEighth 4101 inb_S8192x128_S512x128_4101_0_s_8_1,
   everyEighth 4100 inb_S8192x128_S512x128_4100_0_s_8_1,
   everyEighth 4099 inb_S8192x128_S512x128_4099_0_s_8_1,
   everyEighth 4098 inb_S8192x128_S512x128_4098_0_s_8_1,
   everyEighth 4097 inb_S8192x128_S512x128_4097_0_s_8_1,
   everyEighth 4096 inb_S8192x128_S512x128_4096_0_s_8_1,
   everyEighth 7 inb_S8192x128_S512x128_7_0_s_8_1,
   everyEighth 6 inb_S8192x128_S512x128_6_0_s_8_1,
   everyEighth 5 inb_S8192x128_S512x128_5_0_s_8_1,
   everyEighth 4 inb_S8192x128_S512x128_4_0_s_8_1,
   everyEighth 3 inb_S8192x128_S512x128_3_0_s_8_1,
   everyEighth 2 inb_S8192x128_S512x128_2_0_s_8_1,
   everyEighth 1 inb_S8192x128_S512x128_1_0_s_8_1,
   everyEighth 0 inb_S8192x128_S512x128_0_0_s_8_1]

/-- A row that is one of the 512 is in the rectangle. -/
theorem mem_everyEighth {o : ℕ} {h} (y : S8192x128.Idx) (q : ℕ) (hq : q < 512) (e : (y 0).val = o + 8 * q) :
    y ∈ (everyEighth o h).set := by
  refine (LoadRect.mem_set _).mpr fun a => ?_
  fin_cases a
  · exact ⟨q, hq, e⟩
  · exact ⟨(y 1).val, (y 1).isLt, by simp⟩

/-- Every place of the output is in one of them. -/
theorem stored_cover (y : S8192x128.Idx) : ∃ r ∈ stored, y ∈ r.set := by
  have hy : (y 0).val < 8192 := (y 0).isLt
  obtain ⟨k, hk⟩ : ∃ k : Fin 16, (y 0).val = 4096 * (k.val / 8) + k.val % 8 + 8 * ((y 0).val % 4096 / 8) :=
    ⟨⟨8 * ((y 0).val / 4096) + (y 0).val % 8, by omega⟩, by simp only []; omega⟩
  have hq : (y 0).val % 4096 / 8 < 512 := by omega
  generalize (y 0).val % 4096 / 8 = q at hk hq
  fin_cases k
  · exact ⟨_, by unfold stored; simp only [List.mem_cons, true_or, or_true], mem_everyEighth y q hq (o := 0) (h := inb_S8192x128_S512x128_0_0_s_8_1) (by simpa using hk)⟩
  · exact ⟨_, by unfold stored; simp only [List.mem_cons, true_or, or_true], mem_everyEighth y q hq (o := 1) (h := inb_S8192x128_S512x128_1_0_s_8_1) (by simpa using hk)⟩
  · exact ⟨_, by unfold stored; simp only [List.mem_cons, true_or, or_true], mem_everyEighth y q hq (o := 2) (h := inb_S8192x128_S512x128_2_0_s_8_1) (by simpa using hk)⟩
  · exact ⟨_, by unfold stored; simp only [List.mem_cons, true_or, or_true], mem_everyEighth y q hq (o := 3) (h := inb_S8192x128_S512x128_3_0_s_8_1) (by simpa using hk)⟩
  · exact ⟨_, by unfold stored; simp only [List.mem_cons, true_or, or_true], mem_everyEighth y q hq (o := 4) (h := inb_S8192x128_S512x128_4_0_s_8_1) (by simpa using hk)⟩
  · exact ⟨_, by unfold stored; simp only [List.mem_cons, true_or, or_true], mem_everyEighth y q hq (o := 5) (h := inb_S8192x128_S512x128_5_0_s_8_1) (by simpa using hk)⟩
  · exact ⟨_, by unfold stored; simp only [List.mem_cons, true_or, or_true], mem_everyEighth y q hq (o := 6) (h := inb_S8192x128_S512x128_6_0_s_8_1) (by simpa using hk)⟩
  · exact ⟨_, by unfold stored; simp only [List.mem_cons, true_or, or_true], mem_everyEighth y q hq (o := 7) (h := inb_S8192x128_S512x128_7_0_s_8_1) (by simpa using hk)⟩
  · exact ⟨_, by unfold stored; simp only [List.mem_cons, true_or, or_true], mem_everyEighth y q hq (o := 4096) (h := inb_S8192x128_S512x128_4096_0_s_8_1) (by simpa using hk)⟩
  · exact ⟨_, by unfold stored; simp only [List.mem_cons, true_or, or_true], mem_everyEighth y q hq (o := 4097) (h := inb_S8192x128_S512x128_4097_0_s_8_1) (by simpa using hk)⟩
  · exact ⟨_, by unfold stored; simp only [List.mem_cons, true_or, or_true], mem_everyEighth y q hq (o := 4098) (h := inb_S8192x128_S512x128_4098_0_s_8_1) (by simpa using hk)⟩
  · exact ⟨_, by unfold stored; simp only [List.mem_cons, true_or, or_true], mem_everyEighth y q hq (o := 4099) (h := inb_S8192x128_S512x128_4099_0_s_8_1) (by simpa using hk)⟩
  · exact ⟨_, by unfold stored; simp only [List.mem_cons, true_or, or_true], mem_everyEighth y q hq (o := 4100) (h := inb_S8192x128_S512x128_4100_0_s_8_1) (by simpa using hk)⟩
  · exact ⟨_, by unfold stored; simp only [List.mem_cons, true_or, or_true], mem_everyEighth y q hq (o := 4101) (h := inb_S8192x128_S512x128_4101_0_s_8_1) (by simpa using hk)⟩
  · exact ⟨_, by unfold stored; simp only [List.mem_cons, true_or, or_true], mem_everyEighth y q hq (o := 4102) (h := inb_S8192x128_S512x128_4102_0_s_8_1) (by simpa using hk)⟩
  · exact ⟨_, by unfold stored; simp only [List.mem_cons, true_or, or_true], mem_everyEighth y q hq (o := 4103) (h := inb_S8192x128_S512x128_4103_0_s_8_1) (by simpa using hk)⟩

section
variable (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec F S8192x128 .f32) (x1 : Vec F S1x1024x2048 .bf16) (x2 : Vec F S1x1x2048 .f32) (x3 : Vec F S1x1024x1024 .bf16) (x4 : Vec F S1x1x1024 .f32) (x5 : Vec F S1x1024x2048 .bf16) (x6 : Vec F S1x1x2048 .f32) (x7 : Vec F S1x1024x1024 .bf16) (x8 : Vec F S1x1x1024 .f32)
    (xt0 : TabBuf (F := F) c tE) (xt1 : TabBuf (F := F) c tU)

/-- What is stored for a used pair fills the output. -/
theorem used_cover (h0 : isUsed i (usedOf xt1)) (h1 : ¬ isPast i (usedOf xt1)) (y : S8192x128.Idx) :
    ∃ p ∈ (exUsed c i arg3 harg3 arg4 harg4 arg5 harg5 arg6 harg6 arg7 harg7 arg8 harg8 arg9 harg9 arg10 harg10 arg11 harg11 arg12 harg12 x0 x1 x2 x3 x4 x5 x6 x7 x8 xt0 xt1 h0 h1).1, y ∈ p.1.set := by
  obtain ⟨r, hr, hy⟩ := stored_cover y
  rw [show stored = (exUsed c i arg3 harg3 arg4 harg4 arg5 harg5 arg6 harg6 arg7 harg7 arg8 harg8 arg9 harg9 arg10 harg10 arg11 harg11 arg12 harg12 x0 x1 x2 x3 x4 x5 x6 x7 x8 xt0 xt1 h0 h1).1.map Sigma.fst from rfl] at hr
  obtain ⟨p, hp, rfl⟩ := List.mem_map.mp hr
  exact ⟨p, hp, hy⟩

/-- What is stored for a pair past the used ones fills it too. -/
theorem past_cover (h0 : ¬ isUsed i (usedOf xt1)) (h1 : isPast i (usedOf xt1)) (y : S8192x128.Idx) :
    ∃ p ∈ (exPast c i arg3 harg3 arg4 harg4 arg5 harg5 arg6 harg6 arg7 harg7 arg8 harg8 arg9 harg9 arg10 harg10 arg11 harg11 arg12 harg12 x0 x1 x2 x3 x4 x5 x6 x7 x8 xt0 xt1 h0 h1).1, y ∈ p.1.set :=
  View.cover_of_tiledL (exPast c i arg3 harg3 arg4 harg4 arg5 harg5 arg6 harg6 arg7 harg7 arg8 harg8 arg9 harg9 arg10 harg10 arg11 harg11 arg12 harg12 x0 x1 x2 x3 x4 x5 x6 x7 x8 xt0 xt1 h0 h1).1 S8192x128.size (by sl_kernel_rfl) y

/-- The pieces the body leaves at a grid point, in either case, with its run and their filling the output. -/
def exPieces : { L : List (View.Piece (Elt F) S8192x128 .f32) //
    Runs c i arg3 harg3 arg4 harg4 arg5 harg5 arg6 harg6 arg7 harg7 arg8 harg8 arg9 harg9 arg10 harg10 arg11 harg11 arg12 harg12 x0 x1 x2 x3 x4 x5 x6 x7 x8 xt0 xt1 L ∧ ∀ y, ∃ p ∈ L, y ∈ p.1.set } :=
  if h : isUsed i (usedOf xt1) then
    have h' : ¬ isPast i (usedOf xt1) := fun g => (past_iff _ _).mp g h
    ⟨(exUsed c i arg3 harg3 arg4 harg4 arg5 harg5 arg6 harg6 arg7 harg7 arg8 harg8 arg9 harg9 arg10 harg10 arg11 harg11 arg12 harg12 x0 x1 x2 x3 x4 x5 x6 x7 x8 xt0 xt1 h h').1, (exUsed c i arg3 harg3 arg4 harg4 arg5 harg5 arg6 harg6 arg7 harg7 arg8 harg8 arg9 harg9 arg10 harg10 arg11 harg11 arg12 harg12 x0 x1 x2 x3 x4 x5 x6 x7 x8 xt0 xt1 h h').2, used_cover c i arg3 harg3 arg4 harg4 arg5 harg5 arg6 harg6 arg7 harg7 arg8 harg8 arg9 harg9 arg10 harg10 arg11 harg11 arg12 harg12 x0 x1 x2 x3 x4 x5 x6 x7 x8 xt0 xt1 h h'⟩
  else
    have h' : isPast i (usedOf xt1) := (past_iff _ _).mpr h
    ⟨(exPast c i arg3 harg3 arg4 harg4 arg5 harg5 arg6 harg6 arg7 harg7 arg8 harg8 arg9 harg9 arg10 harg10 arg11 harg11 arg12 harg12 x0 x1 x2 x3 x4 x5 x6 x7 x8 xt0 xt1 h h').1, (exPast c i arg3 harg3 arg4 harg4 arg5 harg5 arg6 harg6 arg7 harg7 arg8 harg8 arg9 harg9 arg10 harg10 arg11 harg11 arg12 harg12 x0 x1 x2 x3 x4 x5 x6 x7 x8 xt0 xt1 h h').2, past_cover c i arg3 harg3 arg4 harg4 arg5 harg5 arg6 harg6 arg7 harg7 arg8 harg8 arg9 harg9 arg10 harg10 arg11 harg11 arg12 harg12 x0 x1 x2 x3 x4 x5 x6 x7 x8 xt0 xt1 h h'⟩

end

end Cert.Experts

end
-- ==== Proof.ExFrame.lean ====
/-
  The experts' pipeline runs. What every buffer holds after each grid point, the body's obligation, the run of the whole
  program over any float values, and from it that the program stops with its argument arrays unchanged and no semaphore
  raised.
-/
module

public import proofs.«01_k».proof.Proof.ExPieces
public import Idealize.ShloMosaic.Lib.Claim

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces at a grid point, on that point's buffers and blocks. -/
abbrev piecesAt (hO : Ok m) (c : Dev nD) (t : Fin (cfgM m hO).N) :=
  exPieces c (grid0.coords t) (st0 m hO t) (wh0 m hO t) (st1 m hO t) (wh1 m hO t) (st2 m hO t) (wh2 m hO t) (st3 m hO t) (wh3 m hO t) (st4 m hO t) (wh4 m hO t) (st5 m hO t) (wh5 m hO t) (st6 m hO t) (wh6 m hO t) (st7 m hO t) (wh7 m hO t) (st8 m hO t) (wh8 m hO t) (st9 m hO t) (wh9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1)

/-- The output's block after a grid point. -/
def outAt (hO : Ok m) (c : Dev nD) (t : Fin (cfgM m hO).N) : Vec F S8192x128 .f32 :=
  outV.read (Elt F) (outV.writes (Elt F) outV.junk (piecesAt m hO c t).1)

/-- What each window's buffer holds after a grid point, and what is kept throughout. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => outAt m hO c t
  Φ _ := iprop(Pipeline.ΦA spec0 c ∗ Pipeline.ΦT pre0 (tbl m) c)
  q w := Pipeline.shareOf spec0 w
  owed _ := 0

theorem dats_arr (hO : Ok m) (c : Dev nD) (w : Fin (cfgM m hO).W) :
    (dats m hO 0 c).A w = V m c (Pipeline.arrRef spec0 w) := by dsimp only [dats]

theorem left_0 (hO : Ok m) (c : Dev nD) (t : Fin (cfgM m hO).N) : (dats m hO 0 c).after 0 t = iblk m hO c 0 t := by
  dsimp only [dats]; try rfl
theorem left_1 (hO : Ok m) (c : Dev nD) (t : Fin (cfgM m hO).N) : (dats m hO 0 c).after 1 t = iblk m hO c 1 t := by
  dsimp only [dats]; try rfl
theorem left_2 (hO : Ok m) (c : Dev nD) (t : Fin (cfgM m hO).N) : (dats m hO 0 c).after 2 t = iblk m hO c 2 t := by
  dsimp only [dats]; try rfl
theorem left_3 (hO : Ok m) (c : Dev nD) (t : Fin (cfgM m hO).N) : (dats m hO 0 c).after 3 t = iblk m hO c 3 t := by
  dsimp only [dats]; try rfl
theorem left_4 (hO : Ok m) (c : Dev nD) (t : Fin (cfgM m hO).N) : (dats m hO 0 c).after 4 t = iblk m hO c 4 t := by
  dsimp only [dats]; try rfl
theorem left_5 (hO : Ok m) (c : Dev nD) (t : Fin (cfgM m hO).N) : (dats m hO 0 c).after 5 t = iblk m hO c 5 t := by
  dsimp only [dats]; try rfl
theorem left_6 (hO : Ok m) (c : Dev nD) (t : Fin (cfgM m hO).N) : (dats m hO 0 c).after 6 t = iblk m hO c 6 t := by
  dsimp only [dats]; try rfl
theorem left_7 (hO : Ok m) (c : Dev nD) (t : Fin (cfgM m hO).N) : (dats m hO 0 c).after 7 t = iblk m hO c 7 t := by
  dsimp only [dats]; try rfl
theorem left_8 (hO : Ok m) (c : Dev nD) (t : Fin (cfgM m hO).N) : (dats m hO 0 c).after 8 t = iblk m hO c 8 t := by
  dsimp only [dats]; try rfl
theorem left_9 (hO : Ok m) (c : Dev nD) (t : Fin (cfgM m hO).N) : (dats m hO 0 c).after 9 t = outAt m hO c t := by
  dsimp only [dats]; try rfl

theorem met_0 (hO : Ok m) (c : Dev nD) (t : Fin (cfgM m hO).N) (d) : (dats m hO 0 c).before 0 t d = iblk m hO c 0 t :=
  found_0 m hO (dats m hO 0 c) (dats_arr m hO c 0) (left_0 m hO c) t d
theorem met_1 (hO : Ok m) (c : Dev nD) (t : Fin (cfgM m hO).N) (d) : (dats m hO 0 c).before 1 t d = iblk m hO c 1 t :=
  found_1 m hO (dats m hO 0 c) (dats_arr m hO c 1) (left_1 m hO c) t d
theorem met_2 (hO : Ok m) (c : Dev nD) (t : Fin (cfgM m hO).N) (d) : (dats m hO 0 c).before 2 t d = iblk m hO c 2 t :=
  found_2 m hO (dats m hO 0 c) (dats_arr m hO c 2) (left_2 m hO c) t d
theorem met_3 (hO : Ok m) (c : Dev nD) (t : Fin (cfgM m hO).N) (d) : (dats m hO 0 c).before 3 t d = iblk m hO c 3 t :=
  found_3 m hO (dats m hO 0 c) (dats_arr m hO c 3) (left_3 m hO c) t d
theorem met_4 (hO : Ok m) (c : Dev nD) (t : Fin (cfgM m hO).N) (d) : (dats m hO 0 c).before 4 t d = iblk m hO c 4 t :=
  found_4 m hO (dats m hO 0 c) (dats_arr m hO c 4) (left_4 m hO c) t d
theorem met_5 (hO : Ok m) (c : Dev nD) (t : Fin (cfgM m hO).N) (d) : (dats m hO 0 c).before 5 t d = iblk m hO c 5 t :=
  found_5 m hO (dats m hO 0 c) (dats_arr m hO c 5) (left_5 m hO c) t d
theorem met_6 (hO : Ok m) (c : Dev nD) (t : Fin (cfgM m hO).N) (d) : (dats m hO 0 c).before 6 t d = iblk m hO c 6 t :=
  found_6 m hO (dats m hO 0 c) (dats_arr m hO c 6) (left_6 m hO c) t d
theorem met_7 (hO : Ok m) (c : Dev nD) (t : Fin (cfgM m hO).N) (d) : (dats m hO 0 c).before 7 t d = iblk m hO c 7 t :=
  found_7 m hO (dats m hO 0 c) (dats_arr m hO c 7) (left_7 m hO c) t d
theorem met_8 (hO : Ok m) (c : Dev nD) (t : Fin (cfgM m hO).N) (d) : (dats m hO 0 c).before 8 t d = iblk m hO c 8 t :=
  found_8 m hO (dats m hO 0 c) (dats_arr m hO c 8) (left_8 m hO c) t d

/-- What the body is called with, window by window, and what it gives back. -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d))
    ∗ (∃ d, owns (c : Thread nD τ) (st6 m hO t) fullShare ((dats m hO 0 c).before 6 t d))
    ∗ (∃ d, owns (c : Thread nD τ) (st7 m hO t) fullShare ((dats m hO 0 c).before 7 t d))
    ∗ (∃ d, owns (c : Thread nD τ) (st8 m hO t) fullShare ((dats m hO 0 c).before 8 t d))
    ∗ (∃ d, owns (c : Thread nD τ) (st9 m hO t) fullShare ((dats m hO 0 c).before 9 t d)))
def back (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t)
    ∗ owns (c : Thread nD τ) (st6 m hO t) fullShare ((dats m hO 0 c).after 6 t)
    ∗ owns (c : Thread nD τ) (st7 m hO t) fullShare ((dats m hO 0 c).after 7 t)
    ∗ owns (c : Thread nD τ) (st8 m hO t) fullShare ((dats m hO 0 c).after 8 t)
    ∗ owns (c : Thread nD τ) (st9 m hO t) fullShare ((dats m hO 0 c).after 9 t))

set_option maxHeartbeats 800000 in
/-- The body's run at a grid point, between the two. -/
theorem body_runs (hO : Ok m) (c : Dev nD) (t : Fin (cfgM m hO).N) :
    given m hO c t ⊢ wp frame (wpE (defs₀ (F := F)) Variants.none c none) Set.univ (bodyAt m hO t) (fun _ => back m hO c t) := by
  unfold given back bodyAt
  simp only [met_0, met_1, met_2, met_3, met_4, met_5, met_6, met_7, met_8]
  rw [show (dats m hO 0 c).Φ t.succ = (dats m hO 0 c).Φ t.castSucc from rfl,
    show (dats m hO 0 c).owesAt () t.succ = (dats m hO 0 c).owesAt () t.castSucc from rfl,
    left_0, left_1, left_2, left_3, left_4, left_5, left_6, left_7, left_8, left_9]
  rw [show (dats m hO 0 c).Φ t.castSucc = iprop(Pipeline.ΦA spec0 c ∗ Pipeline.ΦT pre0 (tbl m) c) from rfl, tables_held]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((piecesAt m hO c t).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  isplitl [HT1]; · iexact HT1
  iintro ⟨H0, H1, H2, H3, H4, H5, H6, H7, H8, ⟨%e9, H9⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (piecesAt m hO c t).2.2

/-- The body is the one of the program's table of functions. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is written at every grid point: one of the two branches is always taken. -/
theorem idle_false (pf : pre0.Contents (Elt F)) (i : grid0.Coords) : idle0 pf 9 i = false := by
  have key : ∀ a b : BitVec 1, (b = 1#1 ↔ ¬ a = 1#1) → (!(a == 1#1) && !(b == 1#1)) = false := by decide
  exact key _ _ (past_iff i (pf.atD 1 ![0]))

set_option maxHeartbeats 3200000 in
theorem never_idle (hO : Ok m) (i : grid0.Coords) : (cfgM m hO).idle (9 : Fin 10) i = false :=
  idle_false (tbl m) i

/-- The body's obligation to the pipeline. -/
theorem obligation (hO : Ok m) (c : Dev nD) :
    BodyObligation (dats (F := F) m hO 0 c) (defs₀ (F := F)) Variants.none () Set.univ := fun t => by
  rw [bigSep_W0, bigSep_W0, body_row m hO]
  refine triple_restated (body_runs m hO c t) rfl .rfl fun _ => ?_
  rw [never_idle m hO ((cfgM m hO).grid.coords t)]
  exact .rfl

set_option backward.isDefEq.respectTransparency.types false in
/-- The program runs to its end, every array at what the pipeline computes, every counter at zero. -/
theorem run_quiet (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := hmain m Variants.none) (hA := dats_arr m hO) (hpf := V_pre m)
    (hΦ := fun _ _ => rfl)

/-- The run, with the argument arrays as they were and the result at what the pipeline computes. -/
theorem run_all (hO : Ok m) : θ_run defs (onTc (τ := τ) (main (F := F))) ⟨m, fun _ => 0, ρ⟩ (fun r => ((∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) ∧ ∀ c : Dev nD, r.2.mem ((c.tc : Thread nD τ).loc main_v5) = (dats m hO 0 c).arrAt 9 (cfgM m hO).N) :=
  (θ_run defs _ _).mono (fun _ h => ⟨⟨fun c =>
    ⟨((h.1 c).2 main_arg0 (by decide : main_arg0 ∈ Pipeline.restRefs sig spec0)).trans (V_kept m c _ (by decide)),
     ((h.1 c).2 main_arg1 (by decide : main_arg1 ∈ Pipeline.restRefs sig spec0)).trans (V_kept m c _ (by decide)),
     ((h.1 c).2 main_arg2 (by decide : main_arg2 ∈ Pipeline.restRefs sig spec0)).trans (V_kept m c _ (by decide)),
     ((h.1 c).2 main_arg3 (by decide : main_arg3 ∈ Pipeline.restRefs sig spec0)).trans (V_kept m c _ (by decide)),
     ((h.1 c).2 main_arg4 (by decide : main_arg4 ∈ Pipeline.restRefs sig spec0)).trans (V_kept m c _ (by decide)),
     ((h.1 c).2 main_arg5 (by decide : main_arg5 ∈ Pipeline.restRefs sig spec0)).trans (V_kept m c _ (by decide)),
     ((h.1 c).2 main_arg6 (by decide : main_arg6 ∈ Pipeline.restRefs sig spec0)).trans (V_kept m c _ (by decide))⟩, h.2⟩, fun c => (h.1 c).1 9⟩) (run_quiet m ρ hO)

end Cert.Experts

end
-- ==== Proof.ExOk.lean ====
/-
  The precondition puts every entry of the table of experts between 0 and 31, so every block of weights it names is there;
  the frames of the call follow, the machine's from the same run.
-/
module

public import proofs.«01_k».proof.Defs
public import proofs.«01_k».proof.Proof.ExFrame
public import proofs.«01_k».proof.Proof.Gen.Kernel3Ideal
public import proofs.«01_k».proof.Proof.Gen.Pre_in_range
public import Idealize.ShloMosaic.Lib.ReduceAll
public import Idealize.ShloMosaic.Lib.Pointwise

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pointwise

/-- Experts that exist have their blocks inside the arrays. -/
theorem ok_of_range (pf : pre0.Contents (Elt F)) (h : ∀ x : S544.Idx, BitVec.toNat (w := 32) (pf 0 x) < 32) : ok0 pf :=
  ⟨fun i => ⟨fun a => by fin_cases a <;> first | exact Nat.le_trans (Nat.mul_le_mul_right 1 (h _)) (by decide) | exact Nat.le_of_eq (Nat.one_mul _), .inr (Affine.block_words_dvd (of_decide_eq_true rfl) (by decide))⟩,
   fun i => ⟨fun a => by fin_cases a <;> first | exact Nat.le_trans (Nat.mul_le_mul_right 1 (h _)) (by decide) | exact Nat.le_of_eq (Nat.one_mul _), .inl rfl⟩,
   fun i => ⟨fun a => by fin_cases a <;> first | exact Nat.le_trans (Nat.mul_le_mul_right 1 (h _)) (by decide) | exact Nat.le_of_eq (Nat.one_mul _), .inr (Affine.block_words_dvd (of_decide_eq_true rfl) (by decide))⟩,
   fun i => ⟨fun a => by fin_cases a <;> first | exact Nat.le_trans (Nat.mul_le_mul_right 1 (h _)) (by decide) | exact Nat.le_of_eq (Nat.one_mul _), .inl rfl⟩,
   fun i => ⟨fun a => by fin_cases a <;> first | exact Nat.le_trans (Nat.mul_le_mul_right 1 (h _)) (by decide) | exact Nat.le_of_eq (Nat.one_mul _), .inr (Affine.block_words_dvd (of_decide_eq_true rfl) (by decide))⟩,
   fun i => ⟨fun a => by fin_cases a <;> first | exact Nat.le_trans (Nat.mul_le_mul_right 1 (h _)) (by decide) | exact Nat.le_of_eq (Nat.one_mul _), .inl rfl⟩,
   fun i => ⟨fun a => by fin_cases a <;> first | exact Nat.le_trans (Nat.mul_le_mul_right 1 (h _)) (by decide) | exact Nat.le_of_eq (Nat.one_mul _), .inr (Affine.block_words_dvd (of_decide_eq_true rfl) (by decide))⟩,
   fun i => ⟨fun a => by fin_cases a <;> first | exact Nat.le_trans (Nat.mul_le_mul_right 1 (h _)) (by decide) | exact Nat.le_of_eq (Nat.one_mul _), .inl rfl⟩⟩

/-- The precondition, read at one entry of the table. -/
theorem range_of_pre (a0 : IVec Cert.Pre_in_range.S544 32) (a1 a2 a3 a4 a5 a6)
    (h : Cert.Pre_in_range.fn (F := F) a0 a1 a2 a3 a4 a5 a6 = fun _ => 1#1) (x : Cert.Pre_in_range.S544.Idx) :
    (a0 x).toNat < 32 := by
  haveI : Subsingleton (⟨0, ![]⟩ : Shape).Idx := ⟨fun a b => funext fun z => z.elim0⟩
  obtain ⟨l, u⟩ := IntOp.andi_eq_one.1 (Host.reduce_andi_all _ _ _ _ _ (congrFun h ix0) x)
  have l' : (0#32).toInt ≤ (a0 x).toInt := IntOp.cmpi_sge.1 l
  have u' : (a0 x).toInt < (32#32).toInt := IntOp.cmpi_slt.1 u
  have t := BitVec.toInt_eq_toNat_cond (a0 x)
  have z : (0#32).toInt = 0 := by decide
  have w : (32#32).toInt = 32 := by decide
  have b := (a0 x).isLt
  split at t <;> omega

variable (m : (ℓ : Loc nD τ sig) → Buf (Elt F) ℓ) (ρ : Dev nD → PrngReg)

/-- Under the precondition the pipeline's blocks are all there. -/
theorem ok_of_pre (h : ∀ c : Dev nD, Cert.Pre_in_range.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = fun _ => 1#1) : Ok m := by
  refine ok_of_range _ fun x => ?_
  have e : tbl m 0 = m (((0 : Dev nD).tc : Thread nD τ).loc main_arg0) := V_kept m 0 main_arg0 (by decide)
  rw [e]
  exact range_of_pre _ _ _ _ _ _ _ (h 0) x

/-- The frame of the idealized call. -/
theorem frame_ideal : Cert.quiescent_Kernel3Ideal := fun m ρ h =>
  (θ_run Cert.Kernel3Ideal.defs _ _).mono (fun _ h => h.1) (run_all (F := Ideal) m ρ (ok_of_pre m h))

end Cert.Experts

end
-- ==== Proof.ExMachine.lean ====
/-
  The frame of the experts' call as the machine runs it: the program has the idealized one's text, so it is the same run,
  over the machine's floats.
-/
module

public import proofs.«01_k».proof.Proof.ExOk
public import proofs.«01_k».proof.Proof.Gen.Kernel3

@[expose] public section

set_option maxRecDepth 16384

noncomputable section

namespace Cert.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The same statement, spelled with the idealized program, which has the same text. -/
def machine : Prop :=
  ∀ (m : (ℓ : Loc nD τ sig) → Buf (Elt Bits) ℓ) (g : Dev nD → PrngReg),
    (∀ c : Dev nD, Cert.Pre_in_range.fn (F := Bits) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem machine_runs : machine := fun m ρ h =>
  (θ_run defs _ _).mono (fun _ h => h.1) (run_all (F := Bits) m ρ (ok_of_pre (F := Bits) m h))

theorem machine_eq : machine = Cert.quiescent_Kernel3 := by sl_kernel_rfl

/-- The frame of the call as the machine runs it. -/
theorem frame_machine : Cert.quiescent_Kernel3 := Eq.mp machine_eq machine_runs

end Cert.Experts

end
-- ==== Proof.ExBody.lean ====
/-
  The experts' body, element by element: a row of a block goes through its expert's two layers.
-/
module

public import proofs.«01_k».proof.Proof.ExPieces
public import Idealize.ShloMosaic.Lib.Pointwise
public import Idealize.ShloMosaic.Lib.WholeRead
public import Idealize.ShloMosaic.PureOps.Ideal.Laws

@[expose] public section
set_option maxRecDepth 16384
noncomputable section
namespace Cert.Experts
open Cert.Kernel3Ideal Cert.Kernel3Ideal.Gen Idealize.ShloMosaic Idealize.ShloMosaic.Pointwise

/-- The gated activation of a pair of numbers. -/
def swi (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- The hidden layer of a row. -/
def hidden (X : Fin 1024 → EReal) (W : Fin 1024 → Fin 2048 → EReal) (B : Fin 2048 → EReal) (f : Fin 1024) : EReal :=
  swi (∑ d, X d * W d ⟨f.val, by omega⟩ + B ⟨f.val, by omega⟩) (∑ d, X d * W d ⟨1024 + f.val, by omega⟩ + B ⟨1024 + f.val, by omega⟩)

/-- The output of a row. -/
def expert (X : Fin 1024 → EReal) (W : Fin 1024 → Fin 2048 → EReal) (B : Fin 2048 → EReal) (W' : Fin 1024 → Fin 1024 → EReal) (B' : Fin 1024 → EReal)
    (n : Fin 1024) : EReal := ∑ f, hidden X W B f * W' f n + B' n

/-- A linear layer on 256 columns. -/
def lin (x : FVec Ideal S512x1024 .bf16) (w : Vec Ideal S1x1024x256 .bf16) (b : Vec Ideal S1x1x256 .f32) : FVec Ideal S512x256 .f32 := k0_pay4 x w b
theorem lin_at (x : FVec Ideal S512x1024 .bf16) (w : Vec Ideal S1x1024x256 .bf16) (b : Vec Ideal S1x1x256 .f32) (r : Fin 512) (k : Fin 256) :
    lin x w b (ix2 r k) = ∑ d : Fin 1024, x (ix2 r d) * w (ix3 0 d k) + b (ix3 0 0 k) := by
  unfold lin
  pointwise [k0_pay4]

/-- The activation of 256 columns. -/
def act (g u : FVec Ideal S512x256 .f32) : FVec Ideal S512x256 .bf16 :=
  k0_pay16 (minimumf g (broadcast S512x256 (Scalar.ofBits .f32 0x40E00000#32)))
    (minimumf (broadcast S512x256 (Scalar.ofBits .f32 0x40E00000#32)) (maximumf (broadcast S512x256 (Scalar.ofBits .f32 0xC0E00000#32)) u)) k0_pay15
theorem act_at (g u : FVec Ideal S512x256 .f32) (r : Fin 512) (k : Fin 256) : act g u (ix2 r k) = swi (g (ix2 r k)) (u (ix2 r k)) := by
  unfold act
  pointwise [k0_pay16, k0_pay15]
  rfl

section
variable (M3 : Memref sig .tc .vmem S8192x128 .f32) (h3 : M3.IsWhole) (x0 : Vec Ideal S8192x128 .f32)

/-- Every eighth row of the block, from a first one on. -/
def rowsL (o : ℕ) (h : o ≤ 4103) : Vec Ideal S512x128 .f32 :=
  View.readAt (Elt Ideal) M3.view { off := ![o, 0], size := S512x128.size, stride := ![8, 1], inb := fun a => Or.inr (by
    fin_cases a
    · show o + 8 * 511 < 8192
      omega
    · show 0 + 1 * 127 < 128
      omega) } (h3.unread x0)
theorem rowsL_at (o : ℕ) (h : o ≤ 4103) (r : Fin 512) (l : Fin 128) : rowsL M3 h3 x0 o h (ix2 r l) = x0 (ix2 ⟨o + 8 * r.val, by omega⟩ l) := by
  unfold rowsL
  refine (Memref.IsWhole.readAt_unread h3 x0 _ _).trans (congrArg x0 (funext fun a => Fin.ext ?_))
  fin_cases a
  · rfl
  · show 0 + 1 * l.val = l.val
    omega

/-- Eight of them side by side: 512 rows of 1024. -/
def xs (o : ℕ) (h : o ≤ 4096) : FVec Ideal S512x1024 .bf16 :=
  k0_pay8 (rowsL M3 h3 x0 o (by omega)) (rowsL M3 h3 x0 (o + 1) (by omega)) (rowsL M3 h3 x0 (o + 2) (by omega)) (rowsL M3 h3 x0 (o + 3) (by omega))
    (rowsL M3 h3 x0 (o + 4) (by omega)) (rowsL M3 h3 x0 (o + 5) (by omega)) (rowsL M3 h3 x0 (o + 6) (by omega)) (rowsL M3 h3 x0 (o + 7) (by omega))
theorem xs_at (o : ℕ) (h : o ≤ 4096) (r : Fin 512) (d : Fin 1024) :
    xs M3 h3 x0 o h (ix2 r d) = x0 (ix2 ⟨o + 8 * r.val + d.val / 128, by omega⟩ ⟨d.val % 128, by omega⟩) := by
  unfold xs
  have e : ∀ s : ℕ, ∀ hs, ∀ l : Fin 128, rowsL M3 h3 x0 (o + s) hs (ix2 r l) = x0 (ix2 ⟨o + s + 8 * r.val, by omega⟩ l) := fun s hs l => rowsL_at M3 h3 x0 (o + s) hs r l
  have e0 : ∀ hs, ∀ l : Fin 128, rowsL M3 h3 x0 o hs (ix2 r l) = x0 (ix2 ⟨o + 8 * r.val, by omega⟩ l) := fun hs l => rowsL_at M3 h3 x0 o hs r l
  pointwise [k0_pay8]
  simp only [e, e0]
  split_ifs <;> exact congrArg x0 (congrArg₂ ix2 (Fin.ext (by show _ = o + 8 * r.val + d.val / 128; simp only []; omega)) (Fin.ext (by show _ = d.val % 128; simp only []; omega)))
end

section
variable (M4 : Memref sig .tc .vmem S1x1024x2048 .bf16) (h4 : M4.IsWhole) (x1 : Vec Ideal S1x1024x2048 .bf16)
  (M5 : Memref sig .tc .vmem S1x1x2048 .f32) (h5 : M5.IsWhole) (x2 : Vec Ideal S1x1x2048 .f32)
  (M6 : Memref sig .tc .vmem S1x1024x1024 .bf16) (h6 : M6.IsWhole) (x3 : Vec Ideal S1x1024x1024 .bf16)
  (M7 : Memref sig .tc .vmem S1x1x1024 .f32) (h7 : M7.IsWhole) (x4 : Vec Ideal S1x1x1024 .f32)

/-- 256 columns of each of the expert's arrays. -/
def colsA (o : ℕ) (h : o + 256 ≤ 2048) : Vec Ideal S1x1024x256 .bf16 :=
  View.readAt (Elt Ideal) M4.view (Rect.unit (s := S1x1024x2048) ![0, 0, o] S1x1024x256.size (fun a => by
    fin_cases a
    · exact Nat.le_refl 1
    · exact Nat.le_refl 1024
    · exact h)).toLoadRect (h4.unread x1)
def colsB (o : ℕ) (h : o + 256 ≤ 2048) : Vec Ideal S1x1x256 .f32 :=
  View.readAt (Elt Ideal) M5.view (Rect.unit (s := S1x1x2048) ![0, 0, o] S1x1x256.size (fun a => by
    fin_cases a
    · exact Nat.le_refl 1
    · exact Nat.le_refl 1
    · exact h)).toLoadRect (h5.unread x2)
def colsC (o : ℕ) (h : o + 256 ≤ 1024) : Vec Ideal S1x1024x256 .bf16 :=
  View.readAt (Elt Ideal) M6.view (Rect.unit (s := S1x1024x1024) ![0, 0, o] S1x1024x256.size (fun a => by
    fin_cases a
    · exact Nat.le_refl 1
    · exact Nat.le_refl 1024
    · exact h)).toLoadRect (h6.unread x3)
def colsD (o : ℕ) (h : o + 256 ≤ 1024) : Vec Ideal S1x1x256 .f32 :=
  View.readAt (Elt Ideal) M7.view (Rect.unit (s := S1x1x1024) ![0, 0, o] S1x1x256.size (fun a => by
    fin_cases a
    · exact Nat.le_refl 1
    · exact Nat.le_refl 1
    · exact h)).toLoadRect (h7.unread x4)
theorem colsA_at (o : ℕ) (h : o + 256 ≤ 2048) (d : Fin 1024) (k : Fin 256) : colsA M4 h4 x1 o h (ix3 0 d k) = x1 (ix3 0 d ⟨o + k.val, by omega⟩) := by
  unfold colsA
  refine (Memref.IsWhole.readAt_unread h4 x1 _ _).trans (congrArg x1 (funext fun a => Fin.ext ?_))
  fin_cases a
  · rfl
  · show 0 + 1 * d.val = d.val
    omega
  · show o + 1 * k.val = o + k.val
    omega
theorem colsB_at (o : ℕ) (h : o + 256 ≤ 2048) (k : Fin 256) : colsB M5 h5 x2 o h (ix3 0 0 k) = x2 (ix3 0 0 ⟨o + k.val, by omega⟩) := by
  unfold colsB
  refine (Memref.IsWhole.readAt_unread h5 x2 _ _).trans (congrArg x2 (funext fun a => Fin.ext ?_))
  fin_cases a
  · rfl
  · rfl
  · show o + 1 * k.val = o + k.val
    omega
theorem colsC_at (o : ℕ) (h : o + 256 ≤ 1024) (d : Fin 1024) (k : Fin 256) : colsC M6 h6 x3 o h (ix3 0 d k) = x3 (ix3 0 d ⟨o + k.val, by omega⟩) := by
  unfold colsC
  refine (Memref.IsWhole.readAt_unread h6 x3 _ _).trans (congrArg x3 (funext fun a => Fin.ext ?_))
  fin_cases a
  · rfl
  · show 0 + 1 * d.val = d.val
    omega
  · show o + 1 * k.val = o + k.val
    omega
theorem colsD_at (o : ℕ) (h : o + 256 ≤ 1024) (k : Fin 256) : colsD M7 h7 x4 o h (ix3 0 0 k) = x4 (ix3 0 0 ⟨o + k.val, by omega⟩) := by
  unfold colsD
  refine (Memref.IsWhole.readAt_unread h7 x4 _ _).trans (congrArg x4 (funext fun a => Fin.ext ?_))
  fin_cases a
  · rfl
  · rfl
  · show o + 1 * k.val = o + k.val
    omega

variable (x : FVec Ideal S512x1024 .bf16)

/-- 256 columns of the hidden layer. -/
def hid1 (o : ℕ) (h : o + 256 ≤ 1024) : FVec Ideal S512x256 .bf16 :=
  act (lin x (colsA M4 h4 x1 o (by omega)) (colsB M5 h5 x2 o (by omega))) (lin x (colsA M4 h4 x1 (1024 + o) (by omega)) (colsB M5 h5 x2 (1024 + o) (by omega)))
theorem hid1_at (o : ℕ) (h : o + 256 ≤ 1024) (r : Fin 512) (k : Fin 256) :
    hid1 M4 h4 x1 M5 h5 x2 x o h (ix2 r k) = hidden (fun d => x (ix2 r d)) (fun d f => x1 (ix3 0 d f)) (fun f => x2 (ix3 0 0 f)) ⟨o + k.val, by omega⟩ := by
  unfold hid1
  rw [act_at, lin_at, lin_at]
  simp only [colsA_at, colsB_at]
  unfold hidden
  simp only [Nat.add_assoc]

/-- The hidden layer. -/
def hidV : FVec Ideal S512x1024 .bf16 :=
  concatenate S512x1024 1 [⟨S512x256, hid1 M4 h4 x1 M5 h5 x2 x 0 (by omega)⟩, ⟨S512x256, hid1 M4 h4 x1 M5 h5 x2 x 256 (by omega)⟩,
    ⟨S512x256, hid1 M4 h4 x1 M5 h5 x2 x 512 (by omega)⟩, ⟨S512x256, hid1 M4 h4 x1 M5 h5 x2 x 768 (by omega)⟩] concatenates_S512x256_S512x256_S512x256_S512x256_S512x1024_d1
theorem hidV_at (r : Fin 512) (f : Fin 1024) :
    hidV M4 h4 x1 M5 h5 x2 x (ix2 r f) = hidden (fun d => x (ix2 r d)) (fun d f => x1 (ix3 0 d f)) (fun f => x2 (ix3 0 0 f)) f := by
  have e := hid1_at M4 h4 x1 M5 h5 x2 x
  unfold hidV
  generalize hid1 M4 h4 x1 M5 h5 x2 x = H at e
  pointwise
  simp only [e]
  split_ifs <;> exact congrArg (hidden _ _ _) (Fin.ext (by show _ = f.val; simp only []; omega))

/-- 128 columns of the output. -/
theorem low_at (o : ℕ) (h : o + 256 ≤ 1024) (r : Fin 512) (l : Fin 128) :
    k0_pay5 (hidV M4 h4 x1 M5 h5 x2 x) (colsC M6 h6 x3 o h) (colsD M7 h7 x4 o h) (ix2 r l)
      = expert (fun d => x (ix2 r d)) (fun d f => x1 (ix3 0 d f)) (fun f => x2 (ix3 0 0 f)) (fun f n => x3 (ix3 0 f n)) (fun n => x4 (ix3 0 0 n)) ⟨o + l.val, by omega⟩ := by
  have e := lin_at (hidV M4 h4 x1 M5 h5 x2 x) (colsC M6 h6 x3 o h) (colsD M7 h7 x4 o h) r ⟨l.val, by omega⟩
  have e' : k0_pay5 (hidV M4 h4 x1 M5 h5 x2 x) (colsC M6 h6 x3 o h) (colsD M7 h7 x4 o h) (ix2 r l) = lin (hidV M4 h4 x1 M5 h5 x2 x) (colsC M6 h6 x3 o h) (colsD M7 h7 x4 o h) (ix2 r ⟨l.val, by omega⟩) := by
    unfold lin k0_pay5
    generalize k0_pay4 (hidV M4 h4 x1 M5 h5 x2 x) (colsC M6 h6 x3 o h) (colsD M7 h7 x4 o h) = z
    pointwise
  rw [e', e]
  simp only [colsC_at, colsD_at, hidV_at]
  rfl
theorem high_at (o : ℕ) (h : o + 256 ≤ 1024) (r : Fin 512) (l : Fin 128) :
    k0_pay6 (hidV M4 h4 x1 M5 h5 x2 x) (colsC M6 h6 x3 o h) (colsD M7 h7 x4 o h) (ix2 r l)
      = expert (fun d => x (ix2 r d)) (fun d f => x1 (ix3 0 d f)) (fun f => x2 (ix3 0 0 f)) (fun f n => x3 (ix3 0 f n)) (fun n => x4 (ix3 0 0 n)) ⟨o + (128 + l.val), by omega⟩ := by
  have e := lin_at (hidV M4 h4 x1 M5 h5 x2 x) (colsC M6 h6 x3 o h) (colsD M7 h7 x4 o h) r ⟨128 + l.val, by omega⟩
  have e' : k0_pay6 (hidV M4 h4 x1 M5 h5 x2 x) (colsC M6 h6 x3 o h) (colsD M7 h7 x4 o h) (ix2 r l) = lin (hidV M4 h4 x1 M5 h5 x2 x) (colsC M6 h6 x3 o h) (colsD M7 h7 x4 o h) (ix2 r ⟨128 + l.val, by omega⟩) := by
    unfold lin k0_pay6
    generalize k0_pay4 (hidV M4 h4 x1 M5 h5 x2 x) (colsC M6 h6 x3 o h) (colsD M7 h7 x4 o h) = z
    pointwise
  rw [e', e]
  simp only [colsC_at, colsD_at, hidV_at]
  rfl
end
end Cert.Experts
end
-- ==== Proof.ExOut.lean ====
/-
  The block of the output a grid point leaves: both experts' outputs, row tile by row tile, or zeros.
-/
module

public import proofs.«01_k».proof.Proof.ExBody
public import proofs.«01_k».proof.Proof.ExFrame
public import Idealize.ShloMosaic.Lib.Writes

@[expose] public section
set_option maxRecDepth 16384
noncomputable section
namespace Cert.Experts
open Cert.Kernel3Ideal Cert.Kernel3Ideal.Gen Idealize.ShloMosaic Idealize.ShloMosaic.TcCoe Idealize.ShloMosaic.Tactic Idealize.ShloMosaic.Pointwise

/-- The output of one expert, as it lies in the block: the tiles of a row are eight rows of the block. -/
def halfOf (x0 : S8192x128.Idx → EReal) (x1 : S1x1024x2048.Idx → EReal) (x2 : S1x1x2048.Idx → EReal) (x3 : S1x1024x1024.Idx → EReal) (x4 : S1x1x1024.Idx → EReal)
    (y : S8192x128.Idx) : EReal :=
  expert (fun d => x0 (ix2 ⟨8 * ((y 0).val / 8) + d.val / 128, by have h : (y 0).val < 8192 := (y 0).isLt; omega⟩ ⟨d.val % 128, by omega⟩)) (fun d f => x1 (ix3 0 d f)) (fun f => x2 (ix3 0 0 f))
    (fun f n => x3 (ix3 0 f n)) (fun n => x4 (ix3 0 0 n)) ⟨128 * ((y 0).val % 8) + (y 1).val, by have h : (y 1).val < 128 := (y 1).isLt; omega⟩

/-- The first half of the block is the first expert's, the second the second's. -/
def pairOf (x0 : S8192x128.Idx → EReal) (x1 : S1x1024x2048.Idx → EReal) (x2 : S1x1x2048.Idx → EReal) (x3 : S1x1024x1024.Idx → EReal) (x4 : S1x1x1024.Idx → EReal)
    (x5 : S1x1024x2048.Idx → EReal) (x6 : S1x1x2048.Idx → EReal) (x7 : S1x1024x1024.Idx → EReal) (x8 : S1x1x1024.Idx → EReal) (y : S8192x128.Idx) : EReal :=
  if (y 0).val < 4096 then halfOf x0 x1 x2 x3 x4 y else halfOf x0 x5 x6 x7 x8 y

/-- A row of a half, at its place in the block. -/
theorem place (M3 : Memref sig .tc .vmem S8192x128 .f32) (h3 : M3.IsWhole) (x0 : Vec Ideal S8192x128 .f32) (x1 : S1x1024x2048.Idx → EReal) (x2 : S1x1x2048.Idx → EReal) (x3 : S1x1024x1024.Idx → EReal) (x4 : S1x1x1024.Idx → EReal)
    (o s : ℕ) (ho : o ≤ 4096) (h8 : o % 8 = 0) (hs : s < 8) (r : Fin 512) (n : Fin 1024) (y : S8192x128.Idx) (e0 : (y 0).val = o + s + 8 * r.val) (e1 : n.val = 128 * s + (y 1).val) :
    expert (fun d => xs M3 h3 x0 o ho (ix2 r d)) (fun d f => x1 (ix3 0 d f)) (fun f => x2 (ix3 0 0 f)) (fun f n => x3 (ix3 0 f n)) (fun n => x4 (ix3 0 0 n)) n = halfOf x0 x1 x2 x3 x4 y := by
  unfold halfOf
  have ex : (fun d => xs M3 h3 x0 o ho (ix2 r d)) = (fun d : Fin 1024 => x0 (ix2 ⟨8 * ((y 0).val / 8) + d.val / 128, by have h : (y 0).val < 8192 := (y 0).isLt; omega⟩ ⟨d.val % 128, by omega⟩)) :=
    funext fun d => (xs_at M3 h3 x0 o ho r d).trans (congrArg x0 (congrArg₂ ix2 (Fin.ext (by simp only []; omega)) rfl))
  rw [ex]
  exact congrArg _ (Fin.ext (by simp only []; omega))
theorem place0 (M3 : Memref sig .tc .vmem S8192x128 .f32) (h3 : M3.IsWhole) (x0 : Vec Ideal S8192x128 .f32) (x1 : S1x1024x2048.Idx → EReal) (x2 : S1x1x2048.Idx → EReal) (x3 : S1x1024x1024.Idx → EReal) (x4 : S1x1x1024.Idx → EReal)
    (x5 : S1x1024x2048.Idx → EReal) (x6 : S1x1x2048.Idx → EReal) (x7 : S1x1024x1024.Idx → EReal) (x8 : S1x1x1024.Idx → EReal)
    (s : ℕ) (hs : s < 8) (r : Fin 512) (n : Fin 1024) (y : S8192x128.Idx) (e0 : (y 0).val = s + 8 * r.val) (e1 : n.val = 128 * s + (y 1).val) :
    expert (fun d => xs M3 h3 x0 0 (by omega) (ix2 r d)) (fun d f => x1 (ix3 0 d f)) (fun f => x2 (ix3 0 0 f)) (fun f n => x3 (ix3 0 f n)) (fun n => x4 (ix3 0 0 n)) n = pairOf x0 x1 x2 x3 x4 x5 x6 x7 x8 y := by
  unfold pairOf
  rw [if_pos (by omega)]
  exact place M3 h3 x0 x1 x2 x3 x4 0 s (by omega) rfl hs r n y (by omega) e1
theorem place1 (M3 : Memref sig .tc .vmem S8192x128 .f32) (h3 : M3.IsWhole) (x0 : Vec Ideal S8192x128 .f32) (x1 : S1x1024x2048.Idx → EReal) (x2 : S1x1x2048.Idx → EReal) (x3 : S1x1024x1024.Idx → EReal) (x4 : S1x1x1024.Idx → EReal)
    (x5 : S1x1024x2048.Idx → EReal) (x6 : S1x1x2048.Idx → EReal) (x7 : S1x1024x1024.Idx → EReal) (x8 : S1x1x1024.Idx → EReal)
    (s : ℕ) (hs : s < 8) (r : Fin 512) (n : Fin 1024) (y : S8192x128.Idx) (e0 : (y 0).val = 4096 + s + 8 * r.val) (e1 : n.val = 128 * s + (y 1).val) :
    expert (fun d => xs M3 h3 x0 4096 (by omega) (ix2 r d)) (fun d f => x5 (ix3 0 d f)) (fun f => x6 (ix3 0 0 f)) (fun f n => x7 (ix3 0 f n)) (fun n => x8 (ix3 0 0 n)) n = pairOf x0 x1 x2 x3 x4 x5 x6 x7 x8 y := by
  unfold pairOf
  rw [if_neg (by omega)]
  exact place M3 h3 x0 x5 x6 x7 x8 4096 s (by omega) rfl hs r n y (by omega) e1

theorem at2 {a b : ℕ} (i : (⟨2, ![a, b]⟩ : Shape).Idx) : ∃ (p : Fin a) (q : Fin b), i = ix2 p q :=
  ⟨i 0, i 1, funext fun a => by fin_cases a <;> rfl⟩

/-- What is stored for a used pair. -/
def usedPieces (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (x0 : Vec Ideal S8192x128 .f32) (x1 : Vec Ideal S1x1024x2048 .bf16) (x2 : Vec Ideal S1x1x2048 .f32) (x3 : Vec Ideal S1x1024x1024 .bf16) (x4 : Vec Ideal S1x1x1024 .f32) (x5 : Vec Ideal S1x1024x2048 .bf16) (x6 : Vec Ideal S1x1x2048 .f32) (x7 : Vec Ideal S1x1024x1024 .bf16) (x8 : Vec Ideal S1x1x1024 .f32)
    : List (View.Piece (Elt Ideal) S8192x128 .f32) :=
  [⟨everyEighth 4103 inb_S8192x128_S512x128_4103_0_s_8_1, k0_pay6 (hidV arg8 harg8 x5 arg9 harg9 x6 (xs arg3 harg3 x0 4096 (by omega))) (colsC arg10 harg10 x7 768 (by omega)) (colsD arg11 harg11 x8 768 (by omega))⟩,
   ⟨everyEighth 4102 inb_S8192x128_S512x128_4102_0_s_8_1, k0_pay5 (hidV arg8 harg8 x5 arg9 harg9 x6 (xs arg3 harg3 x0 4096 (by omega))) (colsC arg10 harg10 x7 768 (by omega)) (colsD arg11 harg11 x8 768 (by omega))⟩,
   ⟨everyEighth 4101 inb_S8192x128_S512x128_4101_0_s_8_1, k0_pay6 (hidV arg8 harg8 x5 arg9 harg9 x6 (xs arg3 harg3 x0 4096 (by omega))) (colsC arg10 harg10 x7 512 (by omega)) (colsD arg11 harg11 x8 512 (by omega))⟩,
   ⟨everyEighth 4100 inb_S8192x128_S512x128_4100_0_s_8_1, k0_pay5 (hidV arg8 harg8 x5 arg9 harg9 x6 (xs arg3 harg3 x0 4096 (by omega))) (colsC arg10 harg10 x7 512 (by omega)) (colsD arg11 harg11 x8 512 (by omega))⟩,
   ⟨everyEighth 4099 inb_S8192x128_S512x128_4099_0_s_8_1, k0_pay6 (hidV arg8 harg8 x5 arg9 harg9 x6 (xs arg3 harg3 x0 4096 (by omega))) (colsC arg10 harg10 x7 256 (by omega)) (colsD arg11 harg11 x8 256 (by omega))⟩,
   ⟨everyEighth 4098 inb_S8192x128_S512x128_4098_0_s_8_1, k0_pay5 (hidV arg8 harg8 x5 arg9 harg9 x6 (xs arg3 harg3 x0 4096 (by omega))) (colsC arg10 harg10 x7 256 (by omega)) (colsD arg11 harg11 x8 256 (by omega))⟩,
   ⟨everyEighth 4097 inb_S8192x128_S512x128_4097_0_s_8_1, k0_pay6 (hidV arg8 harg8 x5 arg9 harg9 x6 (xs arg3 harg3 x0 4096 (by omega))) (colsC arg10 harg10 x7 0 (by omega)) (colsD arg11 harg11 x8 0 (by omega))⟩,
   ⟨everyEighth 4096 inb_S8192x128_S512x128_4096_0_s_8_1, k0_pay5 (hidV arg8 harg8 x5 arg9 harg9 x6 (xs arg3 harg3 x0 4096 (by omega))) (colsC arg10 harg10 x7 0 (by omega)) (colsD arg11 harg11 x8 0 (by omega))⟩,
   ⟨everyEighth 7 inb_S8192x128_S512x128_7_0_s_8_1, k0_pay6 (hidV arg4 harg4 x1 arg5 harg5 x2 (xs arg3 harg3 x0 0 (by omega))) (colsC arg6 harg6 x3 768 (by omega)) (colsD arg7 harg7 x4 768 (by omega))⟩,
   ⟨everyEighth 6 inb_S8192x128_S512x128_6_0_s_8_1, k0_pay5 (hidV arg4 harg4 x1 arg5 harg5 x2 (xs arg3 harg3 x0 0 (by omega))) (colsC arg6 harg6 x3 768 (by omega)) (colsD arg7 harg7 x4 768 (by omega))⟩,
   ⟨everyEighth 5 inb_S8192x128_S512x128_5_0_s_8_1, k0_pay6 (hidV arg4 harg4 x1 arg5 harg5 x2 (xs arg3 harg3 x0 0 (by omega))) (colsC arg6 harg6 x3 512 (by omega)) (colsD arg7 harg7 x4 512 (by omega))⟩,
   ⟨everyEighth 4 inb_S8192x128_S512x128_4_0_s_8_1, k0_pay5 (hidV arg4 harg4 x1 arg5 harg5 x2 (xs arg3 harg3 x0 0 (by omega))) (colsC arg6 harg6 x3 512 (by omega)) (colsD arg7 harg7 x4 512 (by omega))⟩,
   ⟨everyEighth 3 inb_S8192x128_S512x128_3_0_s_8_1, k0_pay6 (hidV arg4 harg4 x1 arg5 harg5 x2 (xs arg3 harg3 x0 0 (by omega))) (colsC arg6 harg6 x3 256 (by omega)) (colsD arg7 harg7 x4 256 (by omega))⟩,
   ⟨everyEighth 2 inb_S8192x128_S512x128_2_0_s_8_1, k0_pay5 (hidV arg4 harg4 x1 arg5 harg5 x2 (xs arg3 harg3 x0 0 (by omega))) (colsC arg6 harg6 x3 256 (by omega)) (colsD arg7 harg7 x4 256 (by omega))⟩,
   ⟨everyEighth 1 inb_S8192x128_S512x128_1_0_s_8_1, k0_pay6 (hidV arg4 harg4 x1 arg5 harg5 x2 (xs arg3 harg3 x0 0 (by omega))) (colsC arg6 harg6 x3 0 (by omega)) (colsD arg7 harg7 x4 0 (by omega))⟩,
   ⟨everyEighth 0 inb_S8192x128_S512x128_0_0_s_8_1, k0_pay5 (hidV arg4 harg4 x1 arg5 harg5 x2 (xs arg3 harg3 x0 0 (by omega))) (colsC arg6 harg6 x3 0 (by omega)) (colsD arg7 harg7 x4 0 (by omega))⟩]
theorem used_eq (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec Ideal S8192x128 .f32) (x1 : Vec Ideal S1x1024x2048 .bf16) (x2 : Vec Ideal S1x1x2048 .f32) (x3 : Vec Ideal S1x1024x1024 .bf16) (x4 : Vec Ideal S1x1x1024 .f32) (x5 : Vec Ideal S1x1024x2048 .bf16) (x6 : Vec Ideal S1x1x2048 .f32) (x7 : Vec Ideal S1x1024x1024 .bf16) (x8 : Vec Ideal S1x1x1024 .f32)
    (xt0 : TabBuf (F := Ideal) c tE) (xt1 : TabBuf (F := Ideal) c tU)
    (h0 : isUsed i (usedOf xt1)) (h1 : ¬ isPast i (usedOf xt1)) :
    (exUsed c i arg3 harg3 arg4 harg4 arg5 harg5 arg6 harg6 arg7 harg7 arg8 harg8 arg9 harg9 arg10 harg10 arg11 harg11 arg12 harg12 x0 x1 x2 x3 x4 x5 x6 x7 x8 xt0 xt1 h0 h1).1 = usedPieces arg3 harg3 arg4 harg4 arg5 harg5 arg6 harg6 arg7 harg7 arg8 harg8 arg9 harg9 arg10 harg10 arg11 harg11 x0 x1 x2 x3 x4 x5 x6 x7 x8 := by sl_kernel_rfl

/-- Piece by piece. -/
theorem used_at (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (x0 : Vec Ideal S8192x128 .f32) (x1 : Vec Ideal S1x1024x2048 .bf16) (x2 : Vec Ideal S1x1x2048 .f32) (x3 : Vec Ideal S1x1024x1024 .bf16) (x4 : Vec Ideal S1x1x1024 .f32) (x5 : Vec Ideal S1x1024x2048 .bf16) (x6 : Vec Ideal S1x1x2048 .f32) (x7 : Vec Ideal S1x1024x1024 .bf16) (x8 : Vec Ideal S1x1x1024 .f32)

    (p : View.Piece (Elt Ideal) S8192x128 .f32) (hp : p ∈ usedPieces arg3 harg3 arg4 harg4 arg5 harg5 arg6 harg6 arg7 harg7 arg8 harg8 arg9 harg9 arg10 harg10 arg11 harg11 x0 x1 x2 x3 x4 x5 x6 x7 x8) (z : p.1.shape.Idx) :
    p.2 z = pairOf x0 x1 x2 x3 x4 x5 x6 x7 x8 (p.1.emb z) := by
  unfold usedPieces at hp
  rcases List.mem_cons.mp hp with rfl | hp
  · obtain ⟨r, l, rfl⟩ := at2 (a := 512) (b := 128) z
    refine Eq.trans (high_at arg8 harg8 x5 arg9 harg9 x6 arg10 harg10 x7 arg11 harg11 x8 (xs arg3 harg3 x0 4096 (by omega)) 768 (by omega) r l) (place1 arg3 harg3 x0 x1 x2 x3 x4 x5 x6 x7 x8 7 (by omega) r _ _ rfl ?_)
    show 768 + (128 + l.val) = 128 * 7 + (0 + 1 * l.val)
    omega
  rcases List.mem_cons.mp hp with rfl | hp
  · obtain ⟨r, l, rfl⟩ := at2 (a := 512) (b := 128) z
    refine Eq.trans (low_at arg8 harg8 x5 arg9 harg9 x6 arg10 harg10 x7 arg11 harg11 x8 (xs arg3 harg3 x0 4096 (by omega)) 768 (by omega) r l) (place1 arg3 harg3 x0 x1 x2 x3 x4 x5 x6 x7 x8 6 (by omega) r _ _ rfl ?_)
    show 768 + l.val = 128 * 6 + (0 + 1 * l.val)
    omega
  rcases List.mem_cons.mp hp with rfl | hp
  · obtain ⟨r, l, rfl⟩ := at2 (a := 512) (b := 128) z
    refine Eq.trans (high_at arg8 harg8 x5 arg9 harg9 x6 arg10 harg10 x7 arg11 harg11 x8 (xs arg3 harg3 x0 4096 (by omega)) 512 (by omega) r l) (place1 arg3 harg3 x0 x1 x2 x3 x4 x5 x6 x7 x8 5 (by omega) r _ _ rfl ?_)
    show 512 + (128 + l.val) = 128 * 5 + (0 + 1 * l.val)
    omega
  rcases List.mem_cons.mp hp with rfl | hp
  · obtain ⟨r, l, rfl⟩ := at2 (a := 512) (b := 128) z
    refine Eq.trans (low_at arg8 harg8 x5 arg9 harg9 x6 arg10 harg10 x7 arg11 harg11 x8 (xs arg3 harg3 x0 4096 (by omega)) 512 (by omega) r l) (place1 arg3 harg3 x0 x1 x2 x3 x4 x5 x6 x7 x8 4 (by omega) r _ _ rfl ?_)
    show 512 + l.val = 128 * 4 + (0 + 1 * l.val)
    omega
  rcases List.mem_cons.mp hp with rfl | hp
  · obtain ⟨r, l, rfl⟩ := at2 (a := 512) (b := 128) z
    refine Eq.trans (high_at arg8 harg8 x5 arg9 harg9 x6 arg10 harg10 x7 arg11 harg11 x8 (xs arg3 harg3 x0 4096 (by omega)) 256 (by omega) r l) (place1 arg3 harg3 x0 x1 x2 x3 x4 x5 x6 x7 x8 3 (by omega) r _ _ rfl ?_)
    show 256 + (128 + l.val) = 128 * 3 + (0 + 1 * l.val)
    omega
  rcases List.mem_cons.mp hp with rfl | hp
  · obtain ⟨r, l, rfl⟩ := at2 (a := 512) (b := 128) z
    refine Eq.trans (low_at arg8 harg8 x5 arg9 harg9 x6 arg10 harg10 x7 arg11 harg11 x8 (xs arg3 harg3 x0 4096 (by omega)) 256 (by omega) r l) (place1 arg3 harg3 x0 x1 x2 x3 x4 x5 x6 x7 x8 2 (by omega) r _ _ rfl ?_)
    show 256 + l.val = 128 * 2 + (0 + 1 * l.val)
    omega
  rcases List.mem_cons.mp hp with rfl | hp
  · obtain ⟨r, l, rfl⟩ := at2 (a := 512) (b := 128) z
    refine Eq.trans (high_at arg8 harg8 x5 arg9 harg9 x6 arg10 harg10 x7 arg11 harg11 x8 (xs arg3 harg3 x0 4096 (by omega)) 0 (by omega) r l) (place1 arg3 harg3 x0 x1 x2 x3 x4 x5 x6 x7 x8 1 (by omega) r _ _ rfl ?_)
    show 0 + (128 + l.val) = 128 * 1 + (0 + 1 * l.val)
    omega
  rcases List.mem_cons.mp hp with rfl | hp
  · obtain ⟨r, l, rfl⟩ := at2 (a := 512) (b := 128) z
    refine Eq.trans (low_at arg8 harg8 x5 arg9 harg9 x6 arg10 harg10 x7 arg11 harg11 x8 (xs arg3 harg3 x0 4096 (by omega)) 0 (by omega) r l) (place1 arg3 harg3 x0 x1 x2 x3 x4 x5 x6 x7 x8 0 (by omega) r _ _ rfl ?_)
    show 0 + l.val = 128 * 0 + (0 + 1 * l.val)
    omega
  rcases List.mem_cons.mp hp with rfl | hp
  · obtain ⟨r, l, rfl⟩ := at2 (a := 512) (b := 128) z
    refine Eq.trans (high_at arg4 harg4 x1 arg5 harg5 x2 arg6 harg6 x3 arg7 harg7 x4 (xs arg3 harg3 x0 0 (by omega)) 768 (by omega) r l) (place0 arg3 harg3 x0 x1 x2 x3 x4 x5 x6 x7 x8 7 (by omega) r _ _ rfl ?_)
    show 768 + (128 + l.val) = 128 * 7 + (0 + 1 * l.val)
    omega
  rcases List.mem_cons.mp hp with rfl | hp
  · obtain ⟨r, l, rfl⟩ := at2 (a := 512) (b := 128) z
    refine Eq.trans (low_at arg4 harg4 x1 arg5 harg5 x2 arg6 harg6 x3 arg7 harg7 x4 (xs arg3 harg3 x0 0 (by omega)) 768 (by omega) r l) (place0 arg3 harg3 x0 x1 x2 x3 x4 x5 x6 x7 x8 6 (by omega) r _ _ rfl ?_)
    show 768 + l.val = 128 * 6 + (0 + 1 * l.val)
    omega
  rcases List.mem_cons.mp hp with rfl | hp
  · obtain ⟨r, l, rfl⟩ := at2 (a := 512) (b := 128) z
    refine Eq.trans (high_at arg4 harg4 x1 arg5 harg5 x2 arg6 harg6 x3 arg7 harg7 x4 (xs arg3 harg3 x0 0 (by omega)) 512 (by omega) r l) (place0 arg3 harg3 x0 x1 x2 x3 x4 x5 x6 x7 x8 5 (by omega) r _ _ rfl ?_)
    show 512 + (128 + l.val) = 128 * 5 + (0 + 1 * l.val)
    omega
  rcases List.mem_cons.mp hp with rfl | hp
  · obtain ⟨r, l, rfl⟩ := at2 (a := 512) (b := 128) z
    refine Eq.trans (low_at arg4 harg4 x1 arg5 harg5 x2 arg6 harg6 x3 arg7 harg7 x4 (xs arg3 harg3 x0 0 (by omega)) 512 (by omega) r l) (place0 arg3 harg3 x0 x1 x2 x3 x4 x5 x6 x7 x8 4 (by omega) r _ _ rfl ?_)
    show 512 + l.val = 128 * 4 + (0 + 1 * l.val)
    omega
  rcases List.mem_cons.mp hp with rfl | hp
  · obtain ⟨r, l, rfl⟩ := at2 (a := 512) (b := 128) z
    refine Eq.trans (high_at arg4 harg4 x1 arg5 harg5 x2 arg6 harg6 x3 arg7 harg7 x4 (xs arg3 harg3 x0 0 (by omega)) 256 (by omega) r l) (place0 arg3 harg3 x0 x1 x2 x3 x4 x5 x6 x7 x8 3 (by omega) r _ _ rfl ?_)
    show 256 + (128 + l.val) = 128 * 3 + (0 + 1 * l.val)
    omega
  rcases List.mem_cons.mp hp with rfl | hp
  · obtain ⟨r, l, rfl⟩ := at2 (a := 512) (b := 128) z
    refine Eq.trans (low_at arg4 harg4 x1 arg5 harg5 x2 arg6 harg6 x3 arg7 harg7 x4 (xs arg3 harg3 x0 0 (by omega)) 256 (by omega) r l) (place0 arg3 harg3 x0 x1 x2 x3 x4 x5 x6 x7 x8 2 (by omega) r _ _ rfl ?_)
    show 256 + l.val = 128 * 2 + (0 + 1 * l.val)
    omega
  rcases List.mem_cons.mp hp with rfl | hp
  · obtain ⟨r, l, rfl⟩ := at2 (a := 512) (b := 128) z
    refine Eq.trans (high_at arg4 harg4 x1 arg5 harg5 x2 arg6 harg6 x3 arg7 harg7 x4 (xs arg3 harg3 x0 0 (by omega)) 0 (by omega) r l) (place0 arg3 harg3 x0 x1 x2 x3 x4 x5 x6 x7 x8 1 (by omega) r _ _ rfl ?_)
    show 0 + (128 + l.val) = 128 * 1 + (0 + 1 * l.val)
    omega
  rcases List.mem_cons.mp hp with rfl | hp
  · obtain ⟨r, l, rfl⟩ := at2 (a := 512) (b := 128) z
    refine Eq.trans (low_at arg4 harg4 x1 arg5 harg5 x2 arg6 harg6 x3 arg7 harg7 x4 (xs arg3 harg3 x0 0 (by omega)) 0 (by omega) r l) (place0 arg3 harg3 x0 x1 x2 x3 x4 x5 x6 x7 x8 0 (by omega) r _ _ rfl ?_)
    show 0 + l.val = 128 * 0 + (0 + 1 * l.val)
    omega
  nomatch hp

/-- A used pair leaves the two experts' outputs. -/
theorem pieces_used (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec Ideal S8192x128 .f32) (x1 : Vec Ideal S1x1024x2048 .bf16) (x2 : Vec Ideal S1x1x2048 .f32) (x3 : Vec Ideal S1x1024x1024 .bf16) (x4 : Vec Ideal S1x1x1024 .f32) (x5 : Vec Ideal S1x1024x2048 .bf16) (x6 : Vec Ideal S1x1x2048 .f32) (x7 : Vec Ideal S1x1024x1024 .bf16) (x8 : Vec Ideal S1x1x1024 .f32)
    (xt0 : TabBuf (F := Ideal) c tE) (xt1 : TabBuf (F := Ideal) c tU)
    (h0 : isUsed i (usedOf xt1)) (y : S8192x128.Idx) :
    outV.read (Elt Ideal) (outV.writes (Elt Ideal) outV.junk (exPieces c i arg3 harg3 arg4 harg4 arg5 harg5 arg6 harg6 arg7 harg7 arg8 harg8 arg9 harg9 arg10 harg10 arg11 harg11 arg12 harg12 x0 x1 x2 x3 x4 x5 x6 x7 x8 xt0 xt1).1) y = pairOf x0 x1 x2 x3 x4 x5 x6 x7 x8 y := by
  refine View.read_writes_apply_of_pieces _ _ (pairOf x0 x1 x2 x3 x4 x5 x6 x7 x8) _ (fun p hp z => ?_) y ((exPieces c i arg3 harg3 arg4 harg4 arg5 harg5 arg6 harg6 arg7 harg7 arg8 harg8 arg9 harg9 arg10 harg10 arg11 harg11 arg12 harg12 x0 x1 x2 x3 x4 x5 x6 x7 x8 xt0 xt1).2.2 y)
  unfold exPieces at hp
  rw [dif_pos h0] at hp
  simp only [] at hp
  rw [used_eq] at hp
  exact used_at arg3 harg3 arg4 harg4 arg5 harg5 arg6 harg6 arg7 harg7 arg8 harg8 arg9 harg9 arg10 harg10 arg11 harg11 x0 x1 x2 x3 x4 x5 x6 x7 x8 p hp z

/-- Any other leaves zeros. -/
theorem pieces_past (c : Dev nD) (i : grid0.Coords)
    (arg3 : Memref sig .tc .vmem S8192x128 .f32) (harg3 : arg3.IsWhole)
    (arg4 : Memref sig .tc .vmem S1x1024x2048 .bf16) (harg4 : arg4.IsWhole)
    (arg5 : Memref sig .tc .vmem S1x1x2048 .f32) (harg5 : arg5.IsWhole)
    (arg6 : Memref sig .tc .vmem S1x1024x1024 .bf16) (harg6 : arg6.IsWhole)
    (arg7 : Memref sig .tc .vmem S1x1x1024 .f32) (harg7 : arg7.IsWhole)
    (arg8 : Memref sig .tc .vmem S1x1024x2048 .bf16) (harg8 : arg8.IsWhole)
    (arg9 : Memref sig .tc .vmem S1x1x2048 .f32) (harg9 : arg9.IsWhole)
    (arg10 : Memref sig .tc .vmem S1x1024x1024 .bf16) (harg10 : arg10.IsWhole)
    (arg11 : Memref sig .tc .vmem S1x1x1024 .f32) (harg11 : arg11.IsWhole)
    (arg12 : Memref sig .tc .vmem S8192x128 .f32) (harg12 : arg12.IsWhole)
    (x0 : Vec Ideal S8192x128 .f32) (x1 : Vec Ideal S1x1024x2048 .bf16) (x2 : Vec Ideal S1x1x2048 .f32) (x3 : Vec Ideal S1x1024x1024 .bf16) (x4 : Vec Ideal S1x1x1024 .f32) (x5 : Vec Ideal S1x1024x2048 .bf16) (x6 : Vec Ideal S1x1x2048 .f32) (x7 : Vec Ideal S1x1024x1024 .bf16) (x8 : Vec Ideal S1x1x1024 .f32)
    (xt0 : TabBuf (F := Ideal) c tE) (xt1 : TabBuf (F := Ideal) c tU)
    (h0 : ¬ isUsed i (usedOf xt1)) (y : S8192x128.Idx) :
    outV.read (Elt Ideal) (outV.writes (Elt Ideal) outV.junk (exPieces c i arg3 harg3 arg4 harg4 arg5 harg5 arg6 harg6 arg7 harg7 arg8 harg8 arg9 harg9 arg10 harg10 arg11 harg11 arg12 harg12 x0 x1 x2 x3 x4 x5 x6 x7 x8 xt0 xt1).1) y = Ideal.ofBits .f32 0x00000000#32 := by
  refine View.read_writes_apply_of_pieces _ _ (fun _ => Ideal.ofBits .f32 0x00000000#32) _ (fun p hp z => ?_) y ((exPieces c i arg3 harg3 arg4 harg4 arg5 harg5 arg6 harg6 arg7 harg7 arg8 harg8 arg9 harg9 arg10 harg10 arg11 harg11 arg12 harg12 x0 x1 x2 x3 x4 x5 x6 x7 x8 xt0 xt1).2.2 y)
  unfold exPieces at hp
  rw [dif_neg h0] at hp
  simp only [] at hp
  unfold exPast at hp
  rcases List.mem_cons.mp hp with rfl | hp
  · rfl
  · nomatch hp
end Cert.Experts
end
-- ==== Proof.ExBlocks.lean ====
/- The blocks of the experts' call: where each window's block lies, and what it holds. -/
module

public import proofs.«01_k».proof.Proof.ExOut
public import proofs.«01_k».proof.Proof.ExOk

@[expose] public section
noncomputable section
namespace Cert.Experts
open Idealize.ShloMosaic.Pointwise Cert.Kernel3Ideal Cert.Kernel3Ideal.Gen Idealize.ShloMosaic Idealize.ShloMosaic.TcCoe Idealize.ShloMosaic.Tactic Idealize.SL.Sem

/-- What the host hands the call: the rows as tiles, the weights as they are, the biases with an axis more. -/
def hRows (x : FVec Ideal S544x512x1024 .f32) : FVec Ideal S2228224x128 .f32 := shapeCast S2228224x128 x shapeCasts_S544x512x1024_S2228224x128
def hUp (w : FVec Ideal S32x1024x2048 .f32) : FVec Ideal S32x1024x2048 .bf16 := truncf .bf16 w bitsLt_bf16_f32
def hDown (w : FVec Ideal S32x1024x1024 .f32) : FVec Ideal S32x1024x1024 .bf16 := truncf .bf16 w bitsLt_bf16_f32
def hBu (b : FVec Ideal S32x2048 .f32) : FVec Ideal S32x1x2048 .f32 := shapeCast S32x1x2048 b shapeCasts_S32x2048_S32x1x2048
def hBd (b : FVec Ideal S32x1024 .f32) : FVec Ideal S32x1x1024 .f32 := shapeCast S32x1x1024 b shapeCasts_S32x1024_S32x1x1024

/-- The block, the row in it and the column of an element of the tiled rows. -/
def bOf (R : Fin 2228224) : Fin 544 := ⟨R.val / 4096, by omega⟩
def rOf (R : Fin 2228224) : Fin 512 := ⟨R.val % 4096 / 8, by omega⟩
def nOf (R : Fin 2228224) (l : Fin 128) : Fin 1024 := ⟨128 * (R.val % 8) + l.val, by omega⟩

theorem hRows_at (x : FVec Ideal S544x512x1024 .f32) (R : Fin 2228224) (l : Fin 128) : hRows x (ix2 R l) = x (ix3 (bOf R) (rOf R) (nOf R l)) := by
  pointwise [hRows, bOf, rOf, nOf]
  exact congrArg x (congrArg₂ (ix3 _) (Fin.ext (by show R.val / 8 % 512 = R.val % 4096 / 8; omega)) (Fin.ext (by show R.val % 8 * 128 + l.val = 128 * (R.val % 8) + l.val; omega)))
theorem hUp_at (w : FVec Ideal S32x1024x2048 .f32) (y) : hUp w y = w y := rfl
theorem hDown_at (w : FVec Ideal S32x1024x1024 .f32) (y) : hDown w y = w y := rfl
theorem hBu_at (b : FVec Ideal S32x2048 .f32) (e : Fin 32) (k : Fin 2048) : hBu b (ix3 e 0 k) = b (ix2 e k) := by pointwise [hBu]
theorem hBd_at (b : FVec Ideal S32x1024 .f32) (e : Fin 32) (k : Fin 1024) : hBd b (ix3 e 0 k) = b (ix2 e k) := by pointwise [hBd]

section
variable (m : (ℓ : Loc nD τ sig) → Buf (Elt Ideal) ℓ) (c : Dev nD)
theorem V_hRows : V m c main_v0 = hRows (m ((c : Thread nD τ).loc main_arg2)) := by
  show StableHlo.after hostOps0 _ (Proc.devRef .tc main_v0) = _
  after_results
  rfl
theorem V_hUp : V m c main_v1 = hUp (m ((c : Thread nD τ).loc main_arg3)) := by
  show StableHlo.after hostOps0 _ (Proc.devRef .tc main_v1) = _
  after_results
  rfl
theorem V_hDown : V m c main_v2 = hDown (m ((c : Thread nD τ).loc main_arg5)) := by
  show StableHlo.after hostOps0 _ (Proc.devRef .tc main_v2) = _
  after_results
  rfl
theorem V_hBu : V m c main_v3 = hBu (m ((c : Thread nD τ).loc main_arg4)) := by
  show StableHlo.after hostOps0 _ (Proc.devRef .tc main_v3) = _
  after_results
  rfl
theorem V_hBd : V m c main_v4 = hBd (m ((c : Thread nD τ).loc main_arg6)) := by
  show StableHlo.after hostOps0 _ (Proc.devRef .tc main_v4) = _
  after_results
  rfl
end

section
variable (m : (ℓ : Loc nD τ sig) → Buf (Elt Ideal) ℓ)

theorem N272 (hO : Ok m) : (cfgM m hO).N = 272 := N_0

/-- Point `t` is the pair `t` of blocks. -/
theorem co (t : Fin grid0.N) : (grid0.coords t 0).val = t.val := by
  have h : t.val < 272 := lt_of_lt_of_eq t.isLt N_0
  exact (Pipeline.Grid.coords_val (G := grid0) (S := 1) (B := 272) t 0 rfl rfl).trans (by rw [Nat.div_one, Nat.mod_eq_of_lt h])
theorem wordt (n : ℕ) (h : n < 4096) : (BitVec.ofNat 32 n).toNat = n := by rw [BitVec.toNat_ofNat]; omega
theorem cot (t : Fin grid0.N) : (BitVec.ofNat 32 (grid0.coords t 0).val).toNat = t.val := by
  have h : t.val < 272 := lt_of_lt_of_eq t.isLt N_0
  rw [co, wordt _ (by omega)]

/-- The place in the table of a block of a pair. -/
def pl (t : Fin grid0.N) (j : Fin 2) : Fin 544 := ⟨2 * t.val + j.val, by have h : t.val < 272 := lt_of_lt_of_eq t.isLt N_0; omega⟩
theorem off_at (t : Fin grid0.N) (j : Fin 2) : k0_off1 (grid0.coords t) (BitVec.ofNat 32 j.val) 0 = 2 * t.val + j.val := by
  have h : t.val < 272 := lt_of_lt_of_eq t.isLt N_0
  show (BitVec.setWidth 64 (BitVec.ofNat 32 (grid0.coords t 0).val * 2#32 + BitVec.ofNat 32 j.val)).toNat = _
  rw [BitVec.toNat_setWidth, BitVec.toNat_add, BitVec.toNat_mul, cot, wordt j.val (by omega), wordt 2 (by omega)]
  omega

/-- The expert of a block of a pair. -/
def ex (t : Fin grid0.N) (j : Fin 2) : Fin 32 := ⟨BitVec.toNat (w := 32) (tbl m 0 (ix1 (pl t j))) % 32, Nat.mod_lt _ (by decide)⟩
theorem entry (hr : ∀ x : S544.Idx, BitVec.toNat (w := 32) (tbl m 0 x) < 32) (t : Fin grid0.N) (j : Fin 2) :
    BitVec.toNat (w := 32) ((tbl m).at 0 (Rect.unit (s := S544) (k0_off1 (grid0.coords t) (BitVec.ofNat 32 j.val)) S1.size (k0_off1_inb (grid0.coords t) j)) numel1_S1) = (ex m t j).val := by
  refine Eq.trans ?_ (Nat.mod_eq_of_lt (hr _)).symm
  refine congrArg (fun z => BitVec.toNat (w := 32) (tbl m 0 z)) (funext fun a => Fin.ext ?_)
  fin_cases a
  exact (Nat.add_zero _).trans (off_at t j)

variable (c : Dev nD) (hO : Ok m)

/-- The row of the tiled rows of an element of a pair's block. -/
def tR (t : Fin grid0.N) (r : Fin 8192) : Fin 2228224 := ⟨8192 * t.val + r.val, by have h : t.val < 272 := lt_of_lt_of_eq t.isLt N_0; omega⟩
theorem eb0 (t : Fin (cfgM m hO).N) (y : S8192x128.Idx) : (((cfgM m hO).win 0).blk t).view.emb y = (ix2 (tR t (y 0)) (y 1) : S2228224x128.Idx) := by
  refine funext fun a => Fin.ext ?_
  fin_cases a
  · show (BitVec.ofNat 32 (grid0.coords t 0).val).toNat * 8192 + 1 * (y 0).val = 8192 * t.val + (y 0).val
    rw [cot]; omega
  · show (0#32 : BitVec 32).toNat * 128 + 1 * (y 1).val = (y 1).val
    rw [wordt 0 (by omega)]; omega
theorem eb9 (t : Fin (cfgM m hO).N) (y : S8192x128.Idx) : (((cfgM m hO).win 9).blk t).view.emb y = (ix2 (tR t (y 0)) (y 1) : S2228224x128.Idx) := by
  refine funext fun a => Fin.ext ?_
  fin_cases a
  · show (BitVec.ofNat 32 (grid0.coords t 0).val).toNat * 8192 + 1 * (y 0).val = 8192 * t.val + (y 0).val
    rw [cot]; omega
  · show (0#32 : BitVec 32).toNat * 128 + 1 * (y 1).val = (y 1).val
    rw [wordt 0 (by omega)]; omega
theorem rb0 (f : (b : Ref sig .tc) → Buf (Elt Ideal) ((c : Thread nD τ).loc b)) (t : Fin (cfgM m hO).N) (y : S8192x128.Idx) :
    (((cfgM m hO).win 0).blk t).view.read (Elt Ideal) (f (Pipeline.arrRef spec0 0)) y = f main_v0 (ix2 (tR t (y 0)) (y 1)) := by
  have h : (((cfgM m hO).win 0).blk t).view.read (Elt Ideal) (f (Pipeline.arrRef spec0 0)) y = f main_v0 ((((cfgM m hO).win 0).blk t).view.emb y) := rfl
  exact h.trans (congrArg _ (eb0 m hO  t y))
theorem ib0 (t : Fin (cfgM m hO).N) (y : S8192x128.Idx) : iblk m hO c 0 t y = hRows (m ((c : Thread nD τ).loc main_arg2)) (ix2 (tR t (y 0)) (y 1)) :=
  (rb0 m c hO (V m c) t y).trans (congrFun (V_hRows m c) _)
theorem wr9 (G : Buf (Elt Ideal) ((c : Thread nD τ).loc main_v5)) (t : Fin (cfgM m hO).N) (y : S8192x128.Idx) :
    (((cfgM m hO).win 9).blk t).view.read (Elt Ideal) G y = (G : S2228224x128.Idx → EReal) (ix2 (tR t (y 0)) (y 1)) := congrArg G (eb9 m hO t y)

variable (hr : ∀ x : S544.Idx, BitVec.toNat (w := 32) (tbl m 0 x) < 32)
include hr
theorem eb1 (t : Fin (cfgM m hO).N) (y : S1x1024x2048.Idx) : (((cfgM m hO).win 1).blk t).view.emb y = (ix3 (ex m t 0) (y 1) (y 2) : S32x1024x2048.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (0 : Fin 2).val)) S1.size (k0_off1_inb (grid0.coords t) 0)) numel1_S1) * 1 + 1 * (y 0).val = (ex m t 0).val
    rw [entry m hr t 0]; omega
  · show (0#32 : BitVec 32).toNat * 1024 + 1 * (y 1).val = (y 1).val
    rw [wordt 0 (by omega)]; omega
  · show (0#32 : BitVec 32).toNat * 2048 + 1 * (y 2).val = (y 2).val
    rw [wordt 0 (by omega)]; omega
theorem rb1 (f : (b : Ref sig .tc) → Buf (Elt Ideal) ((c : Thread nD τ).loc b)) (t : Fin (cfgM m hO).N) (y : S1x1024x2048.Idx) :
    (((cfgM m hO).win 1).blk t).view.read (Elt Ideal) (f (Pipeline.arrRef spec0 1)) y = f main_v1 (ix3 (ex m t 0) (y 1) (y 2)) := by
  have h : (((cfgM m hO).win 1).blk t).view.read (Elt Ideal) (f (Pipeline.arrRef spec0 1)) y = f main_v1 ((((cfgM m hO).win 1).blk t).view.emb y) := rfl
  exact h.trans (congrArg _ (eb1 m hO hr t y))
theorem ib1 (t : Fin (cfgM m hO).N) (y : S1x1024x2048.Idx) : iblk m hO c 1 t y = hUp (m ((c : Thread nD τ).loc main_arg3)) (ix3 (ex m t 0) (y 1) (y 2)) :=
  (rb1 m c hO hr (V m c) t y).trans (congrFun (V_hUp m c) _)
theorem eb2 (t : Fin (cfgM m hO).N) (y : S1x1x2048.Idx) : (((cfgM m hO).win 2).blk t).view.emb y = (ix3 (ex m t 0) (y 1) (y 2) : S32x1x2048.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (0 : Fin 2).val)) S1.size (k0_off1_inb (grid0.coords t) 0)) numel1_S1) * 1 + 1 * (y 0).val = (ex m t 0).val
    rw [entry m hr t 0]; omega
  · show (0#32 : BitVec 32).toNat * 1 + 1 * (y 1).val = (y 1).val
    rw [wordt 0 (by omega)]; omega
  · show (0#32 : BitVec 32).toNat * 2048 + 1 * (y 2).val = (y 2).val
    rw [wordt 0 (by omega)]; omega
theorem rb2 (f : (b : Ref sig .tc) → Buf (Elt Ideal) ((c : Thread nD τ).loc b)) (t : Fin (cfgM m hO).N) (y : S1x1x2048.Idx) :
    (((cfgM m hO).win 2).blk t).view.read (Elt Ideal) (f (Pipeline.arrRef spec0 2)) y = f main_v3 (ix3 (ex m t 0) (y 1) (y 2)) := by
  have h : (((cfgM m hO).win 2).blk t).view.read (Elt Ideal) (f (Pipeline.arrRef spec0 2)) y = f main_v3 ((((cfgM m hO).win 2).blk t).view.emb y) := rfl
  exact h.trans (congrArg _ (eb2 m hO hr t y))
theorem ib2 (t : Fin (cfgM m hO).N) (y : S1x1x2048.Idx) : iblk m hO c 2 t y = hBu (m ((c : Thread nD τ).loc main_arg4)) (ix3 (ex m t 0) (y 1) (y 2)) :=
  (rb2 m c hO hr (V m c) t y).trans (congrFun (V_hBu m c) _)
theorem eb3 (t : Fin (cfgM m hO).N) (y : S1x1024x1024.Idx) : (((cfgM m hO).win 3).blk t).view.emb y = (ix3 (ex m t 0) (y 1) (y 2) : S32x1024x1024.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (0 : Fin 2).val)) S1.size (k0_off1_inb (grid0.coords t) 0)) numel1_S1) * 1 + 1 * (y 0).val = (ex m t 0).val
    rw [entry m hr t 0]; omega
  · show (0#32 : BitVec 32).toNat * 1024 + 1 * (y 1).val = (y 1).val
    rw [wordt 0 (by omega)]; omega
  · show (0#32 : BitVec 32).toNat * 1024 + 1 * (y 2).val = (y 2).val
    rw [wordt 0 (by omega)]; omega
theorem rb3 (f : (b : Ref sig .tc) → Buf (Elt Ideal) ((c : Thread nD τ).loc b)) (t : Fin (cfgM m hO).N) (y : S1x1024x1024.Idx) :
    (((cfgM m hO).win 3).blk t).view.read (Elt Ideal) (f (Pipeline.arrRef spec0 3)) y = f main_v2 (ix3 (ex m t 0) (y 1) (y 2)) := by
  have h : (((cfgM m hO).win 3).blk t).view.read (Elt Ideal) (f (Pipeline.arrRef spec0 3)) y = f main_v2 ((((cfgM m hO).win 3).blk t).view.emb y) := rfl
  exact h.trans (congrArg _ (eb3 m hO hr t y))
theorem ib3 (t : Fin (cfgM m hO).N) (y : S1x1024x1024.Idx) : iblk m hO c 3 t y = hDown (m ((c : Thread nD τ).loc main_arg5)) (ix3 (ex m t 0) (y 1) (y 2)) :=
  (rb3 m c hO hr (V m c) t y).trans (congrFun (V_hDown m c) _)
theorem eb4 (t : Fin (cfgM m hO).N) (y : S1x1x1024.Idx) : (((cfgM m hO).win 4).blk t).view.emb y = (ix3 (ex m t 0) (y 1) (y 2) : S32x1x1024.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (0 : Fin 2).val)) S1.size (k0_off1_inb (grid0.coords t) 0)) numel1_S1) * 1 + 1 * (y 0).val = (ex m t 0).val
    rw [entry m hr t 0]; omega
  · show (0#32 : BitVec 32).toNat * 1 + 1 * (y 1).val = (y 1).val
    rw [wordt 0 (by omega)]; omega
  · show (0#32 : BitVec 32).toNat * 1024 + 1 * (y 2).val = (y 2).val
    rw [wordt 0 (by omega)]; omega
theorem rb4 (f : (b : Ref sig .tc) → Buf (Elt Ideal) ((c : Thread nD τ).loc b)) (t : Fin (cfgM m hO).N) (y : S1x1x1024.Idx) :
    (((cfgM m hO).win 4).blk t).view.read (Elt Ideal) (f (Pipeline.arrRef spec0 4)) y = f main_v4 (ix3 (ex m t 0) (y 1) (y 2)) := by
  have h : (((cfgM m hO).win 4).blk t).view.read (Elt Ideal) (f (Pipeline.arrRef spec0 4)) y = f main_v4 ((((cfgM m hO).win 4).blk t).view.emb y) := rfl
  exact h.trans (congrArg _ (eb4 m hO hr t y))
theorem ib4 (t : Fin (cfgM m hO).N) (y : S1x1x1024.Idx) : iblk m hO c 4 t y = hBd (m ((c : Thread nD τ).loc main_arg6)) (ix3 (ex m t 0) (y 1) (y 2)) :=
  (rb4 m c hO hr (V m c) t y).trans (congrFun (V_hBd m c) _)
theorem eb5 (t : Fin (cfgM m hO).N) (y : S1x1024x2048.Idx) : (((cfgM m hO).win 5).blk t).view.emb y = (ix3 (ex m t 1) (y 1) (y 2) : S32x1024x2048.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (1 : Fin 2).val)) S1.size (k0_off1_inb (grid0.coords t) 1)) numel1_S1) * 1 + 1 * (y 0).val = (ex m t 1).val
    rw [entry m hr t 1]; omega
  · show (0#32 : BitVec 32).toNat * 1024 + 1 * (y 1).val = (y 1).val
    rw [wordt 0 (by omega)]; omega
  · show (0#32 : BitVec 32).toNat * 2048 + 1 * (y 2).val = (y 2).val
    rw [wordt 0 (by omega)]; omega
theorem rb5 (f : (b : Ref sig .tc) → Buf (Elt Ideal) ((c : Thread nD τ).loc b)) (t : Fin (cfgM m hO).N) (y : S1x1024x2048.Idx) :
    (((cfgM m hO).win 5).blk t).view.read (Elt Ideal) (f (Pipeline.arrRef spec0 5)) y = f main_v1 (ix3 (ex m t 1) (y 1) (y 2)) := by
  have h : (((cfgM m hO).win 5).blk t).view.read (Elt Ideal) (f (Pipeline.arrRef spec0 5)) y = f main_v1 ((((cfgM m hO).win 5).blk t).view.emb y) := rfl
  exact h.trans (congrArg _ (eb5 m hO hr t y))
theorem ib5 (t : Fin (cfgM m hO).N) (y : S1x1024x2048.Idx) : iblk m hO c 5 t y = hUp (m ((c : Thread nD τ).loc main_arg3)) (ix3 (ex m t 1) (y 1) (y 2)) :=
  (rb5 m c hO hr (V m c) t y).trans (congrFun (V_hUp m c) _)
theorem eb6 (t : Fin (cfgM m hO).N) (y : S1x1x2048.Idx) : (((cfgM m hO).win 6).blk t).view.emb y = (ix3 (ex m t 1) (y 1) (y 2) : S32x1x2048.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (1 : Fin 2).val)) S1.size (k0_off1_inb (grid0.coords t) 1)) numel1_S1) * 1 + 1 * (y 0).val = (ex m t 1).val
    rw [entry m hr t 1]; omega
  · show (0#32 : BitVec 32).toNat * 1 + 1 * (y 1).val = (y 1).val
    rw [wordt 0 (by omega)]; omega
  · show (0#32 : BitVec 32).toNat * 2048 + 1 * (y 2).val = (y 2).val
    rw [wordt 0 (by omega)]; omega
theorem rb6 (f : (b : Ref sig .tc) → Buf (Elt Ideal) ((c : Thread nD τ).loc b)) (t : Fin (cfgM m hO).N) (y : S1x1x2048.Idx) :
    (((cfgM m hO).win 6).blk t).view.read (Elt Ideal) (f (Pipeline.arrRef spec0 6)) y = f main_v3 (ix3 (ex m t 1) (y 1) (y 2)) := by
  have h : (((cfgM m hO).win 6).blk t).view.read (Elt Ideal) (f (Pipeline.arrRef spec0 6)) y = f main_v3 ((((cfgM m hO).win 6).blk t).view.emb y) := rfl
  exact h.trans (congrArg _ (eb6 m hO hr t y))
theorem ib6 (t : Fin (cfgM m hO).N) (y : S1x1x2048.Idx) : iblk m hO c 6 t y = hBu (m ((c : Thread nD τ).loc main_arg4)) (ix3 (ex m t 1) (y 1) (y 2)) :=
  (rb6 m c hO hr (V m c) t y).trans (congrFun (V_hBu m c) _)
theorem eb7 (t : Fin (cfgM m hO).N) (y : S1x1024x1024.Idx) : (((cfgM m hO).win 7).blk t).view.emb y = (ix3 (ex m t 1) (y 1) (y 2) : S32x1024x1024.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (1 : Fin 2).val)) S1.size (k0_off1_inb (grid0.coords t) 1)) numel1_S1) * 1 + 1 * (y 0).val = (ex m t 1).val
    rw [entry m hr t 1]; omega
  · show (0#32 : BitVec 32).toNat * 1024 + 1 * (y 1).val = (y 1).val
    rw [wordt 0 (by omega)]; omega
  · show (0#32 : BitVec 32).toNat * 1024 + 1 * (y 2).val = (y 2).val
    rw [wordt 0 (by omega)]; omega
theorem rb7 (f : (b : Ref sig .tc) → Buf (Elt Ideal) ((c : Thread nD τ).loc b)) (t : Fin (cfgM m hO).N) (y : S1x1024x1024.Idx) :
    (((cfgM m hO).win 7).blk t).view.read (Elt Ideal) (f (Pipeline.arrRef spec0 7)) y = f main_v2 (ix3 (ex m t 1) (y 1) (y 2)) := by
  have h : (((cfgM m hO).win 7).blk t).view.read (Elt Ideal) (f (Pipeline.arrRef spec0 7)) y = f main_v2 ((((cfgM m hO).win 7).blk t).view.emb y) := rfl
  exact h.trans (congrArg _ (eb7 m hO hr t y))
theorem ib7 (t : Fin (cfgM m hO).N) (y : S1x1024x1024.Idx) : iblk m hO c 7 t y = hDown (m ((c : Thread nD τ).loc main_arg5)) (ix3 (ex m t 1) (y 1) (y 2)) :=
  (rb7 m c hO hr (V m c) t y).trans (congrFun (V_hDown m c) _)
theorem eb8 (t : Fin (cfgM m hO).N) (y : S1x1x1024.Idx) : (((cfgM m hO).win 8).blk t).view.emb y = (ix3 (ex m t 1) (y 1) (y 2) : S32x1x1024.Idx) := by
  refine funext fun a => Fin.ext ?_
  have y0 : (y 0).val < 1 := (y 0).isLt
  fin_cases a
  · show BitVec.toNat (w := 32) ((tbl m).at 0 (Rect.unit (s := S544) (k0_off1 (grid0.coords t) (BitVec.ofNat 32 (1 : Fin 2).val)) S1.size (k0_off1_inb (grid0.coords t) 1)) numel1_S1) * 1 + 1 * (y 0).val = (ex m t 1).val
    rw [entry m hr t 1]; omega
  · show (0#32 : BitVec 32).toNat * 1 + 1 * (y 1).val = (y 1).val
    rw [wordt 0 (by omega)]; omega
  · show (0#32 : BitVec 32).toNat * 1024 + 1 * (y 2).val = (y 2).val
    rw [wordt 0 (by omega)]; omega
theorem rb8 (f : (b : Ref sig .tc) → Buf (Elt Ideal) ((c : Thread nD τ).loc b)) (t : Fin (cfgM m hO).N) (y : S1x1x1024.Idx) :
    (((cfgM m hO).win 8).blk t).view.read (Elt Ideal) (f (Pipeline.arrRef spec0 8)) y = f main_v4 (ix3 (ex m t 1) (y 1) (y 2)) := by
  have h : (((cfgM m hO).win 8).blk t).view.read (Elt Ideal) (f (Pipeline.arrRef spec0 8)) y = f main_v4 ((((cfgM m hO).win 8).blk t).view.emb y) := rfl
  exact h.trans (congrArg _ (eb8 m hO hr t y))
theorem ib8 (t : Fin (cfgM m hO).N) (y : S1x1x1024.Idx) : iblk m hO c 8 t y = hBd (m ((c : Thread nD τ).loc main_arg6)) (ix3 (ex m t 1) (y 1) (y 2)) :=
  (rb8 m c hO hr (V m c) t y).trans (congrFun (V_hBd m c) _)
end

end Cert.Experts

end
-- ==== Proof.ExResult.lean ====
/- The array the experts' call leaves: every block of rows through its expert, zeros past the used blocks. -/
module

public import proofs.«01_k».proof.Proof.ExBlocks

@[expose] public section
noncomputable section
namespace Cert.Experts
open Idealize.ShloMosaic.Pointwise Cert.Kernel3Ideal Cert.Kernel3Ideal.Gen Idealize.ShloMosaic Idealize.ShloMosaic.TcCoe Idealize.ShloMosaic.Tactic Idealize.SL.Sem

/-- The expert of a block. -/
def eOf (be : IVec S544 32) (b : Fin 544) : Fin 32 := ⟨(be (ix1 b)).toNat % 32, Nat.mod_lt _ (by decide)⟩

/-- An element of a block of rows through an expert. -/
def rowOut (xs : FVec Ideal S544x512x1024 .f32) (wu : FVec Ideal S32x1024x2048 .f32) (bu : FVec Ideal S32x2048 .f32) (wd : FVec Ideal S32x1024x1024 .f32)
    (bd : FVec Ideal S32x1024 .f32) (e : Fin 32) (b : Fin 544) (r : Fin 512) (n : Fin 1024) : EReal :=
  expert (fun d => xs (ix3 b r d)) (fun d f => wu (ix3 e d f)) (fun f => bu (ix2 e f)) (fun f n => wd (ix3 e f n)) (fun n => bd (ix2 e n)) n

/-- Whether the pair `p` of blocks is used. -/
def used (nu : IVec S1 32) (p : ℕ) : Prop := IntOp.cmpi .slt (BitVec.ofNat 32 (2 * p)) (nu (ix1 0)) = 1#1
instance (nu : IVec S1 32) (p : ℕ) : Decidable (used nu p) := inferInstanceAs (Decidable (_ = _))

/-- The result. -/
def res (be : IVec S544 32) (nu : IVec S1 32) (xs : FVec Ideal S544x512x1024 .f32) (wu : FVec Ideal S32x1024x2048 .f32) (bu : FVec Ideal S32x2048 .f32)
    (wd : FVec Ideal S32x1024x1024 .f32) (bd : FVec Ideal S32x1024 .f32) (R : Fin 2228224) (l : Fin 128) : EReal :=
  if used nu (R.val / 8192) then rowOut xs wu bu wd bd (eOf be (bOf R)) (bOf R) (rOf R) (nOf R l) else Ideal.ofBits .f32 0x00000000#32

/-- The body's condition at a point. -/
theorem used_iff (t : Fin grid0.N) (v : BitVec 32) : isUsed (grid0.coords t) v ↔ IntOp.cmpi .slt (BitVec.ofNat 32 (2 * t.val)) v = 1#1 := by
  have key : ∀ b : BitVec 1, (Scalar.cmpi .ne (Scalar.extui b) 0#32 = (1#1 : BitVec 1) ↔ b = 1#1) := by decide
  have e : BitVec.ofNat 32 (grid0.coords t 0).val * 2#32 = BitVec.ofNat 32 (2 * t.val) := by
    have h : t.val < 272 := lt_of_lt_of_eq t.isLt N_0
    apply BitVec.eq_of_toNat_eq
    rw [BitVec.toNat_mul, cot, wordt 2 (by omega), wordt _ (by omega)]
    omega
  refine (key (Scalar.cmpi .slt (BitVec.ofNat 32 (grid0.coords t 0).val * 2#32) v)).trans ?_
  rw [e]
  exact Iff.rfl

section
variable (m : (ℓ : Loc nD τ sig) → Buf (Elt Ideal) ℓ) (c : Dev nD)

/-- The tables are the arguments. -/
theorem tbl_0 : tbl m 0 = m ((c.tc : Thread nD τ).loc main_arg0) := by
  obtain rfl : c = 0 := Subsingleton.elim _ _
  exact V_kept m 0 main_arg0 (by decide)
theorem tbl_1 : tbl m 1 = m ((c.tc : Thread nD τ).loc main_arg1) := by
  obtain rfl : c = 0 := Subsingleton.elim _ _
  exact V_kept m 0 main_arg1 (by decide)
theorem used_tbl : usedOf (F := Ideal) (c := c) (tbl m 1) = (m ((c.tc : Thread nD τ).loc main_arg1) : S1.Idx → BitVec 32) (ix1 0) := by
  refine (congrArg (fun f : S1.Idx → BitVec 32 => usedOf (F := Ideal) (c := c) f) (tbl_1 m c)).trans ?_
  refine congrArg (m ((c.tc : Thread nD τ).loc main_arg1) : S1.Idx → BitVec 32) (funext fun a => Fin.ext ?_)
  fin_cases a
  rfl
theorem ex_eq (t : Fin grid0.N) (j : Fin 2) : ex m t j = eOf (m ((c.tc : Thread nD τ).loc main_arg0)) (pl t j) :=
  Fin.ext (congrArg (fun f : S544.Idx → BitVec 32 => (f (ix1 (pl t j))).toNat % 32) (tbl_0 m c))

/-- The result as an array. -/
def resA : Buf (Elt Ideal) ((c : Thread nD τ).loc main_v5) := fun i : S2228224x128.Idx =>
  res (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (i 0) (i 1)

variable (hO : Ok m) (hr : ∀ x : S544.Idx, BitVec.toNat (w := 32) (tbl m 0 x) < 32)
include hr

/-- Half 0 of a point's block, at its place in the arrays. -/
theorem half0 (t : Fin (cfgM m hO).N) (y : S8192x128.Idx) (hy : (y 0).val / 4096 = 0) :
    halfOf (iblk m hO c 0 t) (iblk m hO c 1 t) (iblk m hO c 2 t) (iblk m hO c 3 t) (iblk m hO c 4 t) y
      = rowOut (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (eOf (m ((c.tc : Thread nD τ).loc main_arg0)) (bOf (tR t (y 0)))) (bOf (tR t (y 0))) (rOf (tR t (y 0))) (nOf (tR t (y 0)) (y 1)) := by
  have y0 : (y 0).val < 8192 := (y 0).isLt
  have y1 : (y 1).val < 128 := (y 1).isLt
  have ht : t.val < 272 := lt_of_lt_of_eq t.isLt N_0
  have eb : bOf (tR t (y 0)) = pl t 0 := Fin.ext (by
    show (8192 * t.val + (y 0).val) / 4096 = 2 * t.val + 0
    omega)
  have ee : eOf (m ((c.tc : Thread nD τ).loc main_arg0)) (bOf (tR t (y 0))) = ex m t 0 := (congrArg _ eb).trans (ex_eq m c t 0).symm
  have en : (⟨128 * ((y 0).val % 8) + (y 1).val, by omega⟩ : Fin 1024) = nOf (tR t (y 0)) (y 1) := Fin.ext (by
    show 128 * ((y 0).val % 8) + (y 1).val = 128 * ((8192 * t.val + (y 0).val) % 8) + (y 1).val
    omega)
  rw [ee]
  unfold halfOf rowOut
  have e0 : (fun d : Fin 1024 => iblk m hO c 0 t (ix2 ⟨8 * ((y 0).val / 8) + d.val / 128, by omega⟩ ⟨d.val % 128, by omega⟩ : S8192x128.Idx))
      = fun d => (m ((c.tc : Thread nD τ).loc main_arg2) : S544x512x1024.Idx → EReal) (ix3 (bOf (tR t (y 0))) (rOf (tR t (y 0))) d) := funext fun d => by
    refine (ib0 m c hO t _).trans ((hRows_at _ _ _).trans ?_)
    have hd : d.val < 1024 := d.isLt
    refine congrArg (m ((c.tc : Thread nD τ).loc main_arg2) : S544x512x1024.Idx → EReal) (funext fun a => Fin.ext ?_)
    fin_cases a
    · show (8192 * t.val + (8 * ((y 0).val / 8) + d.val / 128)) / 4096 = (8192 * t.val + (y 0).val) / 4096
      omega
    · show (8192 * t.val + (8 * ((y 0).val / 8) + d.val / 128)) % 4096 / 8 = (8192 * t.val + (y 0).val) % 4096 / 8
      omega
    · show 128 * ((8192 * t.val + (8 * ((y 0).val / 8) + d.val / 128)) % 8) + d.val % 128 = d.val
      omega
  have e1 : (fun (d : Fin 1024) (f : Fin 2048) => iblk m hO c 1 t (ix3 0 d f : S1x1024x2048.Idx)) = fun d f => (m ((c.tc : Thread nD τ).loc main_arg3) : S32x1024x2048.Idx → EReal) (ix3 (ex m t 0) d f) :=
    funext fun d => funext fun f => (ib1 m c hO hr t _).trans (hUp_at _ _)
  have e2 : (fun (f : Fin 2048) => iblk m hO c 2 t (ix3 0 0 f : S1x1x2048.Idx)) = fun f => (m ((c.tc : Thread nD τ).loc main_arg4) : S32x2048.Idx → EReal) (ix2 (ex m t 0) f) :=
    funext fun f => (ib2 m c hO hr t _).trans (hBu_at _ _ _)
  have e3 : (fun (f n : Fin 1024) => iblk m hO c 3 t (ix3 0 f n : S1x1024x1024.Idx)) = fun f n => (m ((c.tc : Thread nD τ).loc main_arg5) : S32x1024x1024.Idx → EReal) (ix3 (ex m t 0) f n) :=
    funext fun f => funext fun n => (ib3 m c hO hr t _).trans (hDown_at _ _)
  have e4 : (fun (n : Fin 1024) => iblk m hO c 4 t (ix3 0 0 n : S1x1x1024.Idx)) = fun n => (m ((c.tc : Thread nD τ).loc main_arg6) : S32x1024.Idx → EReal) (ix2 (ex m t 0) n) :=
    funext fun n => (ib4 m c hO hr t _).trans (hBd_at _ _ _)
  exact (congrArg (fun X => expert X _ _ _ _ _) e0).trans ((congrArg (fun X => expert _ X _ _ _ _) e1).trans ((congrArg (fun X => expert _ _ X _ _ _) e2).trans
    ((congrArg (fun X => expert _ _ _ X _ _) e3).trans ((congrArg (fun X => expert _ _ _ _ X _) e4).trans (congrArg (expert _ _ _ _ _) en)))))

/-- Half 1 of a point's block, at its place in the arrays. -/
theorem half1 (t : Fin (cfgM m hO).N) (y : S8192x128.Idx) (hy : (y 0).val / 4096 = 1) :
    halfOf (iblk m hO c 0 t) (iblk m hO c 5 t) (iblk m hO c 6 t) (iblk m hO c 7 t) (iblk m hO c 8 t) y
      = rowOut (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (eOf (m ((c.tc : Thread nD τ).loc main_arg0)) (bOf (tR t (y 0)))) (bOf (tR t (y 0))) (rOf (tR t (y 0))) (nOf (tR t (y 0)) (y 1)) := by
  have y0 : (y 0).val < 8192 := (y 0).isLt
  have y1 : (y 1).val < 128 := (y 1).isLt
  have ht : t.val < 272 := lt_of_lt_of_eq t.isLt N_0
  have eb : bOf (tR t (y 0)) = pl t 1 := Fin.ext (by
    show (8192 * t.val + (y 0).val) / 4096 = 2 * t.val + 1
    omega)
  have ee : eOf (m ((c.tc : Thread nD τ).loc main_arg0)) (bOf (tR t (y 0))) = ex m t 1 := (congrArg _ eb).trans (ex_eq m c t 1).symm
  have en : (⟨128 * ((y 0).val % 8) + (y 1).val, by omega⟩ : Fin 1024) = nOf (tR t (y 0)) (y 1) := Fin.ext (by
    show 128 * ((y 0).val % 8) + (y 1).val = 128 * ((8192 * t.val + (y 0).val) % 8) + (y 1).val
    omega)
  rw [ee]
  unfold halfOf rowOut
  have e0 : (fun d : Fin 1024 => iblk m hO c 0 t (ix2 ⟨8 * ((y 0).val / 8) + d.val / 128, by omega⟩ ⟨d.val % 128, by omega⟩ : S8192x128.Idx))
      = fun d => (m ((c.tc : Thread nD τ).loc main_arg2) : S544x512x1024.Idx → EReal) (ix3 (bOf (tR t (y 0))) (rOf (tR t (y 0))) d) := funext fun d => by
    refine (ib0 m c hO t _).trans ((hRows_at _ _ _).trans ?_)
    have hd : d.val < 1024 := d.isLt
    refine congrArg (m ((c.tc : Thread nD τ).loc main_arg2) : S544x512x1024.Idx → EReal) (funext fun a => Fin.ext ?_)
    fin_cases a
    · show (8192 * t.val + (8 * ((y 0).val / 8) + d.val / 128)) / 4096 = (8192 * t.val + (y 0).val) / 4096
      omega
    · show (8192 * t.val + (8 * ((y 0).val / 8) + d.val / 128)) % 4096 / 8 = (8192 * t.val + (y 0).val) % 4096 / 8
      omega
    · show 128 * ((8192 * t.val + (8 * ((y 0).val / 8) + d.val / 128)) % 8) + d.val % 128 = d.val
      omega
  have e1 : (fun (d : Fin 1024) (f : Fin 2048) => iblk m hO c 5 t (ix3 0 d f : S1x1024x2048.Idx)) = fun d f => (m ((c.tc : Thread nD τ).loc main_arg3) : S32x1024x2048.Idx → EReal) (ix3 (ex m t 1) d f) :=
    funext fun d => funext fun f => (ib5 m c hO hr t _).trans (hUp_at _ _)
  have e2 : (fun (f : Fin 2048) => iblk m hO c 6 t (ix3 0 0 f : S1x1x2048.Idx)) = fun f => (m ((c.tc : Thread nD τ).loc main_arg4) : S32x2048.Idx → EReal) (ix2 (ex m t 1) f) :=
    funext fun f => (ib6 m c hO hr t _).trans (hBu_at _ _ _)
  have e3 : (fun (f n : Fin 1024) => iblk m hO c 7 t (ix3 0 f n : S1x1024x1024.Idx)) = fun f n => (m ((c.tc : Thread nD τ).loc main_arg5) : S32x1024x1024.Idx → EReal) (ix3 (ex m t 1) f n) :=
    funext fun f => funext fun n => (ib7 m c hO hr t _).trans (hDown_at _ _)
  have e4 : (fun (n : Fin 1024) => iblk m hO c 8 t (ix3 0 0 n : S1x1x1024.Idx)) = fun n => (m ((c.tc : Thread nD τ).loc main_arg6) : S32x1024.Idx → EReal) (ix2 (ex m t 1) n) :=
    funext fun n => (ib8 m c hO hr t _).trans (hBd_at _ _ _)
  exact (congrArg (fun X => expert X _ _ _ _ _) e0).trans ((congrArg (fun X => expert _ X _ _ _ _) e1).trans ((congrArg (fun X => expert _ _ X _ _ _) e2).trans
    ((congrArg (fun X => expert _ _ _ X _ _) e3).trans ((congrArg (fun X => expert _ _ _ _ X _) e4).trans (congrArg (expert _ _ _ _ _) en)))))

/-- A point's block at its place in the result. -/
theorem out_at (t : Fin (cfgM m hO).N) (y : S8192x128.Idx) : outAt m hO c t y = resA m c (ix2 (tR t (y 0)) (y 1) : S2228224x128.Idx) := by
  have y0 : (y 0).val < 8192 := (y 0).isLt
  have ht : t.val < 272 := lt_of_lt_of_eq t.isLt N_0
  have et : (tR t (y 0)).val / 8192 = t.val := by
    show (8192 * t.val + (y 0).val) / 8192 = t.val
    omega
  have hu : isUsed (grid0.coords t) (usedOf (F := Ideal) (c := c) (tbl m 1)) ↔ used (m ((c.tc : Thread nD τ).loc main_arg1)) ((tR t (y 0)).val / 8192) := by
    rw [used_tbl, et]
    exact used_iff t _
  show _ = res _ _ _ _ _ _ _ (tR t (y 0)) (y 1)
  unfold res outAt
  by_cases h : isUsed (grid0.coords t) (usedOf (F := Ideal) (c := c) (tbl m 1))
  · rw [if_pos (hu.mp h)]
    refine (pieces_used c (grid0.coords t) (st0 m hO t) (wh0 m hO t) (st1 m hO t) (wh1 m hO t) (st2 m hO t) (wh2 m hO t) (st3 m hO t) (wh3 m hO t) (st4 m hO t) (wh4 m hO t) (st5 m hO t) (wh5 m hO t) (st6 m hO t) (wh6 m hO t) (st7 m hO t) (wh7 m hO t) (st8 m hO t) (wh8 m hO t) (st9 m hO t) (wh9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h y).trans ?_
    unfold pairOf
    by_cases hy : (y 0).val < 4096
    · rw [if_pos hy]
      exact half0 m c hO hr t y (by omega)
    · rw [if_neg hy]
      exact half1 m c hO hr t y (by omega)
  · rw [if_neg fun g => h (hu.mpr g)]
    exact pieces_past c (grid0.coords t) (st0 m hO t) (wh0 m hO t) (st1 m hO t) (wh1 m hO t) (st2 m hO t) (wh2 m hO t) (st3 m hO t) (wh3 m hO t) (st4 m hO t) (wh4 m hO t) (st5 m hO t) (wh5 m hO t) (st6 m hO t) (wh6 m hO t) (st7 m hO t) (wh7 m hO t) (st8 m hO t) (wh8 m hO t) (st9 m hO t) (wh9 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) h y

theorem fl9 (t : Fin (cfgM m hO).N) : (dats m hO 0 c).flushed 9 t = (((cfgM m hO).win 9).blk t).view.read (Elt Ideal) (resA m c) := by
  funext y
  refine Eq.trans ?_ (wr9 m c hO _ t y).symm
  refine Eq.trans ?_ (out_at m c hO hr t y)
  exact congrFun (left_9 m hO c t) y
omit hr in
theorem flush_9 (t : Fin (cfgM m hO).N) : ((cfgM m hO).win 9).flush t = true :=
  (Pipeline.Window.flush_reads (G := grid0) ((cfgM m hO).win 9) rfl (0 : Fin 1) (show 1 < 272 by decide) (show grid0.fixedAfter reads0_9 (0 : Fin 1) = true by decide)
    (Pipeline.Window.sep_of_coord (G := grid0) cc0_transform_9 0 0 (fun _ => rfl) (by decide)) (P := 1) (m := 0) (show grid0.stride (0 : Fin 1) = 1 by decide) rfl t).mpr (Nat.mod_one _)

/-- The array the call leaves. -/
theorem arr9 : (dats m hO 0 c).arrAt 9 (cfgM m hO).N = resA m c := by
  refine (dats m hO 0 c).arrAt_eq_of_cover 9 _ (fun t _ => fl9 m c hO hr t) fun (i : S2228224x128.Idx) => ?_
  have i0 : (i 0).val < 2228224 := (i 0).isLt
  let t : Fin (cfgM m hO).N := ⟨(i 0).val / 8192, by rw [N272]; omega⟩
  refine ⟨t, flush_9 m hO t, ?_⟩
  let y : S8192x128.Idx := ix2 ⟨(i 0).val % 8192, Nat.mod_lt _ (by decide)⟩ (i 1)
  have hi : i = (ix2 (tR t (y 0)) (y 1) : S2228224x128.Idx) := by
    refine funext fun a => Fin.ext ?_
    fin_cases a
    · show (i 0).val = 8192 * ((i 0).val / 8192) + (i 0).val % 8192
      omega
    · rfl
  rw [hi]
  exact (congrArg (· ∈ (((cfgM m hO).win 9).blk t).view.set) (eb9 m hO t y)).mp (View.emb_mem_set _ _)
end

end Cert.Experts

end
-- ==== Proof.ExRef.lean ====
/- The reference of the experts' call, read element by element. -/
module

public import proofs.«01_k».proof.Proof.ExResult
public import proofs.«01_k».proof.Proof.Gen.Reference3Ideal.Read

@[expose] public section
noncomputable section
namespace Cert.Experts
open Idealize.ShloMosaic.Pointwise Cert.Reference3Ideal Cert.Reference3Ideal.Gen Cert.Reference3Ideal.Read Idealize.ShloMosaic Idealize.ShloMosaic.TcCoe Idealize.ShloMosaic.Tactic Idealize.SL.Sem

/-- A start index, as the gathers clamp it. -/
def clip32 (v : BitVec 32) : Fin 32 := ⟨min v.toInt.toNat 31, by omega⟩

theorem gU_at (x : FVec Ideal S32x1024x2048 .f32) (v : IVec S544x1 32) (b : Fin 544) (d : Fin 1024) (f : Fin 2048) :
    Host.gather gather_S32x1024x2048_S544x1_S544x1024x2048_12_0_n_n_0_1_110242048 x v (ix3 b d f) = x (ix3 (clip32 (v (ix2 b 0))) d f) := by
  unfold Host.gather
  refine congrArg x (funext fun a => Fin.ext ?_)
  show gather_S32x1024x2048_S544x1_S544x1024x2048_12_0_n_n_0_1_110242048.start _ v a + gather_S32x1024x2048_S544x1_S544x1024x2048_12_0_n_n_0_1_110242048.batchCoord _ a + gather_S32x1024x2048_S544x1_S544x1024x2048_12_0_n_n_0_1_110242048.offCoord _ a = _
  rw [GatherDims.batchCoord_eq_zero _ _ _ List.not_mem_nil, Nat.add_zero]
  match a with
  | ⟨0, _⟩ =>
    refine (congrArg (_ + ·) (GatherDims.offCoord_eq_zero _ _ _ (fun h => ((GatherDims.mem_sKept _ _).mp h).1 (List.mem_singleton.mpr rfl)))).trans ?_
    rw [Nat.add_zero]
    unfold GatherDims.start
    rw [dif_pos (show (⟨0, by decide⟩ : Fin 3) ∈ gather_S32x1024x2048_S544x1_S544x1024x2048_12_0_n_n_0_1_110242048.startIndexMap from List.mem_singleton.mpr rfl)]
    refine congrArg (fun z => min (v z).toInt.toNat 31) (funext fun q => Fin.ext ?_)
    match q with
    | ⟨0, _⟩ => rfl
    | ⟨1, _⟩ => rfl
  | ⟨1, _⟩ =>
    unfold GatherDims.start GatherDims.offCoord
    rw [dif_neg (show ¬ (⟨1, by decide⟩ : Fin 3) ∈ gather_S32x1024x2048_S544x1_S544x1024x2048_12_0_n_n_0_1_110242048.startIndexMap by decide), dif_pos (show (⟨1, by decide⟩ : Fin 3) ∈ gather_S32x1024x2048_S544x1_S544x1024x2048_12_0_n_n_0_1_110242048.sKept by decide), Nat.zero_add]
    rfl
  | ⟨2, _⟩ =>
    unfold GatherDims.start GatherDims.offCoord
    rw [dif_neg (show ¬ (⟨2, by decide⟩ : Fin 3) ∈ gather_S32x1024x2048_S544x1_S544x1024x2048_12_0_n_n_0_1_110242048.startIndexMap by decide), dif_pos (show (⟨2, by decide⟩ : Fin 3) ∈ gather_S32x1024x2048_S544x1_S544x1024x2048_12_0_n_n_0_1_110242048.sKept by decide), Nat.zero_add]
    rfl
theorem gB_at (x : FVec Ideal S32x2048 .f32) (v : IVec S544x1 32) (b : Fin 544) (d : Fin 2048) :
    Host.gather gather_S32x2048_S544x1_S544x2048_1_0_n_n_0_1_12048 x v (ix2 b d) = x (ix2 (clip32 (v (ix2 b 0))) d) := by
  unfold Host.gather
  refine congrArg x (funext fun a => Fin.ext ?_)
  show gather_S32x2048_S544x1_S544x2048_1_0_n_n_0_1_12048.start _ v a + gather_S32x2048_S544x1_S544x2048_1_0_n_n_0_1_12048.batchCoord _ a + gather_S32x2048_S544x1_S544x2048_1_0_n_n_0_1_12048.offCoord _ a = _
  rw [GatherDims.batchCoord_eq_zero _ _ _ List.not_mem_nil, Nat.add_zero]
  match a with
  | ⟨0, _⟩ =>
    refine (congrArg (_ + ·) (GatherDims.offCoord_eq_zero _ _ _ (fun h => ((GatherDims.mem_sKept _ _).mp h).1 (List.mem_singleton.mpr rfl)))).trans ?_
    rw [Nat.add_zero]
    unfold GatherDims.start
    rw [dif_pos (show (⟨0, by decide⟩ : Fin 2) ∈ gather_S32x2048_S544x1_S544x2048_1_0_n_n_0_1_12048.startIndexMap from List.mem_singleton.mpr rfl)]
    refine congrArg (fun z => min (v z).toInt.toNat 31) (funext fun q => Fin.ext ?_)
    match q with
    | ⟨0, _⟩ => rfl
    | ⟨1, _⟩ => rfl
  | ⟨1, _⟩ =>
    unfold GatherDims.start GatherDims.offCoord
    rw [dif_neg (show ¬ (⟨1, by decide⟩ : Fin 2) ∈ gather_S32x2048_S544x1_S544x2048_1_0_n_n_0_1_12048.startIndexMap by decide), dif_pos (show (⟨1, by decide⟩ : Fin 2) ∈ gather_S32x2048_S544x1_S544x2048_1_0_n_n_0_1_12048.sKept by decide), Nat.zero_add]
    rfl
theorem gD_at (x : FVec Ideal S32x1024x1024 .f32) (v : IVec S544x1 32) (b : Fin 544) (d : Fin 1024) (f : Fin 1024) :
    Host.gather gather_S32x1024x1024_S544x1_S544x1024x1024_12_0_n_n_0_1_110241024 x v (ix3 b d f) = x (ix3 (clip32 (v (ix2 b 0))) d f) := by
  unfold Host.gather
  refine congrArg x (funext fun a => Fin.ext ?_)
  show gather_S32x1024x1024_S544x1_S544x1024x1024_12_0_n_n_0_1_110241024.start _ v a + gather_S32x1024x1024_S544x1_S544x1024x1024_12_0_n_n_0_1_110241024.batchCoord _ a + gather_S32x1024x1024_S544x1_S544x1024x1024_12_0_n_n_0_1_110241024.offCoord _ a = _
  rw [GatherDims.batchCoord_eq_zero _ _ _ List.not_mem_nil, Nat.add_zero]
  match a with
  | ⟨0, _⟩ =>
    refine (congrArg (_ + ·) (GatherDims.offCoord_eq_zero _ _ _ (fun h => ((GatherDims.mem_sKept _ _).mp h).1 (List.mem_singleton.mpr rfl)))).trans ?_
    rw [Nat.add_zero]
    unfold GatherDims.start
    rw [dif_pos (show (⟨0, by decide⟩ : Fin 3) ∈ gather_S32x1024x1024_S544x1_S544x1024x1024_12_0_n_n_0_1_110241024.startIndexMap from List.mem_singleton.mpr rfl)]
    refine congrArg (fun z => min (v z).toInt.toNat 31) (funext fun q => Fin.ext ?_)
    match q with
    | ⟨0, _⟩ => rfl
    | ⟨1, _⟩ => rfl
  | ⟨1, _⟩ =>
    unfold GatherDims.start GatherDims.offCoord
    rw [dif_neg (show ¬ (⟨1, by decide⟩ : Fin 3) ∈ gather_S32x1024x1024_S544x1_S544x1024x1024_12_0_n_n_0_1_110241024.startIndexMap by decide), dif_pos (show (⟨1, by decide⟩ : Fin 3) ∈ gather_S32x1024x1024_S544x1_S544x1024x1024_12_0_n_n_0_1_110241024.sKept by decide), Nat.zero_add]
    rfl
  | ⟨2, _⟩ =>
    unfold GatherDims.start GatherDims.offCoord
    rw [dif_neg (show ¬ (⟨2, by decide⟩ : Fin 3) ∈ gather_S32x1024x1024_S544x1_S544x1024x1024_12_0_n_n_0_1_110241024.startIndexMap by decide), dif_pos (show (⟨2, by decide⟩ : Fin 3) ∈ gather_S32x1024x1024_S544x1_S544x1024x1024_12_0_n_n_0_1_110241024.sKept by decide), Nat.zero_add]
    rfl
theorem gC_at (x : FVec Ideal S32x1024 .f32) (v : IVec S544x1 32) (b : Fin 544) (d : Fin 1024) :
    Host.gather gather_S32x1024_S544x1_S544x1024_1_0_n_n_0_1_11024 x v (ix2 b d) = x (ix2 (clip32 (v (ix2 b 0))) d) := by
  unfold Host.gather
  refine congrArg x (funext fun a => Fin.ext ?_)
  show gather_S32x1024_S544x1_S544x1024_1_0_n_n_0_1_11024.start _ v a + gather_S32x1024_S544x1_S544x1024_1_0_n_n_0_1_11024.batchCoord _ a + gather_S32x1024_S544x1_S544x1024_1_0_n_n_0_1_11024.offCoord _ a = _
  rw [GatherDims.batchCoord_eq_zero _ _ _ List.not_mem_nil, Nat.add_zero]
  match a with
  | ⟨0, _⟩ =>
    refine (congrArg (_ + ·) (GatherDims.offCoord_eq_zero _ _ _ (fun h => ((GatherDims.mem_sKept _ _).mp h).1 (List.mem_singleton.mpr rfl)))).trans ?_
    rw [Nat.add_zero]
    unfold GatherDims.start
    rw [dif_pos (show (⟨0, by decide⟩ : Fin 2) ∈ gather_S32x1024_S544x1_S544x1024_1_0_n_n_0_1_11024.startIndexMap from List.mem_singleton.mpr rfl)]
    refine congrArg (fun z => min (v z).toInt.toNat 31) (funext fun q => Fin.ext ?_)
    match q with
    | ⟨0, _⟩ => rfl
    | ⟨1, _⟩ => rfl
  | ⟨1, _⟩ =>
    unfold GatherDims.start GatherDims.offCoord
    rw [dif_neg (show ¬ (⟨1, by decide⟩ : Fin 2) ∈ gather_S32x1024_S544x1_S544x1024_1_0_n_n_0_1_11024.startIndexMap by decide), dif_pos (show (⟨1, by decide⟩ : Fin 2) ∈ gather_S32x1024_S544x1_S544x1024_1_0_n_n_0_1_11024.sKept by decide), Nat.zero_add]
    rfl

/-- An expert that exists is not wrapped around, and not clamped. -/
theorem wrap (a z : BitVec 32) (h : a.toNat < 32) : Scalar.select (IntOp.cmpi .slt a 0#32) z a = a := by
  unfold Scalar.select
  refine if_neg fun e => ?_
  have l : a.toInt < (0#32).toInt := IntOp.cmpi_slt.1 e
  have t := BitVec.toInt_eq_toNat_cond a
  have z : (0#32).toInt = 0 := by decide
  split at t <;> omega
theorem clip_eq (a : BitVec 32) (h : a.toNat < 32) : clip32 a = ⟨a.toNat % 32, Nat.mod_lt _ (by decide)⟩ := by
  refine Fin.ext ?_
  show min a.toInt.toNat 31 = a.toNat % 32
  have t := BitVec.toInt_eq_toNat_cond a
  split at t <;> omega

section
variable (x0 : (⟨S544, .i32⟩ : BufTy).Contents (Elt Ideal)) (hr : ∀ x : S544.Idx, BitVec.toNat (w := 32) (x0 x) < 32)
include hr
theorem start5 (b : Fin 544) : clip32 (val_main_v5 (F := Ideal) x0 (ix2 b 0)) = eOf x0 b := by
  have e : idx_main_v5 (ix2 b 0) = ix1 b := funext fun a => by fin_cases a <;> rfl
  have h : val_main_v5 (F := Ideal) x0 (ix2 b 0) = x0 (ix1 b) := by
    rw [val_main_v5_apply, e, val_main_v4_apply, val_main_v1_apply, val_main_v0_apply, val_main_c_apply]
    exact wrap _ _ (hr _)
  rw [h]
  exact clip_eq _ (hr _)
theorem start13 (b : Fin 544) : clip32 (val_main_v13 (F := Ideal) x0 (ix2 b 0)) = eOf x0 b := by
  have e : idx_main_v13 (ix2 b 0) = ix1 b := funext fun a => by fin_cases a <;> rfl
  have h : val_main_v13 (F := Ideal) x0 (ix2 b 0) = x0 (ix1 b) := by
    rw [val_main_v13_apply, e, val_main_v12_apply, val_main_v9_apply, val_main_v8_apply, val_main_c_1_apply]
    exact wrap _ _ (hr _)
  rw [h]
  exact clip_eq _ (hr _)
theorem start40 (b : Fin 544) : clip32 (val_main_v40 (F := Ideal) x0 (ix2 b 0)) = eOf x0 b := by
  have e : idx_main_v40 (ix2 b 0) = ix1 b := funext fun a => by fin_cases a <;> rfl
  have h : val_main_v40 (F := Ideal) x0 (ix2 b 0) = x0 (ix1 b) := by
    rw [val_main_v40_apply, e, val_main_v39_apply, val_main_v36_apply, val_main_v35_apply, val_main_c_9_apply]
    exact wrap _ _ (hr _)
  rw [h]
  exact clip_eq _ (hr _)
theorem start48 (b : Fin 544) : clip32 (val_main_v48 (F := Ideal) x0 (ix2 b 0)) = eOf x0 b := by
  have e : idx_main_v48 (ix2 b 0) = ix1 b := funext fun a => by fin_cases a <;> rfl
  have h : val_main_v48 (F := Ideal) x0 (ix2 b 0) = x0 (ix1 b) := by
    rw [val_main_v48_apply, e, val_main_v47_apply, val_main_v44_apply, val_main_v43_apply, val_main_c_11_apply]
    exact wrap _ _ (hr _)
  rw [h]
  exact clip_eq _ (hr _)

variable (x1 : (⟨S1, .i32⟩ : BufTy).Contents (Elt Ideal)) (x2 : (⟨S544x512x1024, .f32⟩ : BufTy).Contents (Elt Ideal)) (x3 : (⟨S32x1024x2048, .f32⟩ : BufTy).Contents (Elt Ideal))
  (x4 : (⟨S32x2048, .f32⟩ : BufTy).Contents (Elt Ideal)) (x5 : (⟨S32x1024x1024, .f32⟩ : BufTy).Contents (Elt Ideal)) (x6 : (⟨S32x1024, .f32⟩ : BufTy).Contents (Elt Ideal))

/-- The first layer. -/
theorem ref_up (b : Fin 544) (r : Fin 512) (k : Fin 2048) : val_main_v17 (F := Ideal) x0 x2 x3 x4 (ix3 b r k)
    = ∑ d : Fin 1024, x2 (ix3 b r d) * x3 (ix3 (eOf x0 b) d k) + x4 (ix2 (eOf x0 b) k) := by
  have el : ∀ d, lidx_main_v7 (ix3 b r k) d = ix3 b r d := fun d => funext fun a => by fin_cases a <;> rfl
  have er : ∀ d, ridx_main_v7 (ix3 b r k) d = ix3 b d k := fun d => funext fun a => by fin_cases a <;> rfl
  have eb : idx_main_v15 (idx_main_v16 (ix3 b r k)) = ix2 b k := funext fun a => by fin_cases a <;> rfl
  rw [val_main_v17_apply, val_main_v7_apply, val_main_v16_apply, val_main_v15_apply, eb]
  unfold val_main_v14 val_main_v6
  rw [gB_at, start13 x0 hr]
  refine congrArg (· + _) (Finset.sum_congr rfl fun d _ => ?_)
  rw [el, er, gU_at, start5 x0 hr]

/-- The hidden layer. -/
theorem ref_hidden (b : Fin 544) (r : Fin 512) (f : Fin 1024) : val_main_v34 (F := Ideal) x0 x2 x3 x4 (ix3 b r f)
    = hidden (fun d => x2 (ix3 b r d)) (fun d f => x3 (ix3 (eOf x0 b) d f)) (fun f => x4 (ix2 (eOf x0 b) f)) f := by
  have e18 : idx_main_v18 (ix3 b r f) = ix3 b r ⟨f.val, by omega⟩ := funext fun a => by fin_cases a <;> rfl
  have e21 : idx_main_v21 (ix3 b r f) = ix3 b r ⟨1024 + f.val, by omega⟩ := funext fun a => by fin_cases a <;> rfl
  have h20 : val_main_v20 (F := Ideal) x0 x2 x3 x4 (ix3 b r f) = min (∑ d : Fin 1024, x2 (ix3 b r d) * x3 (ix3 (eOf x0 b) d ⟨f.val, by omega⟩) + x4 (ix2 (eOf x0 b) ⟨f.val, by omega⟩)) (Ideal.ofBits .f32 0x40E00000#32) := by
    rw [val_main_v20_apply, val_main_v18_apply, val_main_v19_apply, val_main_cst_apply, e18, ref_up x0 hr]
    rfl
  have h22 : val_main_v22 (F := Ideal) x0 x2 x3 x4 (ix3 b r f) = min (Ideal.ofBits .f32 0x40E00000#32) (max (Ideal.ofBits .f32 0xC0E00000#32)
      (∑ d : Fin 1024, x2 (ix3 b r d) * x3 (ix3 (eOf x0 b) d ⟨1024 + f.val, by omega⟩) + x4 (ix2 (eOf x0 b) ⟨1024 + f.val, by omega⟩))) := by
    rw [val_main_v22_apply, val_main_call0_v4_apply, val_main_call0_v3_apply, val_main_cst_4_apply, val_main_call0_v2_apply, val_main_call0_v1_apply, val_main_call0_v0_apply,
      val_main_cst_3_apply, val_main_v21_apply, e21, ref_up x0 hr]
    rfl
  have one : (FloatOps.ofBits .f32 0x3F800000#32 : Ideal .f32) = (1 : EReal) := Ideal.ofBits_one_f32
  rw [val_main_v34_apply, val_main_v25_apply, val_main_v24_apply, h22, val_main_v23_apply, val_main_cst_5_apply, val_main_v33_apply, val_main_v32_apply, val_main_cst_8_apply,
    val_main_v31_apply, val_main_v30_apply, val_main_cst_7_apply, val_main_v29_apply, val_main_v28_apply, val_main_v27_apply, val_main_v26_apply, val_main_cst_6_apply, h20, one]
  unfold hidden swi Ideal.logistic
  rfl

/-- The second layer. -/
theorem ref_row (b : Fin 544) (r : Fin 512) (n : Fin 1024) : val_main_v52 (F := Ideal) x0 x2 x3 x4 x5 x6 (ix3 b r n) = rowOut x2 x3 x4 x5 x6 (eOf x0 b) b r n := by
  have el : ∀ d, lidx_main_v42 (ix3 b r n) d = ix3 b r d := fun d => funext fun a => by fin_cases a <;> rfl
  have er : ∀ d, ridx_main_v42 (ix3 b r n) d = ix3 b d n := fun d => funext fun a => by fin_cases a <;> rfl
  have eb : idx_main_v50 (idx_main_v51 (ix3 b r n)) = ix2 b n := funext fun a => by fin_cases a <;> rfl
  rw [val_main_v52_apply, val_main_v42_apply, val_main_v51_apply, val_main_v50_apply, eb]
  unfold val_main_v49 val_main_v41
  rw [gC_at, start48 x0 hr]
  unfold rowOut expert
  refine congrArg (· + _) (Finset.sum_congr rfl fun d _ => ?_)
  rw [el, er, gD_at, start40 x0 hr, ref_hidden x0 hr]

omit hr in
/-- The pairs kept. -/
theorem ref_used (p : Fin 272) : val_main_v58 (F := Ideal) x1 (ix1 p) = IntOp.cmpi .slt (BitVec.ofNat 32 (2 * p.val)) (x1 (ix1 0)) := by
  have e56 : val_main_v56 (F := Ideal) x1 (idx_main_v57 (ix1 p)) = x1 (ix1 0) := by
    unfold val_main_v56
    refine congrArg x1 (funext fun a => Fin.ext ?_)
    fin_cases a
    exact Nat.lt_one_iff.mp (Fin.isLt _)
  have e : IntOp.muli 2#32 (BitVec.ofNat 32 p.val) = BitVec.ofNat 32 (2 * p.val) := by
    show 2#32 * BitVec.ofNat 32 p.val = _
    apply BitVec.eq_of_toNat_eq
    rw [BitVec.toNat_mul, wordt 2 (by omega), wordt _ (by omega), wordt _ (by omega)]
    omega
  rw [val_main_v58_apply, val_main_v57_apply, e56, val_main_v55_apply, val_main_v54_apply, val_main_c_13_apply, val_main_v53_apply]
  exact congrArg (IntOp.cmpi .slt · _) e

/-- The reference's result. -/
theorem ref_res (R : Fin 2228224) (l : Fin 128) : val_main_v62 (F := Ideal) x0 x1 x2 x3 x4 x5 x6 (ix2 R l) = res x0 x1 x2 x3 x4 x5 x6 R l := by
  have e60 : idx_main_v60 (idx_main_v62 (ix2 R l)) = ix3 (bOf R) (rOf R) (nOf R l) := by
    refine funext fun a => Fin.ext ?_
    fin_cases a
    · show (((R.val * 128 + l.val) / 1048576 * 1024 + (R.val * 128 + l.val) / 1024 % 1024) * 1024 + (R.val * 128 + l.val) % 1024) / 524288 = R.val / 4096
      omega
    · show (((R.val * 128 + l.val) / 1048576 * 1024 + (R.val * 128 + l.val) / 1024 % 1024) * 1024 + (R.val * 128 + l.val) % 1024) / 1024 % 512 = R.val % 4096 / 8
      omega
    · show (((R.val * 128 + l.val) / 1048576 * 1024 + (R.val * 128 + l.val) / 1024 % 1024) * 1024 + (R.val * 128 + l.val) % 1024) % 1024 = 128 * (R.val % 8) + l.val
      omega
  have ep : idx_main_v59 (idx_main_call1_v1 (idx_main_v62 (ix2 R l))) = ix1 (⟨R.val / 8192, by omega⟩ : Fin 272) := by
    refine funext fun a => Fin.ext ?_
    fin_cases a
    show (R.val * 128 + l.val) / 1048576 = R.val / 8192
    omega
  rw [val_main_v62_apply, val_main_v61_apply, val_main_call1_v1_apply, val_main_v59_apply, ep, ref_used, val_main_v60_apply, e60, ref_row x0 hr, val_main_call1_v2_apply,
    val_main_call1_v0_apply, val_main_cst_14_apply]
  unfold Scalar.select res used
  rfl
end

end Cert.Experts

end
-- ==== Proof.Experts.lean ====
/- The claims of the experts' call. -/
module

public import proofs.«01_k».proof.Defs
public import proofs.«01_k».proof.Proof.ExRef
public import Idealize.ShloMosaic.Adequacy

@[expose] public section
noncomputable section
namespace Cert.Experts
open Idealize.ShloMosaic Idealize.ShloMosaic.Pointwise Idealize.SL.Sem

/-- The reference leaves its arguments as they were and no semaphore behind. -/
theorem ref_frame : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The kernel and the reference end with the same array. -/
theorem experts : Cert.algebraic_Kernel3Ideal_Reference3Ideal := fun m g m' g' hp ha => by
  have hO := ok_of_pre m hp
  refine ⟨fun c => resA m c, ?_, ?_⟩
  · refine (θ_run Cert.Kernel3Ideal.defs _ _).mono (fun r h c => ?_) (run_all (F := Ideal) m g hO)
    have hr : ∀ x : Cert.Kernel3Ideal.S544.Idx, BitVec.toNat (w := 32) (tbl m 0 x) < 32 := fun x =>
      lt_of_eq_of_lt (congrArg (fun f : Cert.Kernel3Ideal.S544.Idx → BitVec 32 => (f x).toNat) (tbl_0 m c)) (range_of_pre _ _ _ _ _ _ _ (hp c) x)
    exact ⟨(h.2 c).trans (arr9 m c hO hr), h.1.1 c⟩
  · refine (θ_run Cert.Reference3Ideal.defs _ _).mono (fun r h c => ?_) (Cert.Reference3Ideal.Value.run (F := Ideal) m' g')
    obtain ⟨h0, hk⟩ := h c
    obtain ⟨a0, a1, a2, a3, a4, a5, a6⟩ := ha c
    refine ⟨h0.trans ?_, hk⟩
    rw [Cert.Reference3Ideal.Read.val_main_v62_eq, a0, a1, a2, a3, a4, a5, a6]
    refine funext fun (i : Cert.Kernel3Ideal.S2228224x128.Idx) => ?_
    obtain ⟨R, l, rfl⟩ := at2 (a := 2228224) (b := 128) i
    exact ref_res _ (fun x => range_of_pre _ _ _ _ _ _ _ (hp c) x) _ _ _ _ _ _ R l

end Cert.Experts

end
-- ==== Proof.Gates.lean ====
/- The gates: one element of the block the kernel writes. -/
module

public import proofs.«01_k».proof.Proof.Gen.Kernel4Ideal.Value
public import Idealize.ShloMosaic.Lib.Pointwise
public import Idealize.ShloMosaic.Lib.StableHlo.Run
public import Idealize.ShloMosaic.PureOps.Ideal.Laws

@[expose] public section
noncomputable section
namespace Cert.Proof.Gates
open Idealize.ShloMosaic.Pointwise Cert.Kernel4Ideal Cert.Kernel4Ideal.Gen Idealize.ShloMosaic Idealize.ShloMosaic.TcCoe Idealize.ShloMosaic.Tactic Idealize.SL.Sem

/-- The logarithm of the logistic function, as the kernel computes it. -/
def ls (x : EReal) : EReal := min x 0 - Ideal.log1p (Ideal.exp (0 - max x (-x)))

theorem pay_at (v : Vec Ideal S1x512x128 .f32) (b : Vec Ideal S1x128 .f32) (r : Fin 512) (j : Fin 128) :
    k0_pay6 (k0_pay2 v b) (ix3 0 r j) = ls (v (ix3 0 r j) + b (ix2 0 j)) := by
  pointwise [k0_pay6, k0_pay2]
  rfl

/-- The bias, padded to the 128 lanes. -/
def bias (b : S8.Idx → EReal) (j : Fin 128) : EReal := if h : j.val < 8 then b (ix1 ⟨j.val, h⟩) else 0

def hB (b : FVec Ideal S8 .f32) : FVec Ideal S1x128 .f32 := shapeCast S1x128 (pad S128 ![0] ![120] ![0] b (sitofp .f32 (constantI S_ 32 0#32)) pads_S8_S128_01200 h_S_) shapeCasts_S128_S1x128
theorem hB_at (b : FVec Ideal S8 .f32) (j : Fin 128) : hB b (ix2 0 j) = bias b j := by
  have e : (FloatOps.sitofp FTy.f32 0#32 : Ideal .f32) = (0 : EReal) := by
    show ((((0#32 : BitVec 32).toInt : ℝ)) : EReal) = 0
    norm_num
  pointwise [hB]
  rw [e]
  rfl

theorem after_app {Val : EltTy → Type} (l k : List (HloOp τ sig Val)) (W : Valuation τ sig Val) : StableHlo.after (l ++ k) W = StableHlo.after k (StableHlo.after l W) := by
  induction l generalizing W with
  | nil => rfl
  | cons op l ih => exact ih _

section
variable (m : (ℓ : Loc nD τ sig) → Buf (Elt Ideal) ℓ) (c : Dev nD)
/-- The bias row is made by the first operations; the others make the tables of the other two results. -/
theorem V_b : V m c main_v1 = hB (m ((c : Thread nD τ).loc main_arg1)) := by
  show StableHlo.after ((hostOps0 ++ hostOps0_1 ++ hostOps0_2) ++ [hostOps0_3, hostOps0_4, hostOps0_5, hostOps0_6, hostOps0_7, hostOps0_8, hostOps0_9, hostOps0_10, hostOps0_11, hostOps0_12, hostOps0_13, hostOps0_14, hostOps0_15, hostOps0_16].flatten) _ (Proc.devRef .tc main_v1) = _
  rw [after_app, StableHlo.after_of_forall_not_mem (b := Proc.devRef .tc main_v1) _ _ (List.forall_iff_forall_mem.mp (by
    simp only [List.flatten_cons, List.flatten_nil, List.append_nil, List.cons_append, List.nil_append, List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))]
  simp only [List.cons_append, List.nil_append, StableHlo.TRef.unary, StableHlo.TRef.binary, StableHlo.TRef.toBuf, StableHlo.TRef.ofBuf, cast_eq]
  after_results
  rfl
end

/-- A read of a whole buffer is its contents, and a store over a whole buffer leaves what is stored. -/
theorem re_v (inb) (y : S1x512x128.Idx) : (Rect.unit (s := S1x512x128) ![0, 0, 0] S1x512x128.size inb).emb y = y := funext fun a => Fin.ext (by
  fin_cases a
  · show 0 + 1 * (y 0).val = (y 0).val
    omega
  · show 0 + 1 * (y 1).val = (y 1).val
    omega
  · show 0 + 1 * (y 2).val = (y 2).val
    omega)
theorem re_b (inb) (y : S1x128.Idx) : (Rect.unit (s := S1x128) ![0, 0] S1x128.size inb).emb y = y := funext fun a => Fin.ext (by
  fin_cases a
  · show 0 + 1 * (y 0).val = (y 0).val
    omega
  · show 0 + 1 * (y 1).val = (y 1).val
    omega)
theorem rd_v (arg : Memref sig .tc .vmem S1x512x128 .f32) (harg : arg.IsWhole) (x : Vec Ideal S1x512x128 .f32) (inb) :
    arg.view.readAt (Elt Ideal) (Rect.unit (s := S1x512x128) ![0, 0, 0] S1x512x128.size inb).toLoadRect (harg.unread x) = x := by
  funext y
  rw [View.readAt_apply, harg.read_unread]
  exact congrArg x (re_v inb y)
theorem rd_b (arg : Memref sig .tc .vmem S1x128 .f32) (harg : arg.IsWhole) (x : Vec Ideal S1x128 .f32) (inb) :
    arg.view.readAt (Elt Ideal) (Rect.unit (s := S1x128) ![0, 0] S1x128.size inb).toLoadRect (harg.unread x) = x := by
  funext y
  rw [View.readAt_apply, harg.read_unread]
  exact congrArg x (re_b inb y)
theorem canon_v (inb) (p : Vec Ideal S1x512x128 .f32) : View.canon (Val := Elt Ideal) (s := S1x512x128) (e := .f32) [⟨Rect.unit (s := S1x512x128) ![0, 0, 0] S1x512x128.size inb, p⟩] = p := by
  funext y
  refine View.canon_apply_of_pieces (Val := Elt Ideal) p _ (fun q hq => ?_) _ (View.cover_of_tiled _ S1x512x128.size (by rfl) y)
  rcases List.mem_cons.mp hq with rfl | hq
  · exact fun x => congrArg _ (re_v inb x).symm
  · nomatch hq

/-- What the kernel leaves of the gates at the first block of a batch, and at the others: it does not depend on the sums carried. -/
theorem out_A (c : Dev nD) (i : grid0.Coords) (arg2 : Memref sig .tc .vmem S1x512x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S384x1024 .bf16) (harg5 : arg5.IsWhole) (arg6 : Memref sig .tc .vmem S384x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x128 .f32) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x128 .f32) (harg12 : arg12.IsWhole) (hc0 : cond0_0 i)
    (x0 : Vec Ideal S1x512x128 .f32) (x1 : Vec Ideal S1x128 .f32) (x2 : Vec Ideal S1x1x128 .f32) (x3 x4 : Vec Ideal S384x1024 .bf16) (x5 x6 : Vec Ideal S1x1024 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = k0_pay6 (k0_pay2 x0 x1) := by
  unfold out0_A_7 kernelRun0_A
  dsimp only
  sl_unfold_run_names
  rw [View.read_writes_junk_eq_canon, rd_v, rd_b]
  exact canon_v _ _
theorem out_B (c : Dev nD) (i : grid0.Coords) (arg2 : Memref sig .tc .vmem S1x512x128 .f32) (harg2 : arg2.IsWhole) (arg3 : Memref sig .tc .vmem S1x128 .f32) (harg3 : arg3.IsWhole) (arg4 : Memref sig .tc .vmem S1x1x128 .f32) (harg4 : arg4.IsWhole) (arg5 : Memref sig .tc .vmem S384x1024 .bf16) (harg5 : arg5.IsWhole) (arg6 : Memref sig .tc .vmem S384x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x128 .f32) (harg9 : arg9.IsWhole) (arg10 : Memref sig .tc .vmem S1x512x1024 .bf16) (harg10 : arg10.IsWhole) (arg11 : Memref sig .tc .vmem S1x512x1024 .bf16) (harg11 : arg11.IsWhole) (arg12 : Memref sig .tc .vmem S1x128 .f32) (harg12 : arg12.IsWhole) (hc0 : ¬cond0_0 i)
    (x0 : Vec Ideal S1x512x128 .f32) (x1 : Vec Ideal S1x128 .f32) (x2 : Vec Ideal S1x1x128 .f32) (x3 x4 : Vec Ideal S384x1024 .bf16) (x5 x6 : Vec Ideal S1x1024 .f32) (xs0 : Vec Ideal S1x128 .f32) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 = k0_pay6 (k0_pay2 x0 x1) := by
  unfold out0_B_7 kernelRun0_B
  dsimp only
  sl_unfold_run_names
  rw [View.read_writes_junk_eq_canon, rd_v, rd_b]
  exact canon_v _ _
end Cert.Proof.Gates
-- ==== Proof.GatesRef.lean ====
/- The gates as the reference computes them: the same function of the same sum. -/
module

public import proofs.«01_k».proof.Proof.Gates
public import proofs.«01_k».proof.Proof.ProjRef
public import proofs.«01_k».proof.Proof.Gen.Reference4Ideal.Read

@[expose] public section
noncomputable section
namespace Cert.Proof.Gates
open Idealize.ShloMosaic Idealize.ShloMosaic.Pointwise Cert.Reference4Ideal Cert.Reference4Ideal.Gen Cert.Reference4Ideal.Read

/-- `log (1 + e)` is above minus infinity for an exponential `e`. -/
theorem log1p_ne_bot (x : EReal) : Ideal.log1p (Ideal.exp x) ≠ ⊥ := by
  induction x with
  | bot =>
    have e : (1 : EReal) + 0 = ((1 : ℝ) : EReal) := by rw [add_zero]; rfl
    show Ideal.log (1 + 0) ≠ ⊥
    rw [e]
    show (if (1 : ℝ) ≤ 0 then (⊥ : EReal) else (Real.log 1 : EReal)) ≠ ⊥
    rw [if_neg (by norm_num)]
    exact EReal.coe_ne_bot _
  | top =>
    have e : (1 : EReal) + ⊤ = ⊤ := EReal.add_top_of_ne_bot (by decide)
    show Ideal.log (1 + ⊤) ≠ ⊥
    rw [e]
    exact top_ne_bot
  | coe r =>
    show Ideal.log (((1 : ℝ) : EReal) + ((Real.exp r : ℝ) : EReal)) ≠ ⊥
    rw [← EReal.coe_add]
    show (if 1 + Real.exp r ≤ 0 then (⊥ : EReal) else (Real.log (1 + Real.exp r) : EReal)) ≠ ⊥
    rw [if_neg (by have := Real.exp_pos r; linarith)]
    exact EReal.coe_ne_bot _

/-- Minus the softplus of minus `x`, as the reference spells it, is the kernel's spelling. -/
theorem ls_eq (x : EReal) : -(max (-x) 0 + Ideal.log1p (Ideal.exp (-(max (-x - 0) (-(-x - 0)))))) = ls x := by
  have a : max (-x) 0 ≠ ⊥ := fun h => absurd (le_max_right (-x) 0) (by rw [h]; decide)
  have e : -(max (-x) 0) = min x 0 := by
    rcases le_total x 0 with h | h
    · rw [min_eq_left h, max_eq_left (EReal.neg_nonneg.mpr h), neg_neg]
    · rw [min_eq_right h, max_eq_right (by rwa [EReal.neg_le, neg_zero]), neg_zero]
  have b : ∀ z : EReal, z - 0 = z := fun z => sub_zero z
  rw [EReal.neg_add (Or.inl a) (Or.inr (log1p_ne_bot _)), e, b, neg_neg, max_comm (-x) x]
  unfold ls
  rw [zero_sub]

/-- The whole array. -/
def gates (x0 : S16x4096x128.Idx → EReal) (x1 : S8.Idx → EReal) : S16x4096x128.Idx → EReal := fun y => ls (x0 y + bias x1 (y 2))

theorem ref_bias (x1 : S8.Idx → EReal) (b : Fin 16) (R : Fin 4096) (j : Fin 128) : val_main_v2 (F := Ideal) x1 (ix3 b R j) = bias x1 j := by
  have e : (FloatOps.sitofp FTy.f32 0#32 : Ideal .f32) = (0 : EReal) := by
    show ((((0#32 : BitVec 32).toInt : ℝ)) : EReal) = 0
    norm_num
  have i1 : idx_main_v1 (idx_main_v2 (ix3 b R j)) = ix1 j := funext fun a => by fin_cases a <;> rfl
  rw [val_main_v2_apply, val_main_v1_apply, i1]
  unfold val_main_v0 val_main_call0_v0 val_main_c
  pointwise
  rw [e]
  rfl

theorem ref_gates (x0 : S16x4096x128.Idx → EReal) (x1 : S8.Idx → EReal) : val_main_v4 (F := Ideal) x0 x1 = gates x0 x1 := by
  funext i
  obtain ⟨b, R, j, rfl⟩ := Cert.Proof.Proj.at3 i
  have z : Ideal.ofBits .f32 0x00000000#32 = 0 := Ideal.ofBits_zero_f32
  have h3 : val_main_v3 (F := Ideal) x0 x1 (ix3 b R j) = x0 (ix3 b R j) + bias x1 j := by rw [val_main_v3_apply, ref_bias]; rfl
  rw [val_main_v4_apply, val_main_call1_v1_apply, val_main_call1_call0_v4_apply, val_main_call1_call0_v11_apply, val_main_call1_call0_v10_apply, val_main_call1_call0_v9_apply, val_main_call1_call0_v8_apply, val_main_call1_call0_v7_apply,
    val_main_call1_call0_v1_apply, val_main_call1_call0_v0_apply, val_main_call1_call0_v3_apply, val_main_call1_call0_v2_apply, val_main_call1_call0_cst_apply, val_main_call1_v0_apply, h3]
  have sel : ∀ (d p q : EReal), Scalar.select (FloatOps.cmpf (F := Ideal) (φ := .f32) .une d d) p q = q := fun d p q => by
    have h : FloatOps.cmpf (F := Ideal) (φ := .f32) .une d d = 0#1 := by
      show BitVec.ofBool (decide (d ≠ d)) = 0#1
      simp
    rw [h]
    rfl
  rw [sel]
  show -(max (-(x0 (ix3 b R j) + bias x1 j)) (Ideal.ofBits .f32 0x00000000#32) + Ideal.log1p (Ideal.exp (-(max (-(x0 (ix3 b R j) + bias x1 j) - Ideal.ofBits .f32 0x00000000#32) (-(-(x0 (ix3 b R j) + bias x1 j) - Ideal.ofBits .f32 0x00000000#32)))))) = _
  rw [z]
  exact ls_eq _
end Cert.Proof.Gates
-- ==== Proof.GatesResult.lean ====
/- The array of gates the kernel leaves. -/
module

public import proofs.«01_k».proof.Proof.GatesRef
public import proofs.«01_k».proof.Proof.ProjBlocks

@[expose] public section
noncomputable section
namespace Cert.Proof.Gates
open Cert.Proof.Proj Idealize.ShloMosaic.Pointwise Cert.Kernel4Ideal Cert.Kernel4Ideal.Gen Idealize.ShloMosaic Idealize.ShloMosaic.TcCoe Idealize.ShloMosaic.Tactic Idealize.SL.Sem

/-- The grid is the projection's: 16 batches of 8 blocks of 512 tokens; a window's place is found by the same lemma. -/
theorem emb0 (t : Fin cfg0.N) (y : S1x512x128.Idx) : ((cfg0.win 0).blk t).view.emb y = ix3 (tB t) (tR t (y 1)) (y 2) :=
  at_o t y _ (win0_0.index t (0 : Fin 3)) (win0_0.index t (1 : Fin 3)) (win0_0.index t (2 : Fin 3)) (w0 t) (w1 t) rfl rfl rfl rfl
theorem emb1 (t : Fin cfg0.N) (y : S1x128.Idx) : ((cfg0.win 1).blk t).view.emb y = y :=
  at_w y _ (win0_1.index t (0 : Fin 2)) (win0_1.index t (1 : Fin 2)) rfl rfl rfl rfl
theorem emb7 (t : Fin cfg0.N) (y : S1x512x128.Idx) : ((cfg0.win 7).blk t).view.emb y = ix3 (tB t) (tR t (y 1)) (y 2) :=
  at_o t y _ (win0_7.index t (0 : Fin 3)) (win0_7.index t (1 : Fin 3)) (win0_7.index t (2 : Fin 3)) (w0 t) (w1 t) rfl rfl rfl rfl

section
variable (m : (ℓ : Loc nD τ sig) → Buf (Elt Ideal) ℓ) (c : Dev nD)

/-- The arguments. -/
abbrev A0 : S16x4096x128.Idx → EReal := m ((c : Thread nD τ).loc main_arg0)
abbrev A1 : S8.Idx → EReal := m ((c : Thread nD τ).loc main_arg1)

theorem rd0 (f : (b : Ref sig .tc) → Buf (Elt Ideal) ((c : Thread nD τ).loc b)) (t : Fin cfg0.N) (y : S1x512x128.Idx) :
    ((cfg0.win 0).blk t).view.read (Elt Ideal) (f (Pipeline.arrRef spec0 0)) y = f main_arg0 (ix3 (tB t) (tR t (y 1)) (y 2)) := by
  have h : ((cfg0.win 0).blk t).view.read (Elt Ideal) (f (Pipeline.arrRef spec0 0)) y = f main_arg0 (((cfg0.win 0).blk t).view.emb y) := rfl
  exact h.trans (congrArg _ (emb0 t y))
theorem iblk0_at (t : Fin cfg0.N) (y : S1x512x128.Idx) : iblk m c 0 t y = A0 m c (ix3 (tB t) (tR t (y 1)) (y 2)) :=
  (rd0 c (V m c) t y).trans (congrFun (V_main_arg0 m c) _)
theorem rd1 (f : (b : Ref sig .tc) → Buf (Elt Ideal) ((c : Thread nD τ).loc b)) (t : Fin cfg0.N) (y : S1x128.Idx) :
    ((cfg0.win 1).blk t).view.read (Elt Ideal) (f (Pipeline.arrRef spec0 1)) y = f main_v1 y := by
  have h : ((cfg0.win 1).blk t).view.read (Elt Ideal) (f (Pipeline.arrRef spec0 1)) y = f main_v1 (((cfg0.win 1).blk t).view.emb y) := rfl
  exact h.trans (congrArg _ (emb1 t y))
theorem iblk1_at (t : Fin cfg0.N) (y : S1x128.Idx) : iblk m c 1 t y = hB (A1 m c) y :=
  (rd1 c (V m c) t y).trans (congrFun (V_b m c) _)

theorem wr7 (G : Buf (Elt Ideal) ((c : Thread nD τ).loc main_v50_0)) (t : Fin cfg0.N) (y : S1x512x128.Idx) : ((cfg0.win 7).blk t).view.read (Elt Ideal) G y = (G : S16x4096x128.Idx → EReal) (ix3 (tB t) (tR t (y 1)) (y 2)) :=
  congrArg G (emb7 t y)
/-- Every point writes the block's gates. -/
theorem fl7 (t : Fin cfg0.N) : (dats m 0 c).flushed 7 t = ((cfg0.win 7).blk t).view.read (Elt Ideal) (gates (A0 m c) (A1 m c) : Buf (Elt Ideal) ((c : Thread nD τ).loc main_v50_0)) := by
  have h : (dats m 0 c).flushed 7 t = (cfg0.win 7).cut (grid0.coords t) (k0_pay6 (k0_pay2 (iblk m c 0 t) (iblk m c 1 t))) := by
    by_cases h0 : t.val % 8 = 0
    · rw [Cert.Kernel4Ideal.Value.flushed7_A m c t h0]
      exact congrArg _ (out_A ..)
    · rw [Cert.Kernel4Ideal.Value.flushed7_B m c t h0]
      exact congrArg _ (out_B ..)
  funext y
  refine Eq.trans ?_ (wr7 c _ t y).symm
  rw [h]
  obtain ⟨r, j, rfl⟩ : ∃ (r : Fin 512) (j : Fin 128), y = ix3 0 r j := by
    have h0 : (y 0).val < 1 := (y 0).isLt
    refine ⟨y 1, y 2, funext fun a => Fin.ext ?_⟩
    fin_cases a
    · show (y 0).val = 0
      omega
    · rfl
    · rfl
  refine (pay_at (iblk m c 0 t) (iblk m c 1 t) r j).trans ?_
  rw [iblk0_at, iblk1_at, hB_at]
  rfl
theorem arr7 : (dats m 0 c).arrAt 7 cfg0.N = (gates (A0 m c) (A1 m c) : Buf (Elt Ideal) ((c : Thread nD τ).loc main_v50_0)) := by
  refine (dats m 0 c).arrAt_eq_of_cover 7 _ (fun t _ => fl7 m c t) fun i => ?_
  have i0 : (i 0).val < 16 := (i 0).isLt
  have i1 : (i 1).val < 4096 := (i 1).isLt
  have hN : cfg0.N = 128 := N_0
  let t : Fin cfg0.N := ⟨8 * (i 0).val + (i 1).val / 512, by omega⟩
  have ht : t.val = 8 * (i 0).val + (i 1).val / 512 := rfl
  refine ⟨t, flush0_7 t, ?_⟩
  let y : S1x512x128.Idx := ix3 0 ⟨(i 1).val % 512, Nat.mod_lt _ (by decide)⟩ (i 2)
  have hi : i = ix3 (tB t) (tR t (y 1)) (y 2) := by
    refine funext fun a => Fin.ext ?_
    fin_cases a
    · show (i 0).val = t.val / 8
      omega
    · show (i 1).val = 512 * (t.val % 8) + (i 1).val % 512
      omega
    · rfl
  rw [hi, ← emb7 t y]
  exact View.emb_mem_set _ _
end
end Cert.Proof.Gates
-- ==== Proof.GateClaims.lean ====
/- The claims of the gates. -/
module

public import proofs.«01_k».proof.Defs
public import proofs.«01_k».proof.Proof.GatesResult
public import proofs.«01_k».proof.Proof.Gen.Kernel4.Frame
public import proofs.«01_k».proof.Proof.Gen.Kernel4Ideal.Value
public import proofs.«01_k».proof.Proof.Gen.Reference4Ideal.Read
public import Idealize.ShloMosaic.Adequacy

@[expose] public section
noncomputable section
namespace Cert.Proof.Gates
open Idealize.ShloMosaic Idealize.ShloMosaic.Pointwise Idealize.SL.Sem

/-- The reference leaves its arguments as they were and no semaphore behind. -/
theorem ref_frame : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The one rounded constant is named. -/
theorem named : Cert.preserves_Kernel4_Kernel4Ideal :=
  IdealRules.named_const.statement Cert.Kernel4Ideal.κ "log2e" .f32 0x3FB8AA3B#32 (((Real.log 2)⁻¹ : ℝ) : EReal) rfl

/-- The kernel and the reference end with the same gates. -/
theorem gate_values : Cert.algebraic_Kernel4Ideal_Reference4Ideal := fun m g m' g' _ ha => by
  refine ⟨fun c => gates (A0 m c) (A1 m c), ?_, ?_⟩
  · refine (θ_run Cert.Kernel4Ideal.defs _ _).mono (fun r h c => ?_) (Cert.Kernel4Ideal.Value.run_blocks m g)
    obtain ⟨h0, _, _, hr⟩ := h c
    exact ⟨h0.trans (arr7 m c), hr⟩
  · refine (θ_run Cert.Reference4Ideal.defs _ _).mono (fun r h c => ?_) (Cert.Reference4Ideal.Value.run (F := Ideal) m' g')
    obtain ⟨h0, hr⟩ := h c
    obtain ⟨a0, a1⟩ := ha c
    refine ⟨h0.trans ?_, hr⟩
    rw [Cert.Reference4Ideal.Read.val_main_v4_eq, ref_gates, a0, a1]
end Cert.Proof.Gates
-- ==== Proof.SampBody.lean ====
/- What the projection of 16 batches of 32 tokens computes from its one block, element by element. -/
module

public import proofs.«01_k».proof.Proof.ProjDefs
public import proofs.«01_k».proof.Proof.Gen.Kernel5Ideal.Frame
public import Idealize.ShloMosaic.Lib.Pointwise

@[expose] public section
noncomputable section
namespace Cert.Proof.Samp
open Idealize.ShloMosaic.Pointwise Cert.Kernel5Ideal Cert.Kernel5Ideal.Gen Idealize.ShloMosaic Cert.Proof.Proj

variable (x : Vec Ideal S16x32x1024 .f32) (g : Vec Ideal S1x1x1024 .f32) (sc sh : Vec Ideal S16x1x1024 .f32)

/-- Token `r` of batch `b`, times a column of the weights. -/
def pr (b : Fin 16) (r : Fin 32) (w : Fin 1024 → EReal) : EReal := proj (fun k => x (ix3 b r k)) (fun k => g (ix3 0 0 k)) (fun k => sc (ix3 b 0 k)) (fun k => sh (ix3 b 0 k)) w

/-- The normalized rows, laid out as one matrix of 512 rows: batch `b`'s token `r` is row `32 b + r`. -/
theorem pay2_at (b : Fin 16) (r : Fin 32) (e : Fin 1024) (h : b.val * 32 + r.val < 512) :
    k0_pay2 x g sc sh (ix2 ⟨b.val * 32 + r.val, h⟩ e) = rowH (fun k => x (ix3 b r k)) (fun k => g (ix3 0 0 k)) (fun k => sc (ix3 b 0 k)) (fun k => sh (ix3 b 0 k)) e := by
  pointwise [k0_pay2]
  rfl

theorem qscale : Named.named (F := Ideal) κ "qscale" (φ := .f32) 0x3E0293EE#32 = (((Real.log 2 * Real.sqrt 128)⁻¹ : ℝ) : EReal) :=
  IdealRules.named_const.ideal_named_scalar _ _ _ _ rfl

/-- The queries. -/
theorem pay3_at (w : Vec Ideal S1024x1024 .bf16) (b : Fin 16) (r : Fin 32) (j : Fin 1024) :
    k0_pay3 x g sc sh w (ix3 b r j) = pr x g sc sh b r (fun e => w (ix2 e j)) * (((Real.log 2 * Real.sqrt 128)⁻¹ : ℝ) : EReal) := by
  pointwise [k0_pay3]
  simp only [pay2_at, qscale]
  rfl

/-- The keys, the values, the gate: f32 and bf16. -/
theorem pay5_at (w : Vec Ideal S1024x1024 .bf16) (b : Fin 16) (r : Fin 32) (j : Fin 1024) :
    k0_pay5 (k0_pay2 x g sc sh) w (ix3 b r j) = pr x g sc sh b r (fun e => w (ix2 e j)) := by
  pointwise [k0_pay5, k0_pay4]
  simp only [pay2_at]
  rfl
theorem pay6_at (w : Vec Ideal S1024x1024 .bf16) (b : Fin 16) (r : Fin 32) (j : Fin 1024) :
    k0_pay6 (k0_pay2 x g sc sh) w (ix3 b r j) = pr x g sc sh b r (fun e => w (ix2 e j)) := by
  pointwise [k0_pay6, k0_pay4]
  simp only [pay2_at]
  rfl
theorem pay8_at (w : Vec Ideal S1024x1024 .bf16) (b : Fin 16) (r : Fin 32) (j : Fin 1024) :
    k0_pay8 (k0_pay2 x g sc sh) w (ix3 b r j) = pr x g sc sh b r (fun e => w (ix2 e j)) := by
  pointwise [k0_pay8, k0_pay7]
  simp only [pay2_at]
  rfl
theorem pay9_at (w : Vec Ideal S1024x1024 .bf16) (b : Fin 16) (r : Fin 32) (j : Fin 1024) :
    k0_pay9 (k0_pay2 x g sc sh) w (ix3 b r j) = pr x g sc sh b r (fun e => w (ix2 e j)) := by
  pointwise [k0_pay9, k0_pay7]
  simp only [pay2_at]
  rfl
theorem pay10_at (w : Vec Ideal S1024x1024 .bf16) (b : Fin 16) (r : Fin 32) (j : Fin 1024) :
    k0_pay10 (k0_pay2 x g sc sh) w (ix3 b r j) = pr x g sc sh b r (fun e => w (ix2 e j)) := by
  pointwise [k0_pay10]
  simp only [pay2_at]
  rfl
/-- The convolution's input. -/
theorem pay11_at (w : Vec Ideal S1024x1536 .bf16) (b : Fin 16) (r : Fin 32) (j : Fin 1536) :
    k0_pay11 (k0_pay2 x g sc sh) w (ix3 b r j) = pr x g sc sh b r (fun e => w (ix2 e j)) := by
  pointwise [k0_pay11]
  simp only [pay2_at]
  rfl
/-- The narrow outputs. -/
theorem pay1_at (w : Vec Ideal S1024x128 .bf16) (b : Fin 16) (r : Fin 32) (j : Fin 128) :
    k0_pay1 (k0_pay2 x g sc sh) w (ix3 b r j) = pr x g sc sh b r (fun e => w (ix2 e j)) := by
  pointwise [k0_pay1]
  simp only [pay2_at]
  rfl
end Cert.Proof.Samp
-- ==== Proof.SampHost.lean ====
/- What the host makes of the arguments for the call on the 32-token batches: as for the long ones. -/
module

public import proofs.«01_k».proof.Proof.ProjHost
public import proofs.«01_k».proof.Proof.Gen.Kernel5Ideal.Frame

@[expose] public section
noncomputable section
namespace Cert.Proof.Samp
open Cert.Proof.Proj Cert.Kernel5Ideal Cert.Kernel5Ideal.Gen Idealize.ShloMosaic Idealize.ShloMosaic.TcCoe Idealize.ShloMosaic.Tactic Idealize.SL.Sem

section
variable (m : (ℓ : Loc nD τ sig) → Buf (Elt Ideal) ℓ) (c : Dev nD)
theorem V_g : V m c main_v15 = hG (m ((c : Thread nD τ).loc main_arg1)) := by
  show StableHlo.after hostOps0 _ (Proc.devRef .tc main_v15) = _
  after_results
  rfl
theorem V_sc : V m c main_v16 = hS (m ((c : Thread nD τ).loc main_arg2)) := by
  show StableHlo.after hostOps0 _ (Proc.devRef .tc main_v16) = _
  after_results
  rfl
theorem V_sh : V m c main_v17 = hS (m ((c : Thread nD τ).loc main_arg3)) := by
  show StableHlo.after hostOps0 _ (Proc.devRef .tc main_v17) = _
  after_results
  rfl
theorem V_w0 : V m c main_v5 = hW0 (m ((c : Thread nD τ).loc main_arg4)) := by
  show StableHlo.after hostOps0 _ (Proc.devRef .tc main_v5) = _
  after_results
  rfl
theorem V_w1 : V m c main_v7 = hW1 (m ((c : Thread nD τ).loc main_arg4)) := by
  show StableHlo.after hostOps0 _ (Proc.devRef .tc main_v7) = _
  after_results
  rfl
theorem V_w2 : V m c main_v9 = hW2 (m ((c : Thread nD τ).loc main_arg4)) := by
  show StableHlo.after hostOps0 _ (Proc.devRef .tc main_v9) = _
  after_results
  rfl
theorem V_w3 : V m c main_v11 = hW3 (m ((c : Thread nD τ).loc main_arg4)) := by
  show StableHlo.after hostOps0 _ (Proc.devRef .tc main_v11) = _
  after_results
  rfl
theorem V_w4 : V m c main_v13 = hW4 (m ((c : Thread nD τ).loc main_arg4)) := by
  show StableHlo.after hostOps0 _ (Proc.devRef .tc main_v13) = _
  after_results
  rfl
theorem V_w5 : V m c main_v14 = hW5 (m ((c : Thread nD τ).loc main_arg4)) := by
  show StableHlo.after hostOps0 _ (Proc.devRef .tc main_v14) = _
  after_results
  rfl
end
end Cert.Proof.Samp
-- ==== Proof.SampBlocks.lean ====
/- The blocks of the projection of the 32-token batches: there is one grid point, and each window's block is its whole array. -/
module

public import proofs.«01_k».proof.Proof.ProjBlocks
public import proofs.«01_k».proof.Proof.SampBody
public import proofs.«01_k».proof.Proof.SampHost

@[expose] public section
noncomputable section
namespace Cert.Proof.Samp
open Cert.Proof.Proj Idealize.ShloMosaic.Pointwise Cert.Kernel5Ideal Cert.Kernel5Ideal.Gen Idealize.ShloMosaic Idealize.ShloMosaic.TcCoe Idealize.ShloMosaic.Tactic Idealize.SL.Sem

/-- Both grid coordinates are zero. -/
theorem z0 (t : Fin cfg0.N) : (BitVec.ofNat 32 (grid0.coords t 0).val).toNat = 0 := by
  have h : (grid0.coords t 0).val < 1 := (grid0.coords t 0).isLt
  rw [show (grid0.coords t 0).val = 0 by omega]
  rfl
theorem z1 (t : Fin cfg0.N) : (BitVec.ofNat 32 (grid0.coords t 1).val).toNat = 0 := by
  have h : (grid0.coords t 1).val < 1 := (grid0.coords t 1).isLt
  rw [show (grid0.coords t 1).val = 0 by omega]
  rfl

/-- The place of an element of a block that is a whole array. -/
theorem at_b {p q n : ℕ} (y z : (⟨3, ![p, q, n]⟩ : Shape).Idx) (i0 i1 i2 : ℕ) (h0 : i0 = 0) (h1 : i1 = 0) (h2 : i2 = 0)
    (e0 : (z 0).val = i0 * p + 1 * (y 0).val) (e1 : (z 1).val = i1 * q + 1 * (y 1).val) (e2 : (z 2).val = i2 * n + 1 * (y 2).val) : z = y := by
  refine funext fun a => Fin.ext ?_
  fin_cases a
  · refine e0.trans ?_
    show i0 * p + 1 * (y 0).val = (y 0).val
    rw [h0]; omega
  · refine e1.trans ?_
    show i1 * q + 1 * (y 1).val = (y 1).val
    rw [h1]; omega
  · refine e2.trans ?_
    show i2 * n + 1 * (y 2).val = (y 2).val
    rw [h2]; omega

theorem emb0 (t : Fin cfg0.N) (y : S16x32x1024.Idx) : ((cfg0.win 0).blk t).view.emb y = y :=
  at_b y _ (win0_0.index t (0 : Fin 3)) (win0_0.index t (1 : Fin 3)) (win0_0.index t (2 : Fin 3)) (z0 t) (z1 t) rfl rfl rfl rfl
theorem emb1 (t : Fin cfg0.N) (y : S1x1x1024.Idx) : ((cfg0.win 1).blk t).view.emb y = y :=
  at_b y _ (win0_1.index t (0 : Fin 3)) (win0_1.index t (1 : Fin 3)) (win0_1.index t (2 : Fin 3)) rfl rfl rfl rfl rfl rfl
theorem emb2 (t : Fin cfg0.N) (y : S16x1x1024.Idx) : ((cfg0.win 2).blk t).view.emb y = y :=
  at_b y _ (win0_2.index t (0 : Fin 3)) (win0_2.index t (1 : Fin 3)) (win0_2.index t (2 : Fin 3)) (z0 t) rfl rfl rfl rfl rfl
theorem emb3 (t : Fin cfg0.N) (y : S16x1x1024.Idx) : ((cfg0.win 3).blk t).view.emb y = y :=
  at_b y _ (win0_3.index t (0 : Fin 3)) (win0_3.index t (1 : Fin 3)) (win0_3.index t (2 : Fin 3)) (z0 t) rfl rfl rfl rfl rfl
theorem emb10 (t : Fin cfg0.N) (y : S16x32x1024.Idx) : ((cfg0.win 10).blk t).view.emb y = y :=
  at_b y _ (win0_10.index t (0 : Fin 3)) (win0_10.index t (1 : Fin 3)) (win0_10.index t (2 : Fin 3)) (z0 t) (z1 t) rfl rfl rfl rfl
theorem emb11 (t : Fin cfg0.N) (y : S16x32x1024.Idx) : ((cfg0.win 11).blk t).view.emb y = y :=
  at_b y _ (win0_11.index t (0 : Fin 3)) (win0_11.index t (1 : Fin 3)) (win0_11.index t (2 : Fin 3)) (z0 t) (z1 t) rfl rfl rfl rfl
theorem emb12 (t : Fin cfg0.N) (y : S16x32x1024.Idx) : ((cfg0.win 12).blk t).view.emb y = y :=
  at_b y _ (win0_12.index t (0 : Fin 3)) (win0_12.index t (1 : Fin 3)) (win0_12.index t (2 : Fin 3)) (z0 t) (z1 t) rfl rfl rfl rfl
theorem emb13 (t : Fin cfg0.N) (y : S16x32x1024.Idx) : ((cfg0.win 13).blk t).view.emb y = y :=
  at_b y _ (win0_13.index t (0 : Fin 3)) (win0_13.index t (1 : Fin 3)) (win0_13.index t (2 : Fin 3)) (z0 t) (z1 t) rfl rfl rfl rfl
theorem emb14 (t : Fin cfg0.N) (y : S16x32x1024.Idx) : ((cfg0.win 14).blk t).view.emb y = y :=
  at_b y _ (win0_14.index t (0 : Fin 3)) (win0_14.index t (1 : Fin 3)) (win0_14.index t (2 : Fin 3)) (z0 t) (z1 t) rfl rfl rfl rfl
theorem emb15 (t : Fin cfg0.N) (y : S16x32x1024.Idx) : ((cfg0.win 15).blk t).view.emb y = y :=
  at_b y _ (win0_15.index t (0 : Fin 3)) (win0_15.index t (1 : Fin 3)) (win0_15.index t (2 : Fin 3)) (z0 t) (z1 t) rfl rfl rfl rfl
theorem emb16 (t : Fin cfg0.N) (y : S16x32x1536.Idx) : ((cfg0.win 16).blk t).view.emb y = y :=
  at_b y _ (win0_16.index t (0 : Fin 3)) (win0_16.index t (1 : Fin 3)) (win0_16.index t (2 : Fin 3)) (z0 t) (z1 t) rfl rfl rfl rfl
theorem emb17 (t : Fin cfg0.N) (y : S16x32x128.Idx) : ((cfg0.win 17).blk t).view.emb y = y :=
  at_b y _ (win0_17.index t (0 : Fin 3)) (win0_17.index t (1 : Fin 3)) (win0_17.index t (2 : Fin 3)) (z0 t) (z1 t) rfl rfl rfl rfl
theorem emb4 (t : Fin cfg0.N) (y : S1024x1024.Idx) : ((cfg0.win 4).blk t).view.emb y = y :=
  at_w y _ (win0_4.index t (0 : Fin 2)) (win0_4.index t (1 : Fin 2)) rfl rfl rfl rfl
theorem emb5 (t : Fin cfg0.N) (y : S1024x1024.Idx) : ((cfg0.win 5).blk t).view.emb y = y :=
  at_w y _ (win0_5.index t (0 : Fin 2)) (win0_5.index t (1 : Fin 2)) rfl rfl rfl rfl
theorem emb6 (t : Fin cfg0.N) (y : S1024x1024.Idx) : ((cfg0.win 6).blk t).view.emb y = y :=
  at_w y _ (win0_6.index t (0 : Fin 2)) (win0_6.index t (1 : Fin 2)) rfl rfl rfl rfl
theorem emb7 (t : Fin cfg0.N) (y : S1024x1024.Idx) : ((cfg0.win 7).blk t).view.emb y = y :=
  at_w y _ (win0_7.index t (0 : Fin 2)) (win0_7.index t (1 : Fin 2)) rfl rfl rfl rfl
theorem emb8 (t : Fin cfg0.N) (y : S1024x1536.Idx) : ((cfg0.win 8).blk t).view.emb y = y :=
  at_w y _ (win0_8.index t (0 : Fin 2)) (win0_8.index t (1 : Fin 2)) rfl rfl rfl rfl
theorem emb9 (t : Fin cfg0.N) (y : S1024x128.Idx) : ((cfg0.win 9).blk t).view.emb y = y :=
  at_w y _ (win0_9.index t (0 : Fin 2)) (win0_9.index t (1 : Fin 2)) rfl rfl rfl rfl

section
variable (m : (ℓ : Loc nD τ sig) → Buf (Elt Ideal) ℓ) (c : Dev nD)

/-- The arguments. -/
abbrev A0 : S16x32x1024.Idx → EReal := m ((c : Thread nD τ).loc main_arg0)
abbrev A1 : S1024.Idx → EReal := m ((c : Thread nD τ).loc main_arg1)
abbrev A2 : S16x1024.Idx → EReal := m ((c : Thread nD τ).loc main_arg2)
abbrev A3 : S16x1024.Idx → EReal := m ((c : Thread nD τ).loc main_arg3)
abbrev A4 : S1024x5656.Idx → EReal := m ((c : Thread nD τ).loc main_arg4)

theorem rd0 (f : (b : Ref sig .tc) → Buf (Elt Ideal) ((c : Thread nD τ).loc b)) (t : Fin cfg0.N) (y : S16x32x1024.Idx) :
    ((cfg0.win 0).blk t).view.read (Elt Ideal) (f (Pipeline.arrRef spec0 0)) y = f main_arg0 y :=
  congrArg (f main_arg0) (emb0 t y)
theorem iblk0_at (t : Fin cfg0.N) (y : S16x32x1024.Idx) : iblk m c 0 t y = A0 m c y :=
  (rd0 c (V m c) t y).trans (congrFun (V_main_arg0 m c) _)
theorem rd1 (f : (b : Ref sig .tc) → Buf (Elt Ideal) ((c : Thread nD τ).loc b)) (t : Fin cfg0.N) (y : S1x1x1024.Idx) :
    ((cfg0.win 1).blk t).view.read (Elt Ideal) (f (Pipeline.arrRef spec0 1)) y = f main_v15 y :=
  congrArg (f main_v15) (emb1 t y)
theorem iblk1_at (t : Fin cfg0.N) (y : S1x1x1024.Idx) : iblk m c 1 t y = hG (A1 m c) y :=
  (rd1 c (V m c) t y).trans (congrFun (V_g m c) _)
theorem rd2 (f : (b : Ref sig .tc) → Buf (Elt Ideal) ((c : Thread nD τ).loc b)) (t : Fin cfg0.N) (y : S16x1x1024.Idx) :
    ((cfg0.win 2).blk t).view.read (Elt Ideal) (f (Pipeline.arrRef spec0 2)) y = f main_v16 y :=
  congrArg (f main_v16) (emb2 t y)
theorem iblk2_at (t : Fin cfg0.N) (y : S16x1x1024.Idx) : iblk m c 2 t y = Cert.Proof.Proj.hS (A2 m c) y :=
  (rd2 c (V m c) t y).trans (congrFun (V_sc m c) _)
theorem rd3 (f : (b : Ref sig .tc) → Buf (Elt Ideal) ((c : Thread nD τ).loc b)) (t : Fin cfg0.N) (y : S16x1x1024.Idx) :
    ((cfg0.win 3).blk t).view.read (Elt Ideal) (f (Pipeline.arrRef spec0 3)) y = f main_v17 y :=
  congrArg (f main_v17) (emb3 t y)
theorem iblk3_at (t : Fin cfg0.N) (y : S16x1x1024.Idx) : iblk m c 3 t y = hS (A3 m c) y :=
  (rd3 c (V m c) t y).trans (congrFun (V_sh m c) _)
theorem rd4 (f : (b : Ref sig .tc) → Buf (Elt Ideal) ((c : Thread nD τ).loc b)) (t : Fin cfg0.N) (y : S1024x1024.Idx) :
    ((cfg0.win 4).blk t).view.read (Elt Ideal) (f (Pipeline.arrRef spec0 4)) y = f main_v5 y :=
  congrArg (f main_v5) (emb4 t y)
theorem iblk4_at (t : Fin cfg0.N) (y : S1024x1024.Idx) : iblk m c 4 t y = hW0 (A4 m c) y :=
  (rd4 c (V m c) t y).trans (congrFun (V_w0 m c) _)
theorem rd5 (f : (b : Ref sig .tc) → Buf (Elt Ideal) ((c : Thread nD τ).loc b)) (t : Fin cfg0.N) (y : S1024x1024.Idx) :
    ((cfg0.win 5).blk t).view.read (Elt Ideal) (f (Pipeline.arrRef spec0 5)) y = f main_v7 y :=
  congrArg (f main_v7) (emb5 t y)
theorem iblk5_at (t : Fin cfg0.N) (y : S1024x1024.Idx) : iblk m c 5 t y = hW1 (A4 m c) y :=
  (rd5 c (V m c) t y).trans (congrFun (V_w1 m c) _)
theorem rd6 (f : (b : Ref sig .tc) → Buf (Elt Ideal) ((c : Thread nD τ).loc b)) (t : Fin cfg0.N) (y : S1024x1024.Idx) :
    ((cfg0.win 6).blk t).view.read (Elt Ideal) (f (Pipeline.arrRef spec0 6)) y = f main_v9 y :=
  congrArg (f main_v9) (emb6 t y)
theorem iblk6_at (t : Fin cfg0.N) (y : S1024x1024.Idx) : iblk m c 6 t y = hW2 (A4 m c) y :=
  (rd6 c (V m c) t y).trans (congrFun (V_w2 m c) _)
theorem rd7 (f : (b : Ref sig .tc) → Buf (Elt Ideal) ((c : Thread nD τ).loc b)) (t : Fin cfg0.N) (y : S1024x1024.Idx) :
    ((cfg0.win 7).blk t).view.read (Elt Ideal) (f (Pipeline.arrRef spec0 7)) y = f main_v11 y :=
  congrArg (f main_v11) (emb7 t y)
theorem iblk7_at (t : Fin cfg0.N) (y : S1024x1024.Idx) : iblk m c 7 t y = hW3 (A4 m c) y :=
  (rd7 c (V m c) t y).trans (congrFun (V_w3 m c) _)
theorem rd8 (f : (b : Ref sig .tc) → Buf (Elt Ideal) ((c : Thread nD τ).loc b)) (t : Fin cfg0.N) (y : S1024x1536.Idx) :
    ((cfg0.win 8).blk t).view.read (Elt Ideal) (f (Pipeline.arrRef spec0 8)) y = f main_v13 y :=
  congrArg (f main_v13) (emb8 t y)
theorem iblk8_at (t : Fin cfg0.N) (y : S1024x1536.Idx) : iblk m c 8 t y = hW4 (A4 m c) y :=
  (rd8 c (V m c) t y).trans (congrFun (V_w4 m c) _)
theorem rd9 (f : (b : Ref sig .tc) → Buf (Elt Ideal) ((c : Thread nD τ).loc b)) (t : Fin cfg0.N) (y : S1024x128.Idx) :
    ((cfg0.win 9).blk t).view.read (Elt Ideal) (f (Pipeline.arrRef spec0 9)) y = f main_v14 y :=
  congrArg (f main_v14) (emb9 t y)
theorem iblk9_at (t : Fin cfg0.N) (y : S1024x128.Idx) : iblk m c 9 t y = hW5 (A4 m c) y :=
  (rd9 c (V m c) t y).trans (congrFun (V_w5 m c) _)
end
end Cert.Proof.Samp
-- ==== Proof.SampRef.lean ====
/- The reference's projection of 16 batches of 32 tokens at one index, and the whole arrays both programs end with. -/
module

public import proofs.«01_k».proof.Proof.ProjDefs
public import proofs.«01_k».proof.Proof.ProjRef
public import proofs.«01_k».proof.Proof.Gen.Reference5Ideal.Read
public import Idealize.ShloMosaic.Lib.Pointwise

@[expose] public section
noncomputable section
namespace Cert.Proof.Samp
open Cert.Proof.Proj Idealize.ShloMosaic Idealize.ShloMosaic.Pointwise Cert.Reference5Ideal Cert.Reference5Ideal.Gen Cert.Reference5Ideal.Read

variable (x0 : S16x32x1024.Idx → EReal) (x1 : S1024.Idx → EReal) (x2 x3 : S16x1024.Idx → EReal) (x4 : S1024x5656.Idx → EReal)

/-- The projection of token `R` of batch `b` on column `j`. -/
def pj (b : Fin 16) (R : Fin 32) (j : Fin 5656) : EReal :=
  proj (fun k => x0 (ix3 b R k)) (fun k => x1 (ix1 k)) (fun k => x2 (ix2 b k)) (fun k => x3 (ix2 b k)) (fun e => x4 (ix2 e j))

/-- The scaled queries; a cut of 1024 columns; the convolution's input; the narrow outputs. -/
def oQ : S16x32x1024.Idx → EReal := fun y => pj x0 x1 x2 x3 x4 (y 0) (y 1) ⟨0 + (y 2).val, by have : (y 2).val < 1024 := (y 2).isLt; omega⟩ * (((Real.log 2 * Real.sqrt 128)⁻¹ : ℝ) : EReal)
def oC (o : ℕ) (h : o + 1024 ≤ 5656) : S16x32x1024.Idx → EReal := fun y => pj x0 x1 x2 x3 x4 (y 0) (y 1) ⟨o + (y 2).val, by have : (y 2).val < 1024 := (y 2).isLt; omega⟩
def oX : S16x32x1536.Idx → EReal := fun y => pj x0 x1 x2 x3 x4 (y 0) (y 1) ⟨4104 + (y 2).val, by have : (y 2).val < 1536 := (y 2).isLt; omega⟩
def sm (b : Fin 16) (R : Fin 32) (j : Fin 128) : EReal :=
  if h : j.val < 8 then pj x0 x1 x2 x3 x4 b R ⟨3072 + j.val, by omega⟩
  else if h' : j.val - 8 < 16 then pj x0 x1 x2 x3 x4 b R ⟨5640 + (j.val - 8), by omega⟩ else 0
def oS : S16x32x128.Idx → EReal := fun y => sm x0 x1 x2 x3 x4 (y 0) (y 1) (y 2)

/-- The normalized, scaled and shifted array. -/
theorem ref_h (b : Fin 16) (R : Fin 32) (e : Fin 1024) :
    val_main_v20 (F := Ideal) x0 x1 x2 x3 (ix3 b R e) = rowH (fun k => x0 (ix3 b R k)) (fun k => x1 (ix1 k)) (fun k => x2 (ix2 b k)) (fun k => x3 (ix2 b k)) e := by
  have e1 : idx_main_v2 (idx_main_v8 (ix3 b R e)) = ix2 b R := funext fun a => by fin_cases a <;> rfl
  have e2 : ∀ k, idx_main_v1 (ix2 b R) k = ix3 b R k := fun k => funext fun a => by fin_cases a <;> rfl
  have e3 : idx_main_v10 (idx_main_v11 (ix3 b R e)) = ix1 e := funext fun a => by fin_cases a <;> rfl
  have e4 : idx_main_v13 (idx_main_v16 (ix3 b R e)) = ix2 b e := funext fun a => by fin_cases a <;> rfl
  have e5 : idx_main_v18 (idx_main_v19 (ix3 b R e)) = ix2 b e := funext fun a => by fin_cases a <;> rfl
  rw [val_main_v20_apply, val_main_v17_apply, val_main_v12_apply, val_main_v9_apply, val_main_v8_apply, val_main_v7_apply, val_main_v6_apply, val_main_v4_apply, val_main_v2_apply, e1, val_main_v1_apply,
    val_main_v3_apply, val_main_v5_apply, val_main_v11_apply, val_main_v10_apply, e3, val_main_v16_apply, val_main_v15_apply, val_main_v14_apply, val_main_v13_apply, e4, val_main_v19_apply, val_main_v18_apply, e5,
    val_main_cst_apply, val_main_cst_0_apply, val_main_cst_1_apply, val_main_cst_2_apply]
  simp only [e2, val_main_v0_apply, pointwise, Ideal.mulf_def, Ideal.addf_def, Ideal.hostDivf_def, Ideal.hostUnary_rsqrt_def, Ideal.ofBits_def, Ideal.ofBits_zero_f32, Ideal.ofBits_one_f32, zero_add]
  rfl

/-- The product with the weights. -/
theorem ref_p (b : Fin 16) (R : Fin 32) (j : Fin 5656) : val_main_v21 (F := Ideal) x0 x1 x2 x3 x4 (ix3 b R j) = pj x0 x1 x2 x3 x4 b R j := by
  rw [val_main_v21_apply]
  unfold pj proj
  refine Finset.sum_congr rfl fun e _ => ?_
  have el : lidx_main_v21 (ix3 b R j) e = ix3 b R e := funext fun a => by fin_cases a <;> rfl
  have er : ridx_main_v21 (ix3 b R j) e = ix2 e j := funext fun a => by fin_cases a <;> rfl
  rw [el, er, ref_h]

theorem ref_scale (i : S_.Idx) : val_main_v32 (F := Ideal) i = (((Real.log 2 * Real.sqrt 128)⁻¹ : ℝ) : EReal) := by
  have e : val_main_v32 (F := Ideal) i = Cert.Proof.hS i := rfl
  rw [e, Cert.Proof.hS_at, one_div, div_eq_mul_inv, mul_inv]

theorem ref_q : val_main_v37 (F := Ideal) x0 x1 x2 x3 x4 = oQ x0 x1 x2 x3 x4 := by
  funext i
  obtain ⟨b, R, j, rfl⟩ := at3 i
  have e : idx_main_v22 (ix3 b R j) = ix3 b R ⟨0 + j.val, by omega⟩ := funext fun a => Fin.ext (by fin_cases a <;> first | rfl | exact (Nat.zero_add _).symm)
  rw [val_main_v37_apply, val_main_v34_apply, val_main_v33_apply, ref_scale, val_main_v22_apply, e, ref_p]
  rfl
theorem ref_k : val_main_v23 (F := Ideal) x0 x1 x2 x3 x4 = oC x0 x1 x2 x3 x4 1024 (by decide) := by
  funext i
  obtain ⟨b, R, j, rfl⟩ := at3 i
  have e : idx_main_v23 (ix3 b R j) = ix3 b R ⟨1024 + j.val, by omega⟩ := funext fun a => by fin_cases a <;> rfl
  rw [val_main_v23_apply, e, ref_p]
  rfl
theorem ref_v : val_main_v24 (F := Ideal) x0 x1 x2 x3 x4 = oC x0 x1 x2 x3 x4 2048 (by decide) := by
  funext i
  obtain ⟨b, R, j, rfl⟩ := at3 i
  have e : idx_main_v24 (ix3 b R j) = ix3 b R ⟨2048 + j.val, by omega⟩ := funext fun a => by fin_cases a <;> rfl
  rw [val_main_v24_apply, e, ref_p]
  rfl
theorem ref_kb : val_main_v38 (F := Ideal) x0 x1 x2 x3 x4 = oC x0 x1 x2 x3 x4 1024 (by decide) :=
  funext fun i => (val_main_v38_apply (F := Ideal) x0 x1 x2 x3 x4 i).trans (congrFun (ref_k x0 x1 x2 x3 x4) i)
theorem ref_vb : val_main_v39 (F := Ideal) x0 x1 x2 x3 x4 = oC x0 x1 x2 x3 x4 2048 (by decide) :=
  funext fun i => (val_main_v39_apply (F := Ideal) x0 x1 x2 x3 x4 i).trans (congrFun (ref_v x0 x1 x2 x3 x4) i)
theorem ref_z : val_main_v26 (F := Ideal) x0 x1 x2 x3 x4 = oC x0 x1 x2 x3 x4 3080 (by decide) := by
  funext i
  obtain ⟨b, R, j, rfl⟩ := at3 i
  have e : idx_main_v26 (ix3 b R j) = ix3 b R ⟨3080 + j.val, by omega⟩ := funext fun a => by fin_cases a <;> rfl
  rw [val_main_v26_apply, e, ref_p]
  rfl
theorem ref_x : val_main_v27 (F := Ideal) x0 x1 x2 x3 x4 = oX x0 x1 x2 x3 x4 := by
  funext i
  obtain ⟨b, R, j, rfl⟩ := at3 i
  have e : idx_main_v27 (ix3 b R j) = ix3 b R ⟨4104 + j.val, by omega⟩ := funext fun a => by fin_cases a <;> rfl
  rw [val_main_v27_apply, e, ref_p]
  rfl

/-- The padding value is zero. -/
theorem ref_pad0 (i : S_.Idx) : val_main_call0_v0 (F := Ideal) i = 0 := by
  rw [val_main_call0_v0_apply, val_main_c_apply]
  show ((((0#32 : BitVec 32).toInt : ℝ)) : EReal) = 0
  norm_num

theorem ref_small : val_main_v36 (F := Ideal) x0 x1 x2 x3 x4 = oS x0 x1 x2 x3 x4 := by
  funext i
  obtain ⟨b, R, j, rfl⟩ := at3 i
  have e25 : ∀ k : Fin 8, val_main_v25 (F := Ideal) x0 x1 x2 x3 x4 (ix3 b R k) = pj x0 x1 x2 x3 x4 b R ⟨3072 + k.val, by omega⟩ := fun k => by
    rw [val_main_v25_apply]
    exact (congrArg _ (funext fun a => by fin_cases a <;> rfl)).trans (ref_p x0 x1 x2 x3 x4 b R _)
  have e28 : ∀ k : Fin 16, val_main_v28 (F := Ideal) x0 x1 x2 x3 x4 (ix3 b R k) = pj x0 x1 x2 x3 x4 b R ⟨5640 + k.val, by omega⟩ := fun k => by
    rw [val_main_v28_apply]
    exact (congrArg _ (funext fun a => by fin_cases a <;> rfl)).trans (ref_p x0 x1 x2 x3 x4 b R _)
  unfold val_main_v36 val_main_v35
  generalize val_main_v25 (F := Ideal) x0 x1 x2 x3 x4 = y at e25
  generalize val_main_v28 (F := Ideal) x0 x1 x2 x3 x4 = z at e28
  pointwise
  simp only [e25, e28, ref_pad0]
  show _ = sm x0 x1 x2 x3 x4 b R j
  unfold sm
  by_cases h1 : j.val < 8
  · rw [dif_pos (by omega), dif_pos h1, dif_pos h1]
  · by_cases h2 : j.val - 8 < 16
    · rw [dif_pos (by omega), dif_neg h1, dif_neg h1, dif_pos h2]
    · rw [dif_neg (by omega), dif_neg h1, dif_neg h2]
end Cert.Proof.Samp
-- ==== Proof.SampResult.lean ====
/- The arrays the projection of the 32-token batches leaves. -/
module

public import proofs.«01_k».proof.Proof.SampBlocks
public import proofs.«01_k».proof.Proof.SampRef
public import proofs.«01_k».proof.Proof.ProjResult

@[expose] public section
noncomputable section
namespace Cert.Proof.Samp
open Cert.Proof.Proj Idealize.ShloMosaic.Pointwise Cert.Kernel5Ideal Cert.Kernel5Ideal.Gen Idealize.ShloMosaic Idealize.ShloMosaic.TcCoe Idealize.ShloMosaic.Tactic Idealize.SL.Sem

theorem ld0 (x : Vec Ideal S16x32x1024 .f32) : View.ld x r0_0 = x := View.ld_unit_zero Cert.Proof.Proj.o3 _ x
theorem ld1 (x : Vec Ideal S1x1x1024 .f32) : View.ld x r0_1 = x := View.ld_unit_zero Cert.Proof.Proj.o3 _ x
theorem ld2 (x : Vec Ideal S16x1x1024 .f32) : View.ld x r0_2 = x := View.ld_unit_zero Cert.Proof.Proj.o3 _ x
theorem ld3 (x : Vec Ideal S1024x1024 .bf16) : View.ld x r0_3 = x := View.ld_unit_zero Cert.Proof.Proj.o2 _ x
theorem ld4 (x : Vec Ideal S1024x1536 .bf16) : View.ld x r0_4 = x := View.ld_unit_zero Cert.Proof.Proj.o2 _ x
theorem ld6 (x : Vec Ideal S1024x128 .bf16) : View.ld x r0_6 = x := View.ld_unit_zero Cert.Proof.Proj.o2 _ x

/-- Two arrays are equal if they are at each batch, row and column. -/
theorem ext_b {p q n : ℕ} {F G : (⟨3, ![p, q, n]⟩ : Shape).Idx → EReal} (h : ∀ b r j, F (ix3 b r j) = G (ix3 b r j)) : F = G := funext fun y => by
  obtain ⟨b, r, j, rfl⟩ := at3 y
  exact h b r j

section
variable (x0 : Vec Ideal S16x32x1024 .f32) (x1 : Vec Ideal S1x1x1024 .f32) (x2 x3 : Vec Ideal S16x1x1024 .f32) (x4 x5 x6 x7 : Vec Ideal S1024x1024 .bf16) (x8 : Vec Ideal S1024x1536 .bf16) (x9 : Vec Ideal S1024x128 .bf16)

theorem pay12 : k0_pay12 x0 x1 x2 x3 x4 x5 x6 x7 x8 x9 = k0_pay2 x0 x1 x2 x3 := by
  unfold k0_pay12
  rw [ld0, ld1, ld2, ld2]
theorem out10_at (b : Fin 16) (r : Fin 32) (j : Fin 1024) : out0_10 x0 x1 x2 x3 x4 x5 x6 x7 x8 x9 (ix3 b r j) = pr x0 x1 x2 x3 b r (fun e => x4 (ix2 e j)) * (((Real.log 2 * Real.sqrt 128)⁻¹ : ℝ) : EReal) := by
  unfold out0_10
  rw [ld0, ld1, ld2, ld2, ld3]
  rw [View.canon_unit_zero (Val := Elt Ideal) Cert.Proof.Proj.o3]
  exact pay3_at x0 x1 x2 x3 x4 b r j
theorem out11_at (b : Fin 16) (r : Fin 32) (j : Fin 1024) : out0_11 x0 x1 x2 x3 x4 x5 x6 x7 x8 x9 (ix3 b r j) = pr x0 x1 x2 x3 b r (fun e => x5 (ix2 e j)) := by
  unfold out0_11
  rw [pay12, ld3]
  rw [View.canon_unit_zero (Val := Elt Ideal) Cert.Proof.Proj.o3]
  exact pay5_at x0 x1 x2 x3 x5 b r j
theorem out12_at (b : Fin 16) (r : Fin 32) (j : Fin 1024) : out0_12 x0 x1 x2 x3 x4 x5 x6 x7 x8 x9 (ix3 b r j) = pr x0 x1 x2 x3 b r (fun e => x6 (ix2 e j)) := by
  unfold out0_12
  rw [pay12, ld3]
  rw [View.canon_unit_zero (Val := Elt Ideal) Cert.Proof.Proj.o3]
  exact pay8_at x0 x1 x2 x3 x6 b r j
theorem out13_at (b : Fin 16) (r : Fin 32) (j : Fin 1024) : out0_13 x0 x1 x2 x3 x4 x5 x6 x7 x8 x9 (ix3 b r j) = pr x0 x1 x2 x3 b r (fun e => x5 (ix2 e j)) := by
  unfold out0_13
  rw [pay12, ld3]
  rw [View.canon_unit_zero (Val := Elt Ideal) Cert.Proof.Proj.o3]
  exact pay6_at x0 x1 x2 x3 x5 b r j
theorem out14_at (b : Fin 16) (r : Fin 32) (j : Fin 1024) : out0_14 x0 x1 x2 x3 x4 x5 x6 x7 x8 x9 (ix3 b r j) = pr x0 x1 x2 x3 b r (fun e => x6 (ix2 e j)) := by
  unfold out0_14
  rw [pay12, ld3]
  rw [View.canon_unit_zero (Val := Elt Ideal) Cert.Proof.Proj.o3]
  exact pay9_at x0 x1 x2 x3 x6 b r j
theorem out15_at (b : Fin 16) (r : Fin 32) (j : Fin 1024) : out0_15 x0 x1 x2 x3 x4 x5 x6 x7 x8 x9 (ix3 b r j) = pr x0 x1 x2 x3 b r (fun e => x7 (ix2 e j)) := by
  unfold out0_15
  rw [pay12, ld3]
  rw [View.canon_unit_zero (Val := Elt Ideal) Cert.Proof.Proj.o3]
  exact pay10_at x0 x1 x2 x3 x7 b r j
theorem out16_at (b : Fin 16) (r : Fin 32) (j : Fin 1536) : out0_16 x0 x1 x2 x3 x4 x5 x6 x7 x8 x9 (ix3 b r j) = pr x0 x1 x2 x3 b r (fun e => x8 (ix2 e j)) := by
  unfold out0_16
  rw [pay12, ld4]
  rw [View.canon_unit_zero (Val := Elt Ideal) Cert.Proof.Proj.o3]
  exact pay11_at x0 x1 x2 x3 x8 b r j
theorem out17_at (b : Fin 16) (r : Fin 32) (j : Fin 128) : out0_17 x0 x1 x2 x3 x4 x5 x6 x7 x8 x9 (ix3 b r j) = pr x0 x1 x2 x3 b r (fun e => x9 (ix2 e j)) := by
  unfold out0_17
  rw [pay12, ld6]
  rw [View.canon_unit_zero (Val := Elt Ideal) Cert.Proof.Proj.o3]
  exact pay1_at x0 x1 x2 x3 x9 b r j
end

theorem pr_of (x : Vec Ideal S16x32x1024 .f32) (g : Vec Ideal S1x1x1024 .f32) (sc sh : Vec Ideal S16x1x1024 .f32) (b : Fin 16) (r : Fin 32) (w X G A B W : Fin 1024 → EReal) (h0 : ∀ k, x (ix3 b r k) = X k) (h1 : ∀ k, g (ix3 0 0 k) = G k)
    (h2 : ∀ k, sc (ix3 b 0 k) = A k) (h3 : ∀ k, sh (ix3 b 0 k) = B k) (hw : ∀ k, w k = W k) : pr x g sc sh b r w = proj X G A B W := by
  unfold pr
  rw [funext h0, funext h1, funext h2, funext h3, funext hw]

/-- A zero column gives zero. -/
theorem pr_zero (x : Vec Ideal S16x32x1024 .f32) (g : Vec Ideal S1x1x1024 .f32) (sc sh : Vec Ideal S16x1x1024 .f32) (b : Fin 16) (r : Fin 32) (w : Fin 1024 → EReal) (hw : ∀ e, w e = 0) : pr x g sc sh b r w = 0 := by
  unfold pr proj
  exact Finset.sum_eq_zero fun e _ => by rw [hw, mul_zero]

section
variable (m : (ℓ : Loc nD τ sig) → Buf (Elt Ideal) ℓ) (c : Dev nD)

/-- A projection of a row of the block is the projection of its token. -/
theorem pr_pj (t : Fin cfg0.N) (b : Fin 16) (r : Fin 32) (w : Fin 1024 → EReal) (j : Fin 5656) (hw : ∀ e, w e = A4 m c (ix2 e j)) :
    pr (iblk m c 0 t) (iblk m c 1 t) (iblk m c 2 t) (iblk m c 3 t) b r w = pj (A0 m c) (A1 m c) (A2 m c) (A3 m c) (A4 m c) b r j :=
  pr_of _ _ _ _ b r w _ _ _ _ _ (fun k => iblk0_at m c t _) (fun k => (iblk1_at m c t _).trans (hG_at _ k)) (fun k => (iblk2_at m c t _).trans (Cert.Proof.Proj.hS_at _ b k)) (fun k => (iblk3_at m c t _).trans (Cert.Proof.Proj.hS_at _ b k)) hw

/-- A result whose every point writes its block of one array, and whose blocks cover that array, ends as it. -/
theorem arr_of (W : Fin cfg0.W) (G : Buf (Elt Ideal) ((cfg0.win W).arr.view.loc (c.tc : Thread nD τ))) (hG : ∀ t, (dats m 0 c).flushed W t = ((cfg0.win W).blk t).view.read (Elt Ideal) G)
    (hf : ∀ t, (cfg0.win W).flush t = true) (hc : ∀ i : ((cfg0.win W).arr.view.loc (c.tc : Thread nD τ)).2.ty.Idx, ∃ t y, i = ((cfg0.win W).blk t).view.emb y) : (dats m 0 c).arrAt W cfg0.N = G :=
  (dats m 0 c).arrAt_eq_of_cover W G (fun t _ => hG t) fun i => by
    obtain ⟨t, y, e⟩ := hc i
    exact ⟨t, hf t, by rw [e]; exact View.emb_mem_set _ y⟩

theorem wr10 (G : Buf (Elt Ideal) ((c : Thread nD τ).loc main_v18_0)) (t : Fin cfg0.N) (y : S16x32x1024.Idx) : ((cfg0.win 10).blk t).view.read (Elt Ideal) G y = (G : S16x32x1024.Idx → EReal) y :=
  congrArg G (emb10 t y)
theorem fl10 (t : Fin cfg0.N) : (dats m 0 c).flushed 10 t = ((cfg0.win 10).blk t).view.read (Elt Ideal) (oQ (A0 m c) (A1 m c) (A2 m c) (A3 m c) (A4 m c) : Buf (Elt Ideal) ((c : Thread nD τ).loc main_v18_0)) :=
  (congrArg ((cfg0.win 10).cut (grid0.coords t)) (after0_10 m c t)).trans (ext_b fun b r j => by
    refine Eq.trans ?_ (wr10 c _ t (ix3 b r j)).symm
    exact (out10_at (iblk m c 0 t) (iblk m c 1 t) (iblk m c 2 t) (iblk m c 3 t) (iblk m c 4 t) (iblk m c 5 t) (iblk m c 6 t) (iblk m c 7 t) (iblk m c 8 t) (iblk m c 9 t) b r j).trans (congrArg (fun z : EReal => z * (((Real.log 2 * Real.sqrt 128)⁻¹ : ℝ) : EReal)) (pr_pj m c t b r _ _ fun e => (iblk4_at m c t _).trans (hW0_at _ e j))))
theorem arr10 : (dats m 0 c).arrAt 10 cfg0.N = (oQ (A0 m c) (A1 m c) (A2 m c) (A3 m c) (A4 m c) : Buf (Elt Ideal) ((c : Thread nD τ).loc main_v18_0)) :=
  arr_of m c 10 _ (fl10 m c) flush0_10 fun i => ⟨t0_0, i, (emb10 t0_0 i).symm⟩
theorem wr11 (G : Buf (Elt Ideal) ((c : Thread nD τ).loc main_v18_1)) (t : Fin cfg0.N) (y : S16x32x1024.Idx) : ((cfg0.win 11).blk t).view.read (Elt Ideal) G y = (G : S16x32x1024.Idx → EReal) y :=
  congrArg G (emb11 t y)
theorem fl11 (t : Fin cfg0.N) : (dats m 0 c).flushed 11 t = ((cfg0.win 11).blk t).view.read (Elt Ideal) (oC (A0 m c) (A1 m c) (A2 m c) (A3 m c) (A4 m c) 1024 (by decide) : Buf (Elt Ideal) ((c : Thread nD τ).loc main_v18_1)) :=
  (congrArg ((cfg0.win 11).cut (grid0.coords t)) (after0_11 m c t)).trans (ext_b fun b r j => by
    refine Eq.trans ?_ (wr11 c _ t (ix3 b r j)).symm
    exact (out11_at (iblk m c 0 t) (iblk m c 1 t) (iblk m c 2 t) (iblk m c 3 t) (iblk m c 4 t) (iblk m c 5 t) (iblk m c 6 t) (iblk m c 7 t) (iblk m c 8 t) (iblk m c 9 t) b r j).trans (pr_pj m c t b r _ _ fun e => (iblk5_at m c t _).trans (hW1_at _ e j)))
theorem arr11 : (dats m 0 c).arrAt 11 cfg0.N = (oC (A0 m c) (A1 m c) (A2 m c) (A3 m c) (A4 m c) 1024 (by decide) : Buf (Elt Ideal) ((c : Thread nD τ).loc main_v18_1)) :=
  arr_of m c 11 _ (fl11 m c) flush0_11 fun i => ⟨t0_0, i, (emb11 t0_0 i).symm⟩
theorem wr12 (G : Buf (Elt Ideal) ((c : Thread nD τ).loc main_v18_2)) (t : Fin cfg0.N) (y : S16x32x1024.Idx) : ((cfg0.win 12).blk t).view.read (Elt Ideal) G y = (G : S16x32x1024.Idx → EReal) y :=
  congrArg G (emb12 t y)
theorem fl12 (t : Fin cfg0.N) : (dats m 0 c).flushed 12 t = ((cfg0.win 12).blk t).view.read (Elt Ideal) (oC (A0 m c) (A1 m c) (A2 m c) (A3 m c) (A4 m c) 2048 (by decide) : Buf (Elt Ideal) ((c : Thread nD τ).loc main_v18_2)) :=
  (congrArg ((cfg0.win 12).cut (grid0.coords t)) (after0_12 m c t)).trans (ext_b fun b r j => by
    refine Eq.trans ?_ (wr12 c _ t (ix3 b r j)).symm
    exact (out12_at (iblk m c 0 t) (iblk m c 1 t) (iblk m c 2 t) (iblk m c 3 t) (iblk m c 4 t) (iblk m c 5 t) (iblk m c 6 t) (iblk m c 7 t) (iblk m c 8 t) (iblk m c 9 t) b r j).trans (pr_pj m c t b r _ _ fun e => (iblk6_at m c t _).trans (hW2_at _ e j)))
theorem arr12 : (dats m 0 c).arrAt 12 cfg0.N = (oC (A0 m c) (A1 m c) (A2 m c) (A3 m c) (A4 m c) 2048 (by decide) : Buf (Elt Ideal) ((c : Thread nD τ).loc main_v18_2)) :=
  arr_of m c 12 _ (fl12 m c) flush0_12 fun i => ⟨t0_0, i, (emb12 t0_0 i).symm⟩
theorem wr13 (G : Buf (Elt Ideal) ((c : Thread nD τ).loc main_v18_3)) (t : Fin cfg0.N) (y : S16x32x1024.Idx) : ((cfg0.win 13).blk t).view.read (Elt Ideal) G y = (G : S16x32x1024.Idx → EReal) y :=
  congrArg G (emb13 t y)
theorem fl13 (t : Fin cfg0.N) : (dats m 0 c).flushed 13 t = ((cfg0.win 13).blk t).view.read (Elt Ideal) (oC (A0 m c) (A1 m c) (A2 m c) (A3 m c) (A4 m c) 1024 (by decide) : Buf (Elt Ideal) ((c : Thread nD τ).loc main_v18_3)) :=
  (congrArg ((cfg0.win 13).cut (grid0.coords t)) (after0_13 m c t)).trans (ext_b fun b r j => by
    refine Eq.trans ?_ (wr13 c _ t (ix3 b r j)).symm
    exact (out13_at (iblk m c 0 t) (iblk m c 1 t) (iblk m c 2 t) (iblk m c 3 t) (iblk m c 4 t) (iblk m c 5 t) (iblk m c 6 t) (iblk m c 7 t) (iblk m c 8 t) (iblk m c 9 t) b r j).trans (pr_pj m c t b r _ _ fun e => (iblk5_at m c t _).trans (hW1_at _ e j)))
theorem arr13 : (dats m 0 c).arrAt 13 cfg0.N = (oC (A0 m c) (A1 m c) (A2 m c) (A3 m c) (A4 m c) 1024 (by decide) : Buf (Elt Ideal) ((c : Thread nD τ).loc main_v18_3)) :=
  arr_of m c 13 _ (fl13 m c) flush0_13 fun i => ⟨t0_0, i, (emb13 t0_0 i).symm⟩
theorem wr14 (G : Buf (Elt Ideal) ((c : Thread nD τ).loc main_v18_4)) (t : Fin cfg0.N) (y : S16x32x1024.Idx) : ((cfg0.win 14).blk t).view.read (Elt Ideal) G y = (G : S16x32x1024.Idx → EReal) y :=
  congrArg G (emb14 t y)
theorem fl14 (t : Fin cfg0.N) : (dats m 0 c).flushed 14 t = ((cfg0.win 14).blk t).view.read (Elt Ideal) (oC (A0 m c) (A1 m c) (A2 m c) (A3 m c) (A4 m c) 2048 (by decide) : Buf (Elt Ideal) ((c : Thread nD τ).loc main_v18_4)) :=
  (congrArg ((cfg0.win 14).cut (grid0.coords t)) (after0_14 m c t)).trans (ext_b fun b r j => by
    refine Eq.trans ?_ (wr14 c _ t (ix3 b r j)).symm
    exact (out14_at (iblk m c 0 t) (iblk m c 1 t) (iblk m c 2 t) (iblk m c 3 t) (iblk m c 4 t) (iblk m c 5 t) (iblk m c 6 t) (iblk m c 7 t) (iblk m c 8 t) (iblk m c 9 t) b r j).trans (pr_pj m c t b r _ _ fun e => (iblk6_at m c t _).trans (hW2_at _ e j)))
theorem arr14 : (dats m 0 c).arrAt 14 cfg0.N = (oC (A0 m c) (A1 m c) (A2 m c) (A3 m c) (A4 m c) 2048 (by decide) : Buf (Elt Ideal) ((c : Thread nD τ).loc main_v18_4)) :=
  arr_of m c 14 _ (fl14 m c) flush0_14 fun i => ⟨t0_0, i, (emb14 t0_0 i).symm⟩
theorem wr15 (G : Buf (Elt Ideal) ((c : Thread nD τ).loc main_v18_5)) (t : Fin cfg0.N) (y : S16x32x1024.Idx) : ((cfg0.win 15).blk t).view.read (Elt Ideal) G y = (G : S16x32x1024.Idx → EReal) y :=
  congrArg G (emb15 t y)
theorem fl15 (t : Fin cfg0.N) : (dats m 0 c).flushed 15 t = ((cfg0.win 15).blk t).view.read (Elt Ideal) (oC (A0 m c) (A1 m c) (A2 m c) (A3 m c) (A4 m c) 3080 (by decide) : Buf (Elt Ideal) ((c : Thread nD τ).loc main_v18_5)) :=
  (congrArg ((cfg0.win 15).cut (grid0.coords t)) (after0_15 m c t)).trans (ext_b fun b r j => by
    refine Eq.trans ?_ (wr15 c _ t (ix3 b r j)).symm
    exact (out15_at (iblk m c 0 t) (iblk m c 1 t) (iblk m c 2 t) (iblk m c 3 t) (iblk m c 4 t) (iblk m c 5 t) (iblk m c 6 t) (iblk m c 7 t) (iblk m c 8 t) (iblk m c 9 t) b r j).trans (pr_pj m c t b r _ _ fun e => (iblk7_at m c t _).trans (hW3_at _ e j)))
theorem arr15 : (dats m 0 c).arrAt 15 cfg0.N = (oC (A0 m c) (A1 m c) (A2 m c) (A3 m c) (A4 m c) 3080 (by decide) : Buf (Elt Ideal) ((c : Thread nD τ).loc main_v18_5)) :=
  arr_of m c 15 _ (fl15 m c) flush0_15 fun i => ⟨t0_0, i, (emb15 t0_0 i).symm⟩
theorem wr16 (G : Buf (Elt Ideal) ((c : Thread nD τ).loc main_v18_6)) (t : Fin cfg0.N) (y : S16x32x1536.Idx) : ((cfg0.win 16).blk t).view.read (Elt Ideal) G y = (G : S16x32x1536.Idx → EReal) y :=
  congrArg G (emb16 t y)
theorem fl16 (t : Fin cfg0.N) : (dats m 0 c).flushed 16 t = ((cfg0.win 16).blk t).view.read (Elt Ideal) (oX (A0 m c) (A1 m c) (A2 m c) (A3 m c) (A4 m c) : Buf (Elt Ideal) ((c : Thread nD τ).loc main_v18_6)) :=
  (congrArg ((cfg0.win 16).cut (grid0.coords t)) (after0_16 m c t)).trans (ext_b fun b r j => by
    refine Eq.trans ?_ (wr16 c _ t (ix3 b r j)).symm
    exact (out16_at (iblk m c 0 t) (iblk m c 1 t) (iblk m c 2 t) (iblk m c 3 t) (iblk m c 4 t) (iblk m c 5 t) (iblk m c 6 t) (iblk m c 7 t) (iblk m c 8 t) (iblk m c 9 t) b r j).trans (pr_pj m c t b r _ _ fun e => (iblk8_at m c t _).trans (hW4_at _ e j)))
theorem arr16 : (dats m 0 c).arrAt 16 cfg0.N = (oX (A0 m c) (A1 m c) (A2 m c) (A3 m c) (A4 m c) : Buf (Elt Ideal) ((c : Thread nD τ).loc main_v18_6)) :=
  arr_of m c 16 _ (fl16 m c) flush0_16 fun i => ⟨t0_0, i, (emb16 t0_0 i).symm⟩
theorem wr17 (G : Buf (Elt Ideal) ((c : Thread nD τ).loc main_v18_7)) (t : Fin cfg0.N) (y : S16x32x128.Idx) : ((cfg0.win 17).blk t).view.read (Elt Ideal) G y = (G : S16x32x128.Idx → EReal) y :=
  congrArg G (emb17 t y)
theorem fl17 (t : Fin cfg0.N) : (dats m 0 c).flushed 17 t = ((cfg0.win 17).blk t).view.read (Elt Ideal) (oS (A0 m c) (A1 m c) (A2 m c) (A3 m c) (A4 m c) : Buf (Elt Ideal) ((c : Thread nD τ).loc main_v18_7)) := by
  funext y
  refine Eq.trans ?_ (wr17 c _ t y).symm
  show (cfg0.win 17).cut (grid0.coords t) ((dats m 0 c).after 17 t) y = _
  rw [after0_17]
  obtain ⟨b, r, j, rfl⟩ := at3 (a := 16) (b := 32) (c := 128) y
  refine (out17_at (iblk m c 0 t) (iblk m c 1 t) (iblk m c 2 t) (iblk m c 3 t) (iblk m c 4 t) (iblk m c 5 t) (iblk m c 6 t) (iblk m c 7 t) (iblk m c 8 t) (iblk m c 9 t) b r j).trans ?_
  have hw := fun e => (iblk9_at m c t (ix2 e j)).trans (hW5_at _ e j)
  show _ = sm (A0 m c) (A1 m c) (A2 m c) (A3 m c) (A4 m c) b r j
  unfold sm
  by_cases h1 : j.val < 8
  · rw [dif_pos h1]
    exact pr_pj m c t b r _ _ fun e => (hw e).trans (dif_pos h1)
  · by_cases h2 : j.val - 8 < 16
    · rw [dif_neg h1, dif_pos h2]
      exact pr_pj m c t b r _ _ fun e => (hw e).trans ((dif_neg h1).trans (dif_pos h2))
    · rw [dif_neg h1, dif_neg h2]
      exact pr_zero _ _ _ _ b r _ fun e => (hw e).trans ((dif_neg h1).trans (dif_neg h2))
theorem arr17 : (dats m 0 c).arrAt 17 cfg0.N = (oS (A0 m c) (A1 m c) (A2 m c) (A3 m c) (A4 m c) : Buf (Elt Ideal) ((c : Thread nD τ).loc main_v18_7)) :=
  arr_of m c 17 _ (fl17 m c) flush0_17 fun i => ⟨t0_0, i, (emb17 t0_0 i).symm⟩
end
end Cert.Proof.Samp
-- ==== Proof.Sample.lean ====
/- The claims of the projection of the 32-token batches. -/
module

public import proofs.«01_k».proof.Defs
public import proofs.«01_k».proof.Proof.SampResult
public import proofs.«01_k».proof.Proof.Gen.Kernel5.Frame
public import proofs.«01_k».proof.Proof.Gen.Kernel5Ideal.Frame
public import proofs.«01_k».proof.Proof.Gen.Reference5Ideal.Read
public import Idealize.ShloMosaic.Adequacy

@[expose] public section
noncomputable section
namespace Cert.Proof.Samp
open Idealize.ShloMosaic Idealize.ShloMosaic.Pointwise Idealize.SL.Sem

/-- The reference leaves its arguments as they were and no semaphore behind. -/
theorem ref_frame : Cert.quiescent_Reference5Ideal := fun m ρ _ =>
  (θ_run Cert.Reference5Ideal.defs _ _).mono (fun r h => ⟨fun c => (h c).2.2.2.2.2.2.2.2, sem_eq_zero_of_no_sems (by decide) r.2⟩) (Cert.Reference5Ideal.Value.run (F := Ideal) m ρ)

/-- The one rounded constant is named. -/
theorem named : Cert.preserves_Kernel5_Kernel5Ideal :=
  IdealRules.named_const.statement Cert.Kernel5Ideal.κ "qscale" .f32 0x3E0293EE#32 ((((Real.log 2) * (Real.sqrt 128))⁻¹ : ℝ) : EReal) rfl

theorem oS_of {x0 y0 : Cert.Reference5Ideal.S16x32x1024.Idx → EReal} {x1 y1 : Cert.Reference5Ideal.S1024.Idx → EReal} {x2 y2 x3 y3 : Cert.Reference5Ideal.S16x1024.Idx → EReal} {x4 y4 : Cert.Reference5Ideal.S1024x5656.Idx → EReal}
    (e0 : x0 = y0) (e1 : x1 = y1) (e2 : x2 = y2) (e3 : x3 = y3) (e4 : x4 = y4) : oS x0 x1 x2 x3 x4 = oS y0 y1 y2 y3 y4 := by rw [e0, e1, e2, e3, e4]

/-- The kernel and the reference end with the same eight arrays. -/
theorem sample : Cert.algebraic_Kernel5Ideal_Reference5Ideal := fun m g m' g' _ ha => by
  refine ⟨fun c => oQ (A0 m c) (A1 m c) (A2 m c) (A3 m c) (A4 m c), fun c => oC (A0 m c) (A1 m c) (A2 m c) (A3 m c) (A4 m c) 1024 (by decide), fun c => oC (A0 m c) (A1 m c) (A2 m c) (A3 m c) (A4 m c) 2048 (by decide), fun c => oC (A0 m c) (A1 m c) (A2 m c) (A3 m c) (A4 m c) 1024 (by decide), fun c => oC (A0 m c) (A1 m c) (A2 m c) (A3 m c) (A4 m c) 2048 (by decide), fun c => oC (A0 m c) (A1 m c) (A2 m c) (A3 m c) (A4 m c) 3080 (by decide), fun c => oX (A0 m c) (A1 m c) (A2 m c) (A3 m c) (A4 m c), fun c => oS (A0 m c) (A1 m c) (A2 m c) (A3 m c) (A4 m c), ?_, ?_⟩
  · refine (θ_run Cert.Kernel5Ideal.defs _ _).mono (fun r h c => ?_) (θ_run_and (Cert.Kernel5Ideal.Gen.unchanged m g) (Cert.Kernel5Ideal.Gen.run_main m g))
    have p := (h.2 c).1
    exact ⟨(p 10).trans (arr10 m c), (p 11).trans (arr11 m c), (p 12).trans (arr12 m c), (p 13).trans (arr13 m c), (p 14).trans (arr14 m c), (p 15).trans (arr15 m c), (p 16).trans (arr16 m c), (p 17).trans (arr17 m c), h.1 c⟩
  · refine (θ_run Cert.Reference5Ideal.defs _ _).mono (fun r h c => ?_) (Cert.Reference5Ideal.Value.run (F := Ideal) m' g')
    obtain ⟨h0, h1, h2, h3, h4, h5, h6, h7, hr⟩ := h c
    obtain ⟨a0, a1, a2, a3, a4⟩ := ha c
    refine ⟨h0.trans ?_, h1.trans ?_, h2.trans ?_, h3.trans ?_, h4.trans ?_, h5.trans ?_, h6.trans ?_, h7.trans ?_, hr⟩
    · rw [Cert.Reference5Ideal.Read.val_main_v37_eq, ref_q, a0, a1, a2, a3, a4]
    · rw [Cert.Reference5Ideal.Read.val_main_v23_eq, ref_k, a0, a1, a2, a3, a4]
    · rw [Cert.Reference5Ideal.Read.val_main_v24_eq, ref_v, a0, a1, a2, a3, a4]
    · rw [Cert.Reference5Ideal.Read.val_main_v38_eq, ref_kb, a0, a1, a2, a3, a4]
    · rw [Cert.Reference5Ideal.Read.val_main_v39_eq, ref_vb, a0, a1, a2, a3, a4]
    · rw [Cert.Reference5Ideal.Read.val_main_v26_eq, ref_z, a0, a1, a2, a3, a4]
    · rw [Cert.Reference5Ideal.Read.val_main_v27_eq, ref_x, a0, a1, a2, a3, a4]
    · rw [Cert.Reference5Ideal.Read.val_main_v36_eq, ref_small]
      exact oS_of a0 a1 a2 a3 a4
end Cert.Proof.Samp
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Attention
public import proofs.«01_k».proof.Proof.Projection
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_in_range
public import proofs.«01_k».proof.Proof.ExMachine
public import proofs.«01_k».proof.Proof.Experts
public import proofs.«01_k».proof.Proof.GateClaims
public import proofs.«01_k».proof.Proof.Sample
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Pre_finite.Gen.facts, Cert.Pre_in_range.Gen.facts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial,
    fun m ρ _ => Cert.Kernel2.Gen.frame m ρ, fun m ρ _ => Cert.Kernel2Ideal.Gen.frame m ρ, Proj.ref_frame,
    Cert.Experts.frame_machine, Cert.Experts.frame_ideal, Cert.Experts.ref_frame,
    fun m ρ _ => Cert.Kernel4.Gen.frame m ρ, fun m ρ _ => Cert.Kernel4Ideal.Gen.frame m ρ, Gates.ref_frame,
    fun m ρ _ => Cert.Kernel5.Gen.frame m ρ, fun m ρ _ => Cert.Kernel5Ideal.Gen.frame m ρ, Samp.ref_frame,
    trivial, attention, Proj.named, Proj.projection, trivial, Cert.Experts.experts, Gates.named, Gates.gate_values, Samp.named, Samp.sample⟩

end Cert.Proof

end
